-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_range [hPre_batch_in_range : Cert.Pre_batch_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_batch_in_range [hReferenceIdeal : Cert.ReferenceIdeal.Facts] [hPre_batch_in_range : Cert.Pre_batch_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_batch_in_range : Cert.Pre_batch_in_range.Facts),
    quiescent_Kernel (hKernel := hKernel) (hPre_batch_in_range := hPre_batch_in_range)
    ∧ quiescent_KernelIdeal (hKernelIdeal := hKernelIdeal) (hPre_batch_in_range := hPre_batch_in_range)
    ∧ quiescent_ReferenceIdeal (hReferenceIdeal := hReferenceIdeal)
    ∧ quiescent_ReferenceIdeal_pre_batch_in_range (hReferenceIdeal := hReferenceIdeal) (hPre_batch_in_range := hPre_batch_in_range)
    ∧ preserves_Kernel_KernelIdeal
    ∧ algebraic_KernelIdeal_ReferenceIdeal (hKernelIdeal := hKernelIdeal) (hReferenceIdeal := hReferenceIdeal) (hPre_batch_in_range := hPre_batch_in_range)
-- ==== Pre_batch_in_range.lean ====
abbrev S100000x128 : Shape := ⟨2, ![100000, 128]⟩
abbrev S100000 : Shape := ⟨1, ![100000]⟩
abbrev S10x128 : Shape := ⟨2, ![10, 128]⟩
abbrev S10 : Shape := ⟨1, ![10]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S10x128 .f32) (main_arg3 : FVec F S10 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S10x128 : Shape := ⟨2, ![10, 128]⟩
abbrev S10 : Shape := ⟨1, ![10]⟩
abbrev S32x512x128 : Shape := ⟨3, ![32, 512, 128]⟩
abbrev S32x64x128 : Shape := ⟨3, ![32, 64, 128]⟩
abbrev S160x128 : Shape := ⟨2, ![160, 128]⟩
abbrev S160 : Shape := ⟨1, ![160]⟩
abbrev S512x128 : Shape := ⟨2, ![512, 128]⟩
abbrev S64x128 : Shape := ⟨2, ![64, 128]⟩
abbrev S16 : Shape := ⟨1, ![16]⟩
abbrev S1x16 : Shape := ⟨2, ![1, 16]⟩
abbrev S_ : Shape := ⟨0, ![]⟩
abbrev S1 : Shape := ⟨1, ![1]⟩
abbrev S1x512x128 : Shape := ⟨3, ![1, 512, 128]⟩
abbrev S1x64x128 : Shape := ⟨3, ![1, 64, 128]⟩
abbrev S1x10 : Shape := ⟨2, ![1, 10]⟩
abbrev S512x10 : Shape := ⟨2, ![512, 10]⟩
abbrev S512x64 : Shape := ⟨2, ![512, 64]⟩
abbrev S512 : Shape := ⟨1, ![512]⟩
abbrev S512x1 : Shape := ⟨2, ![512, 1]⟩

abbrev nBuf : Table → Nat
  | .hbm => 8
  | .local .tc .vmem => 5
  | .local .scVector .vmem => 4
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S10x128, .f32⟩
  | .hbm, ⟨3, _⟩ => ⟨S10, .f32⟩
  | .hbm, ⟨4, _⟩ => ⟨S32x512x128, .f32⟩
  | .hbm, ⟨5, _⟩ => ⟨S32x64x128, .f32⟩
  | .hbm, ⟨6, _⟩ => ⟨S1x10, .f32⟩
  | .hbm, ⟨7, _⟩ => ⟨S512x10, .f32⟩
  | .local .tc .vmem, ⟨0, _⟩ => ⟨S32x512x128, .f32⟩
  | .local .tc .vmem, ⟨1, _⟩ => ⟨S32x64x128, .f32⟩
  | .local .tc .vmem, ⟨2, _⟩ => ⟨S10x128, .f32⟩
  | .local .tc .vmem, ⟨3, _⟩ => ⟨S1x10, .f32⟩
  | .local .tc .vmem, ⟨4, _⟩ => ⟨S512x10, .f32⟩
  | .local .scVector .vmem, ⟨0, _⟩ => ⟨S160x128, .f32⟩
  | .local .scVector .vmem, ⟨1, _⟩ => ⟨S160, .i32⟩
  | .local .scVector .vmem, ⟨2, _⟩ => ⟨S512x128, .f32⟩
  | .local .scVector .vmem, ⟨3, _⟩ => ⟨S64x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v10 : Index := Scalar.indexCast arg10
  let c0 : Index := 0#32
  ![v10.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v14 : Index := Scalar.indexCast arg10
  let c16 : Index := 16#32
  ![v14.toNat, 16]
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v18 : Index := Scalar.indexCast arg10
  let c32 : Index := 32#32
  ![v18.toNat, 32]
def k0_off4 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v22 : Index := Scalar.indexCast arg10
  let c48 : Index := 48#32
  ![v22.toNat, 48]
def k0_off5 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v26 : Index := Scalar.indexCast arg10
  let c64 : Index := 64#32
  ![v26.toNat, 64]
def k0_off6 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v30 : Index := Scalar.indexCast arg10
  let c80 : Index := 80#32
  ![v30.toNat, 80]
def k0_off7 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v34 : Index := Scalar.indexCast arg10
  let c96 : Index := 96#32
  ![v34.toNat, 96]
def k0_off8 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v38 : Index := Scalar.indexCast arg10
  let c112 : Index := 112#32
  ![v38.toNat, 112]
@[reducible] def k0_t2_loop : Scf.Loop 32 :=
  let c0_i32_4 : BitVec 32 := 0#32
  let c64_i32 : BitVec 32 := 64#32
  let v5 : BitVec 32 := Scalar.addi c0_i32_4 c64_i32
  let c1_i32_5 : BitVec 32 := 1#32
  ⟨c0_i32_4, v5, c1_i32_5⟩
def k0_off9 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v10 : Index := Scalar.indexCast arg10
  let c0 : Index := 0#32
  ![v10.toNat, 0]
def k0_off10 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v14 : Index := Scalar.indexCast arg10
  let c16 : Index := 16#32
  ![v14.toNat, 16]
def k0_off11 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v18 : Index := Scalar.indexCast arg10
  let c32 : Index := 32#32
  ![v18.toNat, 32]
def k0_off12 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v22 : Index := Scalar.indexCast arg10
  let c48 : Index := 48#32
  ![v22.toNat, 48]
def k0_off13 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v26 : Index := Scalar.indexCast arg10
  let c64 : Index := 64#32
  ![v26.toNat, 64]
def k0_off14 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v30 : Index := Scalar.indexCast arg10
  let c80 : Index := 80#32
  ![v30.toNat, 80]
def k0_off15 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v34 : Index := Scalar.indexCast arg10
  let c96 : Index := 96#32
  ![v34.toNat, 96]
def k0_off16 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let v38 : Index := Scalar.indexCast arg10
  let c112 : Index := 112#32
  ![v38.toNat, 112]
@[reducible] def k0_t3_loop : Scf.Loop 32 :=
  let c0_i32_8 : BitVec 32 := 0#32
  let c19_i32 : BitVec 32 := 19#32
  let v6 : BitVec 32 := Scalar.addi c0_i32_8 c19_i32
  let c1_i32_9 : BitVec 32 := 1#32
  ⟨c0_i32_8, v6, c1_i32_9⟩
def k0_off17 (i : grid0.Coords) (k0_t3 : Fin k0_t3_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let c0_i32_8 : BitVec 32 := 0#32
  let c1_i32_9 : BitVec 32 := 1#32
  let arg10 : BitVec 32 := Scf.iv c0_i32_8 c1_i32_9 k0_t3
  let v10 : BitVec 32 := Scalar.muli c32_i32 arg10
  let v11 : BitVec 32 := Scalar.addi v1 v10
  let c160_i32 : BitVec 32 := 160#32
  let v12 : BitVec 32 := Scalar.muli v11 c160_i32
  let c0_i32_16_r0 : BitVec 32 := 0#32
  ![v12.toNat, 0]
def k0_off18 (i : grid0.Coords) (k0_t3 : Fin k0_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let c0_i32_8 : BitVec 32 := 0#32
  let c1_i32_9 : BitVec 32 := 1#32
  let arg10 : BitVec 32 := Scf.iv c0_i32_8 c1_i32_9 k0_t3
  let v10 : BitVec 32 := Scalar.muli c32_i32 arg10
  let v11 : BitVec 32 := Scalar.addi v1 v10
  let c160_i32 : BitVec 32 := 160#32
  let v12 : BitVec 32 := Scalar.muli v11 c160_i32
  ![v12.toNat]
@[reducible] def k0_t4_loop : Scf.Loop 32 :=
  let c0_i32_13 : BitVec 32 := 0#32
  let c10_i32 : BitVec 32 := 10#32
  let v13 : BitVec 32 := Scalar.addi c0_i32_13 c10_i32
  let c1_i32_14 : BitVec 32 := 1#32
  ⟨c0_i32_13, v13, c1_i32_14⟩
def k0_off19 (k0_t4 : Fin k0_t4_loop.trips) : Fin 1 → Nat :=
  let c0_i32_13 : BitVec 32 := 0#32
  let c1_i32_14 : BitVec 32 := 1#32
  let arg11 : BitVec 32 := Scf.iv c0_i32_13 c1_i32_14 k0_t4
  let c16_i32_16 : BitVec 32 := 16#32
  let v14 : BitVec 32 := Scalar.muli arg11 c16_i32_16
  let v15 : Index := Scalar.indexCast v14
  ![v15.toNat]
def k0_off20 (v19 : BitVec 32) : Fin 2 → Nat :=
  let v22 : Index := Scalar.indexCast v19
  let c0 : Index := 0#32
  ![v22.toNat, 0]

def k0_off21 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v25 : Index := Scalar.indexCast v21
  let c0_19 : Index := 0#32
  ![v25.toNat, 0]
def k0_off22 (v19 : BitVec 32) : Fin 2 → Nat :=
  let v33 : Index := Scalar.indexCast v19
  let c16 : Index := 16#32
  ![v33.toNat, 16]
def k0_off23 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v36 : Index := Scalar.indexCast v21
  let c16_21 : Index := 16#32
  ![v36.toNat, 16]
def k0_off24 (v19 : BitVec 32) : Fin 2 → Nat :=
  let v44 : Index := Scalar.indexCast v19
  let c32 : Index := 32#32
  ![v44.toNat, 32]
def k0_off25 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v47 : Index := Scalar.indexCast v21
  let c32_23 : Index := 32#32
  ![v47.toNat, 32]
def k0_off26 (v19 : BitVec 32) : Fin 2 → Nat :=
  let v55 : Index := Scalar.indexCast v19
  let c48 : Index := 48#32
  ![v55.toNat, 48]
def k0_off27 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v58 : Index := Scalar.indexCast v21
  let c48_25 : Index := 48#32
  ![v58.toNat, 48]
def k0_off28 (v19 : BitVec 32) : Fin 2 → Nat :=
  let v66 : Index := Scalar.indexCast v19
  let c64 : Index := 64#32
  ![v66.toNat, 64]
def k0_off29 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v69 : Index := Scalar.indexCast v21
  let c64_27 : Index := 64#32
  ![v69.toNat, 64]
def k0_off30 (v19 : BitVec 32) : Fin 2 → Nat :=
  let v77 : Index := Scalar.indexCast v19
  let c80 : Index := 80#32
  ![v77.toNat, 80]
def k0_off31 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v80 : Index := Scalar.indexCast v21
  let c80_29 : Index := 80#32
  ![v80.toNat, 80]
def k0_off32 (v19 : BitVec 32) : Fin 2 → Nat :=
  let v88 : Index := Scalar.indexCast v19
  let c96 : Index := 96#32
  ![v88.toNat, 96]
def k0_off33 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v91 : Index := Scalar.indexCast v21
  let c96_31 : Index := 96#32
  ![v91.toNat, 96]
def k0_off34 (v19 : BitVec 32) : Fin 2 → Nat :=
  let v99 : Index := Scalar.indexCast v19
  let c112 : Index := 112#32
  ![v99.toNat, 112]
def k0_off35 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_17 : BitVec 32 := 16#32
  let v20 : BitVec 32 := Scalar.muli arg11 c16_i32_17
  let c0_i32_18 : BitVec 32 := 0#32
  let v21 : BitVec 32 := Scalar.addi v20 c0_i32_18
  let v102 : Index := Scalar.indexCast v21
  let c112_33 : Index := 112#32
  ![v102.toNat, 112]
def k0_off36 (v19 : BitVec 32) : Fin 2 → Nat :=
  let c0_i32_35 : BitVec 32 := 0#32
  let v111 : BitVec 1 := Scalar.cmpi .sgt v19 c0_i32_35
  let v112 : BitVec 32 := Scalar.extui v111
  let c0_i32_36 : BitVec 32 := 0#32
  let v113 : BitVec 1 := Scalar.cmpi .slt v19 c0_i32_36
  let v114 : BitVec 32 := Scalar.extui v113
  let v115 : BitVec 32 := Scalar.subi v112 v114
  let c8_i32 : BitVec 32 := 8#32
  let c0_i32_37 : BitVec 32 := 0#32
  let v116 : BitVec 1 := Scalar.cmpi .sgt c8_i32 c0_i32_37
  let v117 : BitVec 32 := Scalar.extui v116
  let c0_i32_38 : BitVec 32 := 0#32
  let v118 : BitVec 1 := Scalar.cmpi .slt c8_i32 c0_i32_38
  let v119 : BitVec 32 := Scalar.extui v118
  let v120 : BitVec 32 := Scalar.subi v117 v119
  let v121 : BitVec 1 := Scalar.cmpi .ne v115 v120
  let v122 : BitVec 32 := Scalar.remsi v19 c8_i32
  let c0_i32_39 : BitVec 32 := 0#32
  let v123 : BitVec 1 := Scalar.cmpi .ne v122 c0_i32_39
  let v124 : BitVec 1 := Scalar.andi v121 v123
  let v110 : BitVec 32 := Scalar.divsi v19 c8_i32
  let c1_i32_40 : BitVec 32 := 1#32
  let v125 : BitVec 32 := Scalar.subi v110 c1_i32_40
  let v126 : BitVec 32 := Scalar.select v124 v125 v110
  let v138 : Index := Scalar.indexCast v126
  let c8_i32_41 : BitVec 32 := 8#32
  let c0_i32_42 : BitVec 32 := 0#32
  let v127 : BitVec 1 := Scalar.cmpi .eq c8_i32_41 c0_i32_42
  let c1_i32_43 : BitVec 32 := 1#32
  let v128 : BitVec 32 := Scalar.select v127 c1_i32_43 c8_i32_41
  let v129 : BitVec 32 := Scalar.remsi v19 v128
  let c0_i32_45 : BitVec 32 := 0#32
  let v131 : BitVec 1 := Scalar.cmpi .slt v129 c0_i32_45
  let c0_i32_46 : BitVec 32 := 0#32
  let v132 : BitVec 1 := Scalar.cmpi .slt v128 c0_i32_46
  let v133 : BitVec 1 := Scalar.xori v131 v132
  let c0_i32_44 : BitVec 32 := 0#32
  let v130 : BitVec 1 := Scalar.cmpi .ne v129 c0_i32_44
  let v134 : BitVec 1 := Scalar.andi v133 v130
  let v135 : BitVec 32 := Scalar.addi v129 v128
  let v136 : BitVec 32 := Scalar.select v134 v135 v129
  let c16_i32_47 : BitVec 32 := 16#32
  let v137 : BitVec 32 := Scalar.muli v136 c16_i32_47
  let v139 : Index := Scalar.indexCast v137
  ![v138.toNat, v139.toNat]

def k0_chk1 (v19 : BitVec 32) : Prop :=
  (∀ a, (k0_off20 v19) a + S1x16.size a ≤ S512x128.size a) ∧
  (∀ a, (k0_off22 v19) a + S1x16.size a ≤ S512x128.size a) ∧
  (∀ a, (k0_off24 v19) a + S1x16.size a ≤ S512x128.size a) ∧
  (∀ a, (k0_off26 v19) a + S1x16.size a ≤ S512x128.size a) ∧
  (∀ a, (k0_off28 v19) a + S1x16.size a ≤ S512x128.size a) ∧
  (∀ a, (k0_off30 v19) a + S1x16.size a ≤ S512x128.size a) ∧
  (∀ a, (k0_off32 v19) a + S1x16.size a ≤ S512x128.size a) ∧
  (∀ a, (k0_off34 v19) a + S1x16.size a ≤ S512x128.size a) ∧
  (∀ a, (k0_off36 v19) a + S1x16.size a ≤ S64x128.size a)
theorem k0_off20_inb : ∀ (v19 : BitVec 32) (k0_hw1 : k0_chk1 v19), ∀ a, (k0_off20 v19) a + S1x16.size a ≤ S512x128.size a := fun v19 k0_hw1 => k0_hw1.1
theorem k0_off22_inb : ∀ (v19 : BitVec 32) (k0_hw1 : k0_chk1 v19), ∀ a, (k0_off22 v19) a + S1x16.size a ≤ S512x128.size a := fun v19 k0_hw1 => k0_hw1.2.1
theorem k0_off24_inb : ∀ (v19 : BitVec 32) (k0_hw1 : k0_chk1 v19), ∀ a, (k0_off24 v19) a + S1x16.size a ≤ S512x128.size a := fun v19 k0_hw1 => k0_hw1.2.2.1
theorem k0_off26_inb : ∀ (v19 : BitVec 32) (k0_hw1 : k0_chk1 v19), ∀ a, (k0_off26 v19) a + S1x16.size a ≤ S512x128.size a := fun v19 k0_hw1 => k0_hw1.2.2.2.1
theorem k0_off28_inb : ∀ (v19 : BitVec 32) (k0_hw1 : k0_chk1 v19), ∀ a, (k0_off28 v19) a + S1x16.size a ≤ S512x128.size a := fun v19 k0_hw1 => k0_hw1.2.2.2.2.1
theorem k0_off30_inb : ∀ (v19 : BitVec 32) (k0_hw1 : k0_chk1 v19), ∀ a, (k0_off30 v19) a + S1x16.size a ≤ S512x128.size a := fun v19 k0_hw1 => k0_hw1.2.2.2.2.2.1
theorem k0_off32_inb : ∀ (v19 : BitVec 32) (k0_hw1 : k0_chk1 v19), ∀ a, (k0_off32 v19) a + S1x16.size a ≤ S512x128.size a := fun v19 k0_hw1 => k0_hw1.2.2.2.2.2.2.1
theorem k0_off34_inb : ∀ (v19 : BitVec 32) (k0_hw1 : k0_chk1 v19), ∀ a, (k0_off34 v19) a + S1x16.size a ≤ S512x128.size a := fun v19 k0_hw1 => k0_hw1.2.2.2.2.2.2.2.1
theorem k0_off36_inb : ∀ (v19 : BitVec 32) (k0_hw1 : k0_chk1 v19), ∀ a, (k0_off36 v19) a + S1x16.size a ≤ S64x128.size a := fun v19 k0_hw1 => k0_hw1.2.2.2.2.2.2.2.2

def k0_off37 (v149 : BitVec 32) : Fin 2 → Nat :=
  let v152 : Index := Scalar.indexCast v149
  let c0_50 : Index := 0#32
  ![v152.toNat, 0]

def k0_off38 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v155 : Index := Scalar.indexCast v151
  let c0_51 : Index := 0#32
  ![v155.toNat, 0]
def k0_off39 (v149 : BitVec 32) : Fin 2 → Nat :=
  let v163 : Index := Scalar.indexCast v149
  let c16_53 : Index := 16#32
  ![v163.toNat, 16]
def k0_off40 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v166 : Index := Scalar.indexCast v151
  let c16_54 : Index := 16#32
  ![v166.toNat, 16]
def k0_off41 (v149 : BitVec 32) : Fin 2 → Nat :=
  let v174 : Index := Scalar.indexCast v149
  let c32_56 : Index := 32#32
  ![v174.toNat, 32]
def k0_off42 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v177 : Index := Scalar.indexCast v151
  let c32_57 : Index := 32#32
  ![v177.toNat, 32]
def k0_off43 (v149 : BitVec 32) : Fin 2 → Nat :=
  let v185 : Index := Scalar.indexCast v149
  let c48_59 : Index := 48#32
  ![v185.toNat, 48]
def k0_off44 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v188 : Index := Scalar.indexCast v151
  let c48_60 : Index := 48#32
  ![v188.toNat, 48]
def k0_off45 (v149 : BitVec 32) : Fin 2 → Nat :=
  let v196 : Index := Scalar.indexCast v149
  let c64_62 : Index := 64#32
  ![v196.toNat, 64]
def k0_off46 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v199 : Index := Scalar.indexCast v151
  let c64_63 : Index := 64#32
  ![v199.toNat, 64]
def k0_off47 (v149 : BitVec 32) : Fin 2 → Nat :=
  let v207 : Index := Scalar.indexCast v149
  let c80_65 : Index := 80#32
  ![v207.toNat, 80]
def k0_off48 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v210 : Index := Scalar.indexCast v151
  let c80_66 : Index := 80#32
  ![v210.toNat, 80]
def k0_off49 (v149 : BitVec 32) : Fin 2 → Nat :=
  let v218 : Index := Scalar.indexCast v149
  let c96_68 : Index := 96#32
  ![v218.toNat, 96]
def k0_off50 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v221 : Index := Scalar.indexCast v151
  let c96_69 : Index := 96#32
  ![v221.toNat, 96]
def k0_off51 (v149 : BitVec 32) : Fin 2 → Nat :=
  let v229 : Index := Scalar.indexCast v149
  let c112_71 : Index := 112#32
  ![v229.toNat, 112]
def k0_off52 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_48 : BitVec 32 := 16#32
  let v150 : BitVec 32 := Scalar.muli arg11 c16_i32_48
  let c1_i32_49 : BitVec 32 := 1#32
  let v151 : BitVec 32 := Scalar.addi v150 c1_i32_49
  let v232 : Index := Scalar.indexCast v151
  let c112_72 : Index := 112#32
  ![v232.toNat, 112]
def k0_off53 (v149 : BitVec 32) : Fin 2 → Nat :=
  let c0_i32_75 : BitVec 32 := 0#32
  let v241 : BitVec 1 := Scalar.cmpi .sgt v149 c0_i32_75
  let v242 : BitVec 32 := Scalar.extui v241
  let c0_i32_76 : BitVec 32 := 0#32
  let v243 : BitVec 1 := Scalar.cmpi .slt v149 c0_i32_76
  let v244 : BitVec 32 := Scalar.extui v243
  let v245 : BitVec 32 := Scalar.subi v242 v244
  let c8_i32_74 : BitVec 32 := 8#32
  let c0_i32_77 : BitVec 32 := 0#32
  let v246 : BitVec 1 := Scalar.cmpi .sgt c8_i32_74 c0_i32_77
  let v247 : BitVec 32 := Scalar.extui v246
  let c0_i32_78 : BitVec 32 := 0#32
  let v248 : BitVec 1 := Scalar.cmpi .slt c8_i32_74 c0_i32_78
  let v249 : BitVec 32 := Scalar.extui v248
  let v250 : BitVec 32 := Scalar.subi v247 v249
  let v251 : BitVec 1 := Scalar.cmpi .ne v245 v250
  let v252 : BitVec 32 := Scalar.remsi v149 c8_i32_74
  let c0_i32_79 : BitVec 32 := 0#32
  let v253 : BitVec 1 := Scalar.cmpi .ne v252 c0_i32_79
  let v254 : BitVec 1 := Scalar.andi v251 v253
  let v240 : BitVec 32 := Scalar.divsi v149 c8_i32_74
  let c1_i32_80 : BitVec 32 := 1#32
  let v255 : BitVec 32 := Scalar.subi v240 c1_i32_80
  let v256 : BitVec 32 := Scalar.select v254 v255 v240
  let v268 : Index := Scalar.indexCast v256
  let c8_i32_81 : BitVec 32 := 8#32
  let c0_i32_82 : BitVec 32 := 0#32
  let v257 : BitVec 1 := Scalar.cmpi .eq c8_i32_81 c0_i32_82
  let c1_i32_83 : BitVec 32 := 1#32
  let v258 : BitVec 32 := Scalar.select v257 c1_i32_83 c8_i32_81
  let v259 : BitVec 32 := Scalar.remsi v149 v258
  let c0_i32_85 : BitVec 32 := 0#32
  let v261 : BitVec 1 := Scalar.cmpi .slt v259 c0_i32_85
  let c0_i32_86 : BitVec 32 := 0#32
  let v262 : BitVec 1 := Scalar.cmpi .slt v258 c0_i32_86
  let v263 : BitVec 1 := Scalar.xori v261 v262
  let c0_i32_84 : BitVec 32 := 0#32
  let v260 : BitVec 1 := Scalar.cmpi .ne v259 c0_i32_84
  let v264 : BitVec 1 := Scalar.andi v263 v260
  let v265 : BitVec 32 := Scalar.addi v259 v258
  let v266 : BitVec 32 := Scalar.select v264 v265 v259
  let c16_i32_87 : BitVec 32 := 16#32
  let v267 : BitVec 32 := Scalar.muli v266 c16_i32_87
  let v269 : Index := Scalar.indexCast v267
  ![v268.toNat, v269.toNat]

def k0_chk2 (v149 : BitVec 32) : Prop :=
  (∀ a, (k0_off37 v149) a + S1x16.size a ≤ S512x128.size a) ∧
  (∀ a, (k0_off39 v149) a + S1x16.size a ≤ S512x128.size a) ∧
  (∀ a, (k0_off41 v149) a + S1x16.size a ≤ S512x128.size a) ∧
  (∀ a, (k0_off43 v149) a + S1x16.size a ≤ S512x128.size a) ∧
  (∀ a, (k0_off45 v149) a + S1x16.size a ≤ S512x128.size a) ∧
  (∀ a, (k0_off47 v149) a + S1x16.size a ≤ S512x128.size a) ∧
  (∀ a, (k0_off49 v149) a + S1x16.size a ≤ S512x128.size a) ∧
  (∀ a, (k0_off51 v149) a + S1x16.size a ≤ S512x128.size a) ∧
  (∀ a, (k0_off53 v149) a + S1x16.size a ≤ S64x128.size a)
theorem k0_off37_inb : ∀ (v149 : BitVec 32) (k0_hw2 : k0_chk2 v149), ∀ a, (k0_off37 v149) a + S1x16.size a ≤ S512x128.size a := fun v149 k0_hw2 => k0_hw2.1
theorem k0_off39_inb : ∀ (v149 : BitVec 32) (k0_hw2 : k0_chk2 v149), ∀ a, (k0_off39 v149) a + S1x16.size a ≤ S512x128.size a := fun v149 k0_hw2 => k0_hw2.2.1
theorem k0_off41_inb : ∀ (v149 : BitVec 32) (k0_hw2 : k0_chk2 v149), ∀ a, (k0_off41 v149) a + S1x16.size a ≤ S512x128.size a := fun v149 k0_hw2 => k0_hw2.2.2.1
theorem k0_off43_inb : ∀ (v149 : BitVec 32) (k0_hw2 : k0_chk2 v149), ∀ a, (k0_off43 v149) a + S1x16.size a ≤ S512x128.size a := fun v149 k0_hw2 => k0_hw2.2.2.2.1
theorem k0_off45_inb : ∀ (v149 : BitVec 32) (k0_hw2 : k0_chk2 v149), ∀ a, (k0_off45 v149) a + S1x16.size a ≤ S512x128.size a := fun v149 k0_hw2 => k0_hw2.2.2.2.2.1
theorem k0_off47_inb : ∀ (v149 : BitVec 32) (k0_hw2 : k0_chk2 v149), ∀ a, (k0_off47 v149) a + S1x16.size a ≤ S512x128.size a := fun v149 k0_hw2 => k0_hw2.2.2.2.2.2.1
theorem k0_off49_inb : ∀ (v149 : BitVec 32) (k0_hw2 : k0_chk2 v149), ∀ a, (k0_off49 v149) a + S1x16.size a ≤ S512x128.size a := fun v149 k0_hw2 => k0_hw2.2.2.2.2.2.2.1
theorem k0_off51_inb : ∀ (v149 : BitVec 32) (k0_hw2 : k0_chk2 v149), ∀ a, (k0_off51 v149) a + S1x16.size a ≤ S512x128.size a := fun v149 k0_hw2 => k0_hw2.2.2.2.2.2.2.2.1
theorem k0_off53_inb : ∀ (v149 : BitVec 32) (k0_hw2 : k0_chk2 v149), ∀ a, (k0_off53 v149) a + S1x16.size a ≤ S64x128.size a := fun v149 k0_hw2 => k0_hw2.2.2.2.2.2.2.2.2

def k0_off54 (v279 : BitVec 32) : Fin 2 → Nat :=
  let v282 : Index := Scalar.indexCast v279
  let c0_89 : Index := 0#32
  ![v282.toNat, 0]

def k0_off55 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v285 : Index := Scalar.indexCast v281
  let c0_90 : Index := 0#32
  ![v285.toNat, 0]
def k0_off56 (v279 : BitVec 32) : Fin 2 → Nat :=
  let v293 : Index := Scalar.indexCast v279
  let c16_92 : Index := 16#32
  ![v293.toNat, 16]
def k0_off57 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v296 : Index := Scalar.indexCast v281
  let c16_93 : Index := 16#32
  ![v296.toNat, 16]
def k0_off58 (v279 : BitVec 32) : Fin 2 → Nat :=
  let v304 : Index := Scalar.indexCast v279
  let c32_95 : Index := 32#32
  ![v304.toNat, 32]
def k0_off59 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v307 : Index := Scalar.indexCast v281
  let c32_96 : Index := 32#32
  ![v307.toNat, 32]
def k0_off60 (v279 : BitVec 32) : Fin 2 → Nat :=
  let v315 : Index := Scalar.indexCast v279
  let c48_98 : Index := 48#32
  ![v315.toNat, 48]
def k0_off61 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v318 : Index := Scalar.indexCast v281
  let c48_99 : Index := 48#32
  ![v318.toNat, 48]
def k0_off62 (v279 : BitVec 32) : Fin 2 → Nat :=
  let v326 : Index := Scalar.indexCast v279
  let c64_101 : Index := 64#32
  ![v326.toNat, 64]
def k0_off63 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v329 : Index := Scalar.indexCast v281
  let c64_102 : Index := 64#32
  ![v329.toNat, 64]
def k0_off64 (v279 : BitVec 32) : Fin 2 → Nat :=
  let v337 : Index := Scalar.indexCast v279
  let c80_104 : Index := 80#32
  ![v337.toNat, 80]
def k0_off65 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v340 : Index := Scalar.indexCast v281
  let c80_105 : Index := 80#32
  ![v340.toNat, 80]
def k0_off66 (v279 : BitVec 32) : Fin 2 → Nat :=
  let v348 : Index := Scalar.indexCast v279
  let c96_107 : Index := 96#32
  ![v348.toNat, 96]
def k0_off67 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v351 : Index := Scalar.indexCast v281
  let c96_108 : Index := 96#32
  ![v351.toNat, 96]
def k0_off68 (v279 : BitVec 32) : Fin 2 → Nat :=
  let v359 : Index := Scalar.indexCast v279
  let c112_110 : Index := 112#32
  ![v359.toNat, 112]
def k0_off69 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_88 : BitVec 32 := 16#32
  let v280 : BitVec 32 := Scalar.muli arg11 c16_i32_88
  let c2_i32 : BitVec 32 := 2#32
  let v281 : BitVec 32 := Scalar.addi v280 c2_i32
  let v362 : Index := Scalar.indexCast v281
  let c112_111 : Index := 112#32
  ![v362.toNat, 112]
def k0_off70 (v279 : BitVec 32) : Fin 2 → Nat :=
  let c0_i32_114 : BitVec 32 := 0#32
  let v371 : BitVec 1 := Scalar.cmpi .sgt v279 c0_i32_114
  let v372 : BitVec 32 := Scalar.extui v371
  let c0_i32_115 : BitVec 32 := 0#32
  let v373 : BitVec 1 := Scalar.cmpi .slt v279 c0_i32_115
  let v374 : BitVec 32 := Scalar.extui v373
  let v375 : BitVec 32 := Scalar.subi v372 v374
  let c8_i32_113 : BitVec 32 := 8#32
  let c0_i32_116 : BitVec 32 := 0#32
  let v376 : BitVec 1 := Scalar.cmpi .sgt c8_i32_113 c0_i32_116
  let v377 : BitVec 32 := Scalar.extui v376
  let c0_i32_117 : BitVec 32 := 0#32
  let v378 : BitVec 1 := Scalar.cmpi .slt c8_i32_113 c0_i32_117
  let v379 : BitVec 32 := Scalar.extui v378
  let v380 : BitVec 32 := Scalar.subi v377 v379
  let v381 : BitVec 1 := Scalar.cmpi .ne v375 v380
  let v382 : BitVec 32 := Scalar.remsi v279 c8_i32_113
  let c0_i32_118 : BitVec 32 := 0#32
  let v383 : BitVec 1 := Scalar.cmpi .ne v382 c0_i32_118
  let v384 : BitVec 1 := Scalar.andi v381 v383
  let v370 : BitVec 32 := Scalar.divsi v279 c8_i32_113
  let c1_i32_119 : BitVec 32 := 1#32
  let v385 : BitVec 32 := Scalar.subi v370 c1_i32_119
  let v386 : BitVec 32 := Scalar.select v384 v385 v370
  let v398 : Index := Scalar.indexCast v386
  let c8_i32_120 : BitVec 32 := 8#32
  let c0_i32_121 : BitVec 32 := 0#32
  let v387 : BitVec 1 := Scalar.cmpi .eq c8_i32_120 c0_i32_121
  let c1_i32_122 : BitVec 32 := 1#32
  let v388 : BitVec 32 := Scalar.select v387 c1_i32_122 c8_i32_120
  let v389 : BitVec 32 := Scalar.remsi v279 v388
  let c0_i32_124 : BitVec 32 := 0#32
  let v391 : BitVec 1 := Scalar.cmpi .slt v389 c0_i32_124
  let c0_i32_125 : BitVec 32 := 0#32
  let v392 : BitVec 1 := Scalar.cmpi .slt v388 c0_i32_125
  let v393 : BitVec 1 := Scalar.xori v391 v392
  let c0_i32_123 : BitVec 32 := 0#32
  let v390 : BitVec 1 := Scalar.cmpi .ne v389 c0_i32_123
  let v394 : BitVec 1 := Scalar.andi v393 v390
  let v395 : BitVec 32 := Scalar.addi v389 v388
  let v396 : BitVec 32 := Scalar.select v394 v395 v389
  let c16_i32_126 : BitVec 32 := 16#32
  let v397 : BitVec 32 := Scalar.muli v396 c16_i32_126
  let v399 : Index := Scalar.indexCast v397
  ![v398.toNat, v399.toNat]

def k0_chk3 (v279 : BitVec 32) : Prop :=
  (∀ a, (k0_off54 v279) a + S1x16.size a ≤ S512x128.size a) ∧
  (∀ a, (k0_off56 v279) a + S1x16.size a ≤ S512x128.size a) ∧
  (∀ a, (k0_off58 v279) a + S1x16.size a ≤ S512x128.size a) ∧
  (∀ a, (k0_off60 v279) a + S1x16.size a ≤ S512x128.size a) ∧
  (∀ a, (k0_off62 v279) a + S1x16.size a ≤ S512x128.size a) ∧
  (∀ a, (k0_off64 v279) a + S1x16.size a ≤ S512x128.size a) ∧
  (∀ a, (k0_off66 v279) a + S1x16.size a ≤ S512x128.size a) ∧
  (∀ a, (k0_off68 v279) a + S1x16.size a ≤ S512x128.size a) ∧
  (∀ a, (k0_off70 v279) a + S1x16.size a ≤ S64x128.size a)
theorem k0_off54_inb : ∀ (v279 : BitVec 32) (k0_hw3 : k0_chk3 v279), ∀ a, (k0_off54 v279) a + S1x16.size a ≤ S512x128.size a := fun v279 k0_hw3 => k0_hw3.1
theorem k0_off56_inb : ∀ (v279 : BitVec 32) (k0_hw3 : k0_chk3 v279), ∀ a, (k0_off56 v279) a + S1x16.size a ≤ S512x128.size a := fun v279 k0_hw3 => k0_hw3.2.1
theorem k0_off58_inb : ∀ (v279 : BitVec 32) (k0_hw3 : k0_chk3 v279), ∀ a, (k0_off58 v279) a + S1x16.size a ≤ S512x128.size a := fun v279 k0_hw3 => k0_hw3.2.2.1
theorem k0_off60_inb : ∀ (v279 : BitVec 32) (k0_hw3 : k0_chk3 v279), ∀ a, (k0_off60 v279) a + S1x16.size a ≤ S512x128.size a := fun v279 k0_hw3 => k0_hw3.2.2.2.1
theorem k0_off62_inb : ∀ (v279 : BitVec 32) (k0_hw3 : k0_chk3 v279), ∀ a, (k0_off62 v279) a + S1x16.size a ≤ S512x128.size a := fun v279 k0_hw3 => k0_hw3.2.2.2.2.1
theorem k0_off64_inb : ∀ (v279 : BitVec 32) (k0_hw3 : k0_chk3 v279), ∀ a, (k0_off64 v279) a + S1x16.size a ≤ S512x128.size a := fun v279 k0_hw3 => k0_hw3.2.2.2.2.2.1
theorem k0_off66_inb : ∀ (v279 : BitVec 32) (k0_hw3 : k0_chk3 v279), ∀ a, (k0_off66 v279) a + S1x16.size a ≤ S512x128.size a := fun v279 k0_hw3 => k0_hw3.2.2.2.2.2.2.1
theorem k0_off68_inb : ∀ (v279 : BitVec 32) (k0_hw3 : k0_chk3 v279), ∀ a, (k0_off68 v279) a + S1x16.size a ≤ S512x128.size a := fun v279 k0_hw3 => k0_hw3.2.2.2.2.2.2.2.1
theorem k0_off70_inb : ∀ (v279 : BitVec 32) (k0_hw3 : k0_chk3 v279), ∀ a, (k0_off70 v279) a + S1x16.size a ≤ S64x128.size a := fun v279 k0_hw3 => k0_hw3.2.2.2.2.2.2.2.2

def k0_off71 (v409 : BitVec 32) : Fin 2 → Nat :=
  let v412 : Index := Scalar.indexCast v409
  let c0_128 : Index := 0#32
  ![v412.toNat, 0]

def k0_off72 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v415 : Index := Scalar.indexCast v411
  let c0_129 : Index := 0#32
  ![v415.toNat, 0]
def k0_off73 (v409 : BitVec 32) : Fin 2 → Nat :=
  let v423 : Index := Scalar.indexCast v409
  let c16_131 : Index := 16#32
  ![v423.toNat, 16]
def k0_off74 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v426 : Index := Scalar.indexCast v411
  let c16_132 : Index := 16#32
  ![v426.toNat, 16]
def k0_off75 (v409 : BitVec 32) : Fin 2 → Nat :=
  let v434 : Index := Scalar.indexCast v409
  let c32_134 : Index := 32#32
  ![v434.toNat, 32]
def k0_off76 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v437 : Index := Scalar.indexCast v411
  let c32_135 : Index := 32#32
  ![v437.toNat, 32]
def k0_off77 (v409 : BitVec 32) : Fin 2 → Nat :=
  let v445 : Index := Scalar.indexCast v409
  let c48_137 : Index := 48#32
  ![v445.toNat, 48]
def k0_off78 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v448 : Index := Scalar.indexCast v411
  let c48_138 : Index := 48#32
  ![v448.toNat, 48]
def k0_off79 (v409 : BitVec 32) : Fin 2 → Nat :=
  let v456 : Index := Scalar.indexCast v409
  let c64_140 : Index := 64#32
  ![v456.toNat, 64]
def k0_off80 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v459 : Index := Scalar.indexCast v411
  let c64_141 : Index := 64#32
  ![v459.toNat, 64]
def k0_off81 (v409 : BitVec 32) : Fin 2 → Nat :=
  let v467 : Index := Scalar.indexCast v409
  let c80_143 : Index := 80#32
  ![v467.toNat, 80]
def k0_off82 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v470 : Index := Scalar.indexCast v411
  let c80_144 : Index := 80#32
  ![v470.toNat, 80]
def k0_off83 (v409 : BitVec 32) : Fin 2 → Nat :=
  let v478 : Index := Scalar.indexCast v409
  let c96_146 : Index := 96#32
  ![v478.toNat, 96]
def k0_off84 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v481 : Index := Scalar.indexCast v411
  let c96_147 : Index := 96#32
  ![v481.toNat, 96]
def k0_off85 (v409 : BitVec 32) : Fin 2 → Nat :=
  let v489 : Index := Scalar.indexCast v409
  let c112_149 : Index := 112#32
  ![v489.toNat, 112]
def k0_off86 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_127 : BitVec 32 := 16#32
  let v410 : BitVec 32 := Scalar.muli arg11 c16_i32_127
  let c3_i32 : BitVec 32 := 3#32
  let v411 : BitVec 32 := Scalar.addi v410 c3_i32
  let v492 : Index := Scalar.indexCast v411
  let c112_150 : Index := 112#32
  ![v492.toNat, 112]
def k0_off87 (v409 : BitVec 32) : Fin 2 → Nat :=
  let c0_i32_153 : BitVec 32 := 0#32
  let v501 : BitVec 1 := Scalar.cmpi .sgt v409 c0_i32_153
  let v502 : BitVec 32 := Scalar.extui v501
  let c0_i32_154 : BitVec 32 := 0#32
  let v503 : BitVec 1 := Scalar.cmpi .slt v409 c0_i32_154
  let v504 : BitVec 32 := Scalar.extui v503
  let v505 : BitVec 32 := Scalar.subi v502 v504
  let c8_i32_152 : BitVec 32 := 8#32
  let c0_i32_155 : BitVec 32 := 0#32
  let v506 : BitVec 1 := Scalar.cmpi .sgt c8_i32_152 c0_i32_155
  let v507 : BitVec 32 := Scalar.extui v506
  let c0_i32_156 : BitVec 32 := 0#32
  let v508 : BitVec 1 := Scalar.cmpi .slt c8_i32_152 c0_i32_156
  let v509 : BitVec 32 := Scalar.extui v508
  let v510 : BitVec 32 := Scalar.subi v507 v509
  let v511 : BitVec 1 := Scalar.cmpi .ne v505 v510
  let v512 : BitVec 32 := Scalar.remsi v409 c8_i32_152
  let c0_i32_157 : BitVec 32 := 0#32
  let v513 : BitVec 1 := Scalar.cmpi .ne v512 c0_i32_157
  let v514 : BitVec 1 := Scalar.andi v511 v513
  let v500 : BitVec 32 := Scalar.divsi v409 c8_i32_152
  let c1_i32_158 : BitVec 32 := 1#32
  let v515 : BitVec 32 := Scalar.subi v500 c1_i32_158
  let v516 : BitVec 32 := Scalar.select v514 v515 v500
  let v528 : Index := Scalar.indexCast v516
  let c8_i32_159 : BitVec 32 := 8#32
  let c0_i32_160 : BitVec 32 := 0#32
  let v517 : BitVec 1 := Scalar.cmpi .eq c8_i32_159 c0_i32_160
  let c1_i32_161 : BitVec 32 := 1#32
  let v518 : BitVec 32 := Scalar.select v517 c1_i32_161 c8_i32_159
  let v519 : BitVec 32 := Scalar.remsi v409 v518
  let c0_i32_163 : BitVec 32 := 0#32
  let v521 : BitVec 1 := Scalar.cmpi .slt v519 c0_i32_163
  let c0_i32_164 : BitVec 32 := 0#32
  let v522 : BitVec 1 := Scalar.cmpi .slt v518 c0_i32_164
  let v523 : BitVec 1 := Scalar.xori v521 v522
  let c0_i32_162 : BitVec 32 := 0#32
  let v520 : BitVec 1 := Scalar.cmpi .ne v519 c0_i32_162
  let v524 : BitVec 1 := Scalar.andi v523 v520
  let v525 : BitVec 32 := Scalar.addi v519 v518
  let v526 : BitVec 32 := Scalar.select v524 v525 v519
  let c16_i32_165 : BitVec 32 := 16#32
  let v527 : BitVec 32 := Scalar.muli v526 c16_i32_165
  let v529 : Index := Scalar.indexCast v527
  ![v528.toNat, v529.toNat]

def k0_chk4 (v409 : BitVec 32) : Prop :=
  (∀ a, (k0_off71 v409) a + S1x16.size a ≤ S512x128.size a) ∧
  (∀ a, (k0_off73 v409) a + S1x16.size a ≤ S512x128.size a) ∧
  (∀ a, (k0_off75 v409) a + S1x16.size a ≤ S512x128.size a) ∧
  (∀ a, (k0_off77 v409) a + S1x16.size a ≤ S512x128.size a) ∧
  (∀ a, (k0_off79 v409) a + S1x16.size a ≤ S512x128.size a) ∧
  (∀ a, (k0_off81 v409) a + S1x16.size a ≤ S512x128.size a) ∧
  (∀ a, (k0_off83 v409) a + S1x16.size a ≤ S512x128.size a) ∧
  (∀ a, (k0_off85 v409) a + S1x16.size a ≤ S512x128.size a) ∧
  (∀ a, (k0_off87 v409) a + S1x16.size a ≤ S64x128.size a)
theorem k0_off71_inb : ∀ (v409 : BitVec 32) (k0_hw4 : k0_chk4 v409), ∀ a, (k0_off71 v409) a + S1x16.size a ≤ S512x128.size a := fun v409 k0_hw4 => k0_hw4.1
theorem k0_off73_inb : ∀ (v409 : BitVec 32) (k0_hw4 : k0_chk4 v409), ∀ a, (k0_off73 v409) a + S1x16.size a ≤ S512x128.size a := fun v409 k0_hw4 => k0_hw4.2.1
theorem k0_off75_inb : ∀ (v409 : BitVec 32) (k0_hw4 : k0_chk4 v409), ∀ a, (k0_off75 v409) a + S1x16.size a ≤ S512x128.size a := fun v409 k0_hw4 => k0_hw4.2.2.1
theorem k0_off77_inb : ∀ (v409 : BitVec 32) (k0_hw4 : k0_chk4 v409), ∀ a, (k0_off77 v409) a + S1x16.size a ≤ S512x128.size a := fun v409 k0_hw4 => k0_hw4.2.2.2.1
theorem k0_off79_inb : ∀ (v409 : BitVec 32) (k0_hw4 : k0_chk4 v409), ∀ a, (k0_off79 v409) a + S1x16.size a ≤ S512x128.size a := fun v409 k0_hw4 => k0_hw4.2.2.2.2.1
theorem k0_off81_inb : ∀ (v409 : BitVec 32) (k0_hw4 : k0_chk4 v409), ∀ a, (k0_off81 v409) a + S1x16.size a ≤ S512x128.size a := fun v409 k0_hw4 => k0_hw4.2.2.2.2.2.1
theorem k0_off83_inb : ∀ (v409 : BitVec 32) (k0_hw4 : k0_chk4 v409), ∀ a, (k0_off83 v409) a + S1x16.size a ≤ S512x128.size a := fun v409 k0_hw4 => k0_hw4.2.2.2.2.2.2.1
theorem k0_off85_inb : ∀ (v409 : BitVec 32) (k0_hw4 : k0_chk4 v409), ∀ a, (k0_off85 v409) a + S1x16.size a ≤ S512x128.size a := fun v409 k0_hw4 => k0_hw4.2.2.2.2.2.2.2.1
theorem k0_off87_inb : ∀ (v409 : BitVec 32) (k0_hw4 : k0_chk4 v409), ∀ a, (k0_off87 v409) a + S1x16.size a ≤ S64x128.size a := fun v409 k0_hw4 => k0_hw4.2.2.2.2.2.2.2.2

def k0_off88 (v539 : BitVec 32) : Fin 2 → Nat :=
  let v542 : Index := Scalar.indexCast v539
  let c0_167 : Index := 0#32
  ![v542.toNat, 0]

def k0_off89 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v545 : Index := Scalar.indexCast v541
  let c0_168 : Index := 0#32
  ![v545.toNat, 0]
def k0_off90 (v539 : BitVec 32) : Fin 2 → Nat :=
  let v553 : Index := Scalar.indexCast v539
  let c16_170 : Index := 16#32
  ![v553.toNat, 16]
def k0_off91 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v556 : Index := Scalar.indexCast v541
  let c16_171 : Index := 16#32
  ![v556.toNat, 16]
def k0_off92 (v539 : BitVec 32) : Fin 2 → Nat :=
  let v564 : Index := Scalar.indexCast v539
  let c32_173 : Index := 32#32
  ![v564.toNat, 32]
def k0_off93 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v567 : Index := Scalar.indexCast v541
  let c32_174 : Index := 32#32
  ![v567.toNat, 32]
def k0_off94 (v539 : BitVec 32) : Fin 2 → Nat :=
  let v575 : Index := Scalar.indexCast v539
  let c48_176 : Index := 48#32
  ![v575.toNat, 48]
def k0_off95 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v578 : Index := Scalar.indexCast v541
  let c48_177 : Index := 48#32
  ![v578.toNat, 48]
def k0_off96 (v539 : BitVec 32) : Fin 2 → Nat :=
  let v586 : Index := Scalar.indexCast v539
  let c64_179 : Index := 64#32
  ![v586.toNat, 64]
def k0_off97 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v589 : Index := Scalar.indexCast v541
  let c64_180 : Index := 64#32
  ![v589.toNat, 64]
def k0_off98 (v539 : BitVec 32) : Fin 2 → Nat :=
  let v597 : Index := Scalar.indexCast v539
  let c80_182 : Index := 80#32
  ![v597.toNat, 80]
def k0_off99 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v600 : Index := Scalar.indexCast v541
  let c80_183 : Index := 80#32
  ![v600.toNat, 80]
def k0_off100 (v539 : BitVec 32) : Fin 2 → Nat :=
  let v608 : Index := Scalar.indexCast v539
  let c96_185 : Index := 96#32
  ![v608.toNat, 96]
def k0_off101 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v611 : Index := Scalar.indexCast v541
  let c96_186 : Index := 96#32
  ![v611.toNat, 96]
def k0_off102 (v539 : BitVec 32) : Fin 2 → Nat :=
  let v619 : Index := Scalar.indexCast v539
  let c112_188 : Index := 112#32
  ![v619.toNat, 112]
def k0_off103 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_166 : BitVec 32 := 16#32
  let v540 : BitVec 32 := Scalar.muli arg11 c16_i32_166
  let c4_i32 : BitVec 32 := 4#32
  let v541 : BitVec 32 := Scalar.addi v540 c4_i32
  let v622 : Index := Scalar.indexCast v541
  let c112_189 : Index := 112#32
  ![v622.toNat, 112]
def k0_off104 (v539 : BitVec 32) : Fin 2 → Nat :=
  let c0_i32_192 : BitVec 32 := 0#32
  let v631 : BitVec 1 := Scalar.cmpi .sgt v539 c0_i32_192
  let v632 : BitVec 32 := Scalar.extui v631
  let c0_i32_193 : BitVec 32 := 0#32
  let v633 : BitVec 1 := Scalar.cmpi .slt v539 c0_i32_193
  let v634 : BitVec 32 := Scalar.extui v633
  let v635 : BitVec 32 := Scalar.subi v632 v634
  let c8_i32_191 : BitVec 32 := 8#32
  let c0_i32_194 : BitVec 32 := 0#32
  let v636 : BitVec 1 := Scalar.cmpi .sgt c8_i32_191 c0_i32_194
  let v637 : BitVec 32 := Scalar.extui v636
  let c0_i32_195 : BitVec 32 := 0#32
  let v638 : BitVec 1 := Scalar.cmpi .slt c8_i32_191 c0_i32_195
  let v639 : BitVec 32 := Scalar.extui v638
  let v640 : BitVec 32 := Scalar.subi v637 v639
  let v641 : BitVec 1 := Scalar.cmpi .ne v635 v640
  let v642 : BitVec 32 := Scalar.remsi v539 c8_i32_191
  let c0_i32_196 : BitVec 32 := 0#32
  let v643 : BitVec 1 := Scalar.cmpi .ne v642 c0_i32_196
  let v644 : BitVec 1 := Scalar.andi v641 v643
  let v630 : BitVec 32 := Scalar.divsi v539 c8_i32_191
  let c1_i32_197 : BitVec 32 := 1#32
  let v645 : BitVec 32 := Scalar.subi v630 c1_i32_197
  let v646 : BitVec 32 := Scalar.select v644 v645 v630
  let v658 : Index := Scalar.indexCast v646
  let c8_i32_198 : BitVec 32 := 8#32
  let c0_i32_199 : BitVec 32 := 0#32
  let v647 : BitVec 1 := Scalar.cmpi .eq c8_i32_198 c0_i32_199
  let c1_i32_200 : BitVec 32 := 1#32
  let v648 : BitVec 32 := Scalar.select v647 c1_i32_200 c8_i32_198
  let v649 : BitVec 32 := Scalar.remsi v539 v648
  let c0_i32_202 : BitVec 32 := 0#32
  let v651 : BitVec 1 := Scalar.cmpi .slt v649 c0_i32_202
  let c0_i32_203 : BitVec 32 := 0#32
  let v652 : BitVec 1 := Scalar.cmpi .slt v648 c0_i32_203
  let v653 : BitVec 1 := Scalar.xori v651 v652
  let c0_i32_201 : BitVec 32 := 0#32
  let v650 : BitVec 1 := Scalar.cmpi .ne v649 c0_i32_201
  let v654 : BitVec 1 := Scalar.andi v653 v650
  let v655 : BitVec 32 := Scalar.addi v649 v648
  let v656 : BitVec 32 := Scalar.select v654 v655 v649
  let c16_i32_204 : BitVec 32 := 16#32
  let v657 : BitVec 32 := Scalar.muli v656 c16_i32_204
  let v659 : Index := Scalar.indexCast v657
  ![v658.toNat, v659.toNat]

def k0_chk5 (v539 : BitVec 32) : Prop :=
  (∀ a, (k0_off88 v539) a + S1x16.size a ≤ S512x128.size a) ∧
  (∀ a, (k0_off90 v539) a + S1x16.size a ≤ S512x128.size a) ∧
  (∀ a, (k0_off92 v539) a + S1x16.size a ≤ S512x128.size a) ∧
  (∀ a, (k0_off94 v539) a + S1x16.size a ≤ S512x128.size a) ∧
  (∀ a, (k0_off96 v539) a + S1x16.size a ≤ S512x128.size a) ∧
  (∀ a, (k0_off98 v539) a + S1x16.size a ≤ S512x128.size a) ∧
  (∀ a, (k0_off100 v539) a + S1x16.size a ≤ S512x128.size a) ∧
  (∀ a, (k0_off102 v539) a + S1x16.size a ≤ S512x128.size a) ∧
  (∀ a, (k0_off104 v539) a + S1x16.size a ≤ S64x128.size a)
theorem k0_off88_inb : ∀ (v539 : BitVec 32) (k0_hw5 : k0_chk5 v539), ∀ a, (k0_off88 v539) a + S1x16.size a ≤ S512x128.size a := fun v539 k0_hw5 => k0_hw5.1
theorem k0_off90_inb : ∀ (v539 : BitVec 32) (k0_hw5 : k0_chk5 v539), ∀ a, (k0_off90 v539) a + S1x16.size a ≤ S512x128.size a := fun v539 k0_hw5 => k0_hw5.2.1
theorem k0_off92_inb : ∀ (v539 : BitVec 32) (k0_hw5 : k0_chk5 v539), ∀ a, (k0_off92 v539) a + S1x16.size a ≤ S512x128.size a := fun v539 k0_hw5 => k0_hw5.2.2.1
theorem k0_off94_inb : ∀ (v539 : BitVec 32) (k0_hw5 : k0_chk5 v539), ∀ a, (k0_off94 v539) a + S1x16.size a ≤ S512x128.size a := fun v539 k0_hw5 => k0_hw5.2.2.2.1
theorem k0_off96_inb : ∀ (v539 : BitVec 32) (k0_hw5 : k0_chk5 v539), ∀ a, (k0_off96 v539) a + S1x16.size a ≤ S512x128.size a := fun v539 k0_hw5 => k0_hw5.2.2.2.2.1
theorem k0_off98_inb : ∀ (v539 : BitVec 32) (k0_hw5 : k0_chk5 v539), ∀ a, (k0_off98 v539) a + S1x16.size a ≤ S512x128.size a := fun v539 k0_hw5 => k0_hw5.2.2.2.2.2.1
theorem k0_off100_inb : ∀ (v539 : BitVec 32) (k0_hw5 : k0_chk5 v539), ∀ a, (k0_off100 v539) a + S1x16.size a ≤ S512x128.size a := fun v539 k0_hw5 => k0_hw5.2.2.2.2.2.2.1
theorem k0_off102_inb : ∀ (v539 : BitVec 32) (k0_hw5 : k0_chk5 v539), ∀ a, (k0_off102 v539) a + S1x16.size a ≤ S512x128.size a := fun v539 k0_hw5 => k0_hw5.2.2.2.2.2.2.2.1
theorem k0_off104_inb : ∀ (v539 : BitVec 32) (k0_hw5 : k0_chk5 v539), ∀ a, (k0_off104 v539) a + S1x16.size a ≤ S64x128.size a := fun v539 k0_hw5 => k0_hw5.2.2.2.2.2.2.2.2

def k0_off105 (v669 : BitVec 32) : Fin 2 → Nat :=
  let v672 : Index := Scalar.indexCast v669
  let c0_206 : Index := 0#32
  ![v672.toNat, 0]

def k0_off106 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v675 : Index := Scalar.indexCast v671
  let c0_207 : Index := 0#32
  ![v675.toNat, 0]
def k0_off107 (v669 : BitVec 32) : Fin 2 → Nat :=
  let v683 : Index := Scalar.indexCast v669
  let c16_209 : Index := 16#32
  ![v683.toNat, 16]
def k0_off108 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v686 : Index := Scalar.indexCast v671
  let c16_210 : Index := 16#32
  ![v686.toNat, 16]
def k0_off109 (v669 : BitVec 32) : Fin 2 → Nat :=
  let v694 : Index := Scalar.indexCast v669
  let c32_212 : Index := 32#32
  ![v694.toNat, 32]
def k0_off110 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v697 : Index := Scalar.indexCast v671
  let c32_213 : Index := 32#32
  ![v697.toNat, 32]
def k0_off111 (v669 : BitVec 32) : Fin 2 → Nat :=
  let v705 : Index := Scalar.indexCast v669
  let c48_215 : Index := 48#32
  ![v705.toNat, 48]
def k0_off112 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v708 : Index := Scalar.indexCast v671
  let c48_216 : Index := 48#32
  ![v708.toNat, 48]
def k0_off113 (v669 : BitVec 32) : Fin 2 → Nat :=
  let v716 : Index := Scalar.indexCast v669
  let c64_218 : Index := 64#32
  ![v716.toNat, 64]
def k0_off114 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v719 : Index := Scalar.indexCast v671
  let c64_219 : Index := 64#32
  ![v719.toNat, 64]
def k0_off115 (v669 : BitVec 32) : Fin 2 → Nat :=
  let v727 : Index := Scalar.indexCast v669
  let c80_221 : Index := 80#32
  ![v727.toNat, 80]
def k0_off116 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v730 : Index := Scalar.indexCast v671
  let c80_222 : Index := 80#32
  ![v730.toNat, 80]
def k0_off117 (v669 : BitVec 32) : Fin 2 → Nat :=
  let v738 : Index := Scalar.indexCast v669
  let c96_224 : Index := 96#32
  ![v738.toNat, 96]
def k0_off118 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v741 : Index := Scalar.indexCast v671
  let c96_225 : Index := 96#32
  ![v741.toNat, 96]
def k0_off119 (v669 : BitVec 32) : Fin 2 → Nat :=
  let v749 : Index := Scalar.indexCast v669
  let c112_227 : Index := 112#32
  ![v749.toNat, 112]
def k0_off120 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_205 : BitVec 32 := 16#32
  let v670 : BitVec 32 := Scalar.muli arg11 c16_i32_205
  let c5_i32 : BitVec 32 := 5#32
  let v671 : BitVec 32 := Scalar.addi v670 c5_i32
  let v752 : Index := Scalar.indexCast v671
  let c112_228 : Index := 112#32
  ![v752.toNat, 112]
def k0_off121 (v669 : BitVec 32) : Fin 2 → Nat :=
  let c0_i32_231 : BitVec 32 := 0#32
  let v761 : BitVec 1 := Scalar.cmpi .sgt v669 c0_i32_231
  let v762 : BitVec 32 := Scalar.extui v761
  let c0_i32_232 : BitVec 32 := 0#32
  let v763 : BitVec 1 := Scalar.cmpi .slt v669 c0_i32_232
  let v764 : BitVec 32 := Scalar.extui v763
  let v765 : BitVec 32 := Scalar.subi v762 v764
  let c8_i32_230 : BitVec 32 := 8#32
  let c0_i32_233 : BitVec 32 := 0#32
  let v766 : BitVec 1 := Scalar.cmpi .sgt c8_i32_230 c0_i32_233
  let v767 : BitVec 32 := Scalar.extui v766
  let c0_i32_234 : BitVec 32 := 0#32
  let v768 : BitVec 1 := Scalar.cmpi .slt c8_i32_230 c0_i32_234
  let v769 : BitVec 32 := Scalar.extui v768
  let v770 : BitVec 32 := Scalar.subi v767 v769
  let v771 : BitVec 1 := Scalar.cmpi .ne v765 v770
  let v772 : BitVec 32 := Scalar.remsi v669 c8_i32_230
  let c0_i32_235 : BitVec 32 := 0#32
  let v773 : BitVec 1 := Scalar.cmpi .ne v772 c0_i32_235
  let v774 : BitVec 1 := Scalar.andi v771 v773
  let v760 : BitVec 32 := Scalar.divsi v669 c8_i32_230
  let c1_i32_236 : BitVec 32 := 1#32
  let v775 : BitVec 32 := Scalar.subi v760 c1_i32_236
  let v776 : BitVec 32 := Scalar.select v774 v775 v760
  let v788 : Index := Scalar.indexCast v776
  let c8_i32_237 : BitVec 32 := 8#32
  let c0_i32_238 : BitVec 32 := 0#32
  let v777 : BitVec 1 := Scalar.cmpi .eq c8_i32_237 c0_i32_238
  let c1_i32_239 : BitVec 32 := 1#32
  let v778 : BitVec 32 := Scalar.select v777 c1_i32_239 c8_i32_237
  let v779 : BitVec 32 := Scalar.remsi v669 v778
  let c0_i32_241 : BitVec 32 := 0#32
  let v781 : BitVec 1 := Scalar.cmpi .slt v779 c0_i32_241
  let c0_i32_242 : BitVec 32 := 0#32
  let v782 : BitVec 1 := Scalar.cmpi .slt v778 c0_i32_242
  let v783 : BitVec 1 := Scalar.xori v781 v782
  let c0_i32_240 : BitVec 32 := 0#32
  let v780 : BitVec 1 := Scalar.cmpi .ne v779 c0_i32_240
  let v784 : BitVec 1 := Scalar.andi v783 v780
  let v785 : BitVec 32 := Scalar.addi v779 v778
  let v786 : BitVec 32 := Scalar.select v784 v785 v779
  let c16_i32_243 : BitVec 32 := 16#32
  let v787 : BitVec 32 := Scalar.muli v786 c16_i32_243
  let v789 : Index := Scalar.indexCast v787
  ![v788.toNat, v789.toNat]

def k0_chk6 (v669 : BitVec 32) : Prop :=
  (∀ a, (k0_off105 v669) a + S1x16.size a ≤ S512x128.size a) ∧
  (∀ a, (k0_off107 v669) a + S1x16.size a ≤ S512x128.size a) ∧
  (∀ a, (k0_off109 v669) a + S1x16.size a ≤ S512x128.size a) ∧
  (∀ a, (k0_off111 v669) a + S1x16.size a ≤ S512x128.size a) ∧
  (∀ a, (k0_off113 v669) a + S1x16.size a ≤ S512x128.size a) ∧
  (∀ a, (k0_off115 v669) a + S1x16.size a ≤ S512x128.size a) ∧
  (∀ a, (k0_off117 v669) a + S1x16.size a ≤ S512x128.size a) ∧
  (∀ a, (k0_off119 v669) a + S1x16.size a ≤ S512x128.size a) ∧
  (∀ a, (k0_off121 v669) a + S1x16.size a ≤ S64x128.size a)
theorem k0_off105_inb : ∀ (v669 : BitVec 32) (k0_hw6 : k0_chk6 v669), ∀ a, (k0_off105 v669) a + S1x16.size a ≤ S512x128.size a := fun v669 k0_hw6 => k0_hw6.1
theorem k0_off107_inb : ∀ (v669 : BitVec 32) (k0_hw6 : k0_chk6 v669), ∀ a, (k0_off107 v669) a + S1x16.size a ≤ S512x128.size a := fun v669 k0_hw6 => k0_hw6.2.1
theorem k0_off109_inb : ∀ (v669 : BitVec 32) (k0_hw6 : k0_chk6 v669), ∀ a, (k0_off109 v669) a + S1x16.size a ≤ S512x128.size a := fun v669 k0_hw6 => k0_hw6.2.2.1
theorem k0_off111_inb : ∀ (v669 : BitVec 32) (k0_hw6 : k0_chk6 v669), ∀ a, (k0_off111 v669) a + S1x16.size a ≤ S512x128.size a := fun v669 k0_hw6 => k0_hw6.2.2.2.1
theorem k0_off113_inb : ∀ (v669 : BitVec 32) (k0_hw6 : k0_chk6 v669), ∀ a, (k0_off113 v669) a + S1x16.size a ≤ S512x128.size a := fun v669 k0_hw6 => k0_hw6.2.2.2.2.1
theorem k0_off115_inb : ∀ (v669 : BitVec 32) (k0_hw6 : k0_chk6 v669), ∀ a, (k0_off115 v669) a + S1x16.size a ≤ S512x128.size a := fun v669 k0_hw6 => k0_hw6.2.2.2.2.2.1
theorem k0_off117_inb : ∀ (v669 : BitVec 32) (k0_hw6 : k0_chk6 v669), ∀ a, (k0_off117 v669) a + S1x16.size a ≤ S512x128.size a := fun v669 k0_hw6 => k0_hw6.2.2.2.2.2.2.1
theorem k0_off119_inb : ∀ (v669 : BitVec 32) (k0_hw6 : k0_chk6 v669), ∀ a, (k0_off119 v669) a + S1x16.size a ≤ S512x128.size a := fun v669 k0_hw6 => k0_hw6.2.2.2.2.2.2.2.1
theorem k0_off121_inb : ∀ (v669 : BitVec 32) (k0_hw6 : k0_chk6 v669), ∀ a, (k0_off121 v669) a + S1x16.size a ≤ S64x128.size a := fun v669 k0_hw6 => k0_hw6.2.2.2.2.2.2.2.2

def k0_off122 (v799 : BitVec 32) : Fin 2 → Nat :=
  let v802 : Index := Scalar.indexCast v799
  let c0_245 : Index := 0#32
  ![v802.toNat, 0]

def k0_off123 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v805 : Index := Scalar.indexCast v801
  let c0_246 : Index := 0#32
  ![v805.toNat, 0]
def k0_off124 (v799 : BitVec 32) : Fin 2 → Nat :=
  let v813 : Index := Scalar.indexCast v799
  let c16_248 : Index := 16#32
  ![v813.toNat, 16]
def k0_off125 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v816 : Index := Scalar.indexCast v801
  let c16_249 : Index := 16#32
  ![v816.toNat, 16]
def k0_off126 (v799 : BitVec 32) : Fin 2 → Nat :=
  let v824 : Index := Scalar.indexCast v799
  let c32_251 : Index := 32#32
  ![v824.toNat, 32]
def k0_off127 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v827 : Index := Scalar.indexCast v801
  let c32_252 : Index := 32#32
  ![v827.toNat, 32]
def k0_off128 (v799 : BitVec 32) : Fin 2 → Nat :=
  let v835 : Index := Scalar.indexCast v799
  let c48_254 : Index := 48#32
  ![v835.toNat, 48]
def k0_off129 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v838 : Index := Scalar.indexCast v801
  let c48_255 : Index := 48#32
  ![v838.toNat, 48]
def k0_off130 (v799 : BitVec 32) : Fin 2 → Nat :=
  let v846 : Index := Scalar.indexCast v799
  let c64_257 : Index := 64#32
  ![v846.toNat, 64]
def k0_off131 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v849 : Index := Scalar.indexCast v801
  let c64_258 : Index := 64#32
  ![v849.toNat, 64]
def k0_off132 (v799 : BitVec 32) : Fin 2 → Nat :=
  let v857 : Index := Scalar.indexCast v799
  let c80_260 : Index := 80#32
  ![v857.toNat, 80]
def k0_off133 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v860 : Index := Scalar.indexCast v801
  let c80_261 : Index := 80#32
  ![v860.toNat, 80]
def k0_off134 (v799 : BitVec 32) : Fin 2 → Nat :=
  let v868 : Index := Scalar.indexCast v799
  let c96_263 : Index := 96#32
  ![v868.toNat, 96]
def k0_off135 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v871 : Index := Scalar.indexCast v801
  let c96_264 : Index := 96#32
  ![v871.toNat, 96]
def k0_off136 (v799 : BitVec 32) : Fin 2 → Nat :=
  let v879 : Index := Scalar.indexCast v799
  let c112_266 : Index := 112#32
  ![v879.toNat, 112]
def k0_off137 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_244 : BitVec 32 := 16#32
  let v800 : BitVec 32 := Scalar.muli arg11 c16_i32_244
  let c6_i32 : BitVec 32 := 6#32
  let v801 : BitVec 32 := Scalar.addi v800 c6_i32
  let v882 : Index := Scalar.indexCast v801
  let c112_267 : Index := 112#32
  ![v882.toNat, 112]
def k0_off138 (v799 : BitVec 32) : Fin 2 → Nat :=
  let c0_i32_270 : BitVec 32 := 0#32
  let v891 : BitVec 1 := Scalar.cmpi .sgt v799 c0_i32_270
  let v892 : BitVec 32 := Scalar.extui v891
  let c0_i32_271 : BitVec 32 := 0#32
  let v893 : BitVec 1 := Scalar.cmpi .slt v799 c0_i32_271
  let v894 : BitVec 32 := Scalar.extui v893
  let v895 : BitVec 32 := Scalar.subi v892 v894
  let c8_i32_269 : BitVec 32 := 8#32
  let c0_i32_272 : BitVec 32 := 0#32
  let v896 : BitVec 1 := Scalar.cmpi .sgt c8_i32_269 c0_i32_272
  let v897 : BitVec 32 := Scalar.extui v896
  let c0_i32_273 : BitVec 32 := 0#32
  let v898 : BitVec 1 := Scalar.cmpi .slt c8_i32_269 c0_i32_273
  let v899 : BitVec 32 := Scalar.extui v898
  let v900 : BitVec 32 := Scalar.subi v897 v899
  let v901 : BitVec 1 := Scalar.cmpi .ne v895 v900
  let v902 : BitVec 32 := Scalar.remsi v799 c8_i32_269
  let c0_i32_274 : BitVec 32 := 0#32
  let v903 : BitVec 1 := Scalar.cmpi .ne v902 c0_i32_274
  let v904 : BitVec 1 := Scalar.andi v901 v903
  let v890 : BitVec 32 := Scalar.divsi v799 c8_i32_269
  let c1_i32_275 : BitVec 32 := 1#32
  let v905 : BitVec 32 := Scalar.subi v890 c1_i32_275
  let v906 : BitVec 32 := Scalar.select v904 v905 v890
  let v918 : Index := Scalar.indexCast v906
  let c8_i32_276 : BitVec 32 := 8#32
  let c0_i32_277 : BitVec 32 := 0#32
  let v907 : BitVec 1 := Scalar.cmpi .eq c8_i32_276 c0_i32_277
  let c1_i32_278 : BitVec 32 := 1#32
  let v908 : BitVec 32 := Scalar.select v907 c1_i32_278 c8_i32_276
  let v909 : BitVec 32 := Scalar.remsi v799 v908
  let c0_i32_280 : BitVec 32 := 0#32
  let v911 : BitVec 1 := Scalar.cmpi .slt v909 c0_i32_280
  let c0_i32_281 : BitVec 32 := 0#32
  let v912 : BitVec 1 := Scalar.cmpi .slt v908 c0_i32_281
  let v913 : BitVec 1 := Scalar.xori v911 v912
  let c0_i32_279 : BitVec 32 := 0#32
  let v910 : BitVec 1 := Scalar.cmpi .ne v909 c0_i32_279
  let v914 : BitVec 1 := Scalar.andi v913 v910
  let v915 : BitVec 32 := Scalar.addi v909 v908
  let v916 : BitVec 32 := Scalar.select v914 v915 v909
  let c16_i32_282 : BitVec 32 := 16#32
  let v917 : BitVec 32 := Scalar.muli v916 c16_i32_282
  let v919 : Index := Scalar.indexCast v917
  ![v918.toNat, v919.toNat]

def k0_chk7 (v799 : BitVec 32) : Prop :=
  (∀ a, (k0_off122 v799) a + S1x16.size a ≤ S512x128.size a) ∧
  (∀ a, (k0_off124 v799) a + S1x16.size a ≤ S512x128.size a) ∧
  (∀ a, (k0_off126 v799) a + S1x16.size a ≤ S512x128.size a) ∧
  (∀ a, (k0_off128 v799) a + S1x16.size a ≤ S512x128.size a) ∧
  (∀ a, (k0_off130 v799) a + S1x16.size a ≤ S512x128.size a) ∧
  (∀ a, (k0_off132 v799) a + S1x16.size a ≤ S512x128.size a) ∧
  (∀ a, (k0_off134 v799) a + S1x16.size a ≤ S512x128.size a) ∧
  (∀ a, (k0_off136 v799) a + S1x16.size a ≤ S512x128.size a) ∧
  (∀ a, (k0_off138 v799) a + S1x16.size a ≤ S64x128.size a)
theorem k0_off122_inb : ∀ (v799 : BitVec 32) (k0_hw7 : k0_chk7 v799), ∀ a, (k0_off122 v799) a + S1x16.size a ≤ S512x128.size a := fun v799 k0_hw7 => k0_hw7.1
theorem k0_off124_inb : ∀ (v799 : BitVec 32) (k0_hw7 : k0_chk7 v799), ∀ a, (k0_off124 v799) a + S1x16.size a ≤ S512x128.size a := fun v799 k0_hw7 => k0_hw7.2.1
theorem k0_off126_inb : ∀ (v799 : BitVec 32) (k0_hw7 : k0_chk7 v799), ∀ a, (k0_off126 v799) a + S1x16.size a ≤ S512x128.size a := fun v799 k0_hw7 => k0_hw7.2.2.1
theorem k0_off128_inb : ∀ (v799 : BitVec 32) (k0_hw7 : k0_chk7 v799), ∀ a, (k0_off128 v799) a + S1x16.size a ≤ S512x128.size a := fun v799 k0_hw7 => k0_hw7.2.2.2.1
theorem k0_off130_inb : ∀ (v799 : BitVec 32) (k0_hw7 : k0_chk7 v799), ∀ a, (k0_off130 v799) a + S1x16.size a ≤ S512x128.size a := fun v799 k0_hw7 => k0_hw7.2.2.2.2.1
theorem k0_off132_inb : ∀ (v799 : BitVec 32) (k0_hw7 : k0_chk7 v799), ∀ a, (k0_off132 v799) a + S1x16.size a ≤ S512x128.size a := fun v799 k0_hw7 => k0_hw7.2.2.2.2.2.1
theorem k0_off134_inb : ∀ (v799 : BitVec 32) (k0_hw7 : k0_chk7 v799), ∀ a, (k0_off134 v799) a + S1x16.size a ≤ S512x128.size a := fun v799 k0_hw7 => k0_hw7.2.2.2.2.2.2.1
theorem k0_off136_inb : ∀ (v799 : BitVec 32) (k0_hw7 : k0_chk7 v799), ∀ a, (k0_off136 v799) a + S1x16.size a ≤ S512x128.size a := fun v799 k0_hw7 => k0_hw7.2.2.2.2.2.2.2.1
theorem k0_off138_inb : ∀ (v799 : BitVec 32) (k0_hw7 : k0_chk7 v799), ∀ a, (k0_off138 v799) a + S1x16.size a ≤ S64x128.size a := fun v799 k0_hw7 => k0_hw7.2.2.2.2.2.2.2.2

def k0_off139 (v929 : BitVec 32) : Fin 2 → Nat :=
  let v932 : Index := Scalar.indexCast v929
  let c0_284 : Index := 0#32
  ![v932.toNat, 0]

def k0_off140 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v935 : Index := Scalar.indexCast v931
  let c0_285 : Index := 0#32
  ![v935.toNat, 0]
def k0_off141 (v929 : BitVec 32) : Fin 2 → Nat :=
  let v943 : Index := Scalar.indexCast v929
  let c16_287 : Index := 16#32
  ![v943.toNat, 16]
def k0_off142 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v946 : Index := Scalar.indexCast v931
  let c16_288 : Index := 16#32
  ![v946.toNat, 16]
def k0_off143 (v929 : BitVec 32) : Fin 2 → Nat :=
  let v954 : Index := Scalar.indexCast v929
  let c32_290 : Index := 32#32
  ![v954.toNat, 32]
def k0_off144 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v957 : Index := Scalar.indexCast v931
  let c32_291 : Index := 32#32
  ![v957.toNat, 32]
def k0_off145 (v929 : BitVec 32) : Fin 2 → Nat :=
  let v965 : Index := Scalar.indexCast v929
  let c48_293 : Index := 48#32
  ![v965.toNat, 48]
def k0_off146 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v968 : Index := Scalar.indexCast v931
  let c48_294 : Index := 48#32
  ![v968.toNat, 48]
def k0_off147 (v929 : BitVec 32) : Fin 2 → Nat :=
  let v976 : Index := Scalar.indexCast v929
  let c64_296 : Index := 64#32
  ![v976.toNat, 64]
def k0_off148 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v979 : Index := Scalar.indexCast v931
  let c64_297 : Index := 64#32
  ![v979.toNat, 64]
def k0_off149 (v929 : BitVec 32) : Fin 2 → Nat :=
  let v987 : Index := Scalar.indexCast v929
  let c80_299 : Index := 80#32
  ![v987.toNat, 80]
def k0_off150 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v990 : Index := Scalar.indexCast v931
  let c80_300 : Index := 80#32
  ![v990.toNat, 80]
def k0_off151 (v929 : BitVec 32) : Fin 2 → Nat :=
  let v998 : Index := Scalar.indexCast v929
  let c96_302 : Index := 96#32
  ![v998.toNat, 96]
def k0_off152 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v1001 : Index := Scalar.indexCast v931
  let c96_303 : Index := 96#32
  ![v1001.toNat, 96]
def k0_off153 (v929 : BitVec 32) : Fin 2 → Nat :=
  let v1009 : Index := Scalar.indexCast v929
  let c112_305 : Index := 112#32
  ![v1009.toNat, 112]
def k0_off154 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_283 : BitVec 32 := 16#32
  let v930 : BitVec 32 := Scalar.muli arg11 c16_i32_283
  let c7_i32 : BitVec 32 := 7#32
  let v931 : BitVec 32 := Scalar.addi v930 c7_i32
  let v1012 : Index := Scalar.indexCast v931
  let c112_306 : Index := 112#32
  ![v1012.toNat, 112]
def k0_off155 (v929 : BitVec 32) : Fin 2 → Nat :=
  let c0_i32_309 : BitVec 32 := 0#32
  let v1021 : BitVec 1 := Scalar.cmpi .sgt v929 c0_i32_309
  let v1022 : BitVec 32 := Scalar.extui v1021
  let c0_i32_310 : BitVec 32 := 0#32
  let v1023 : BitVec 1 := Scalar.cmpi .slt v929 c0_i32_310
  let v1024 : BitVec 32 := Scalar.extui v1023
  let v1025 : BitVec 32 := Scalar.subi v1022 v1024
  let c8_i32_308 : BitVec 32 := 8#32
  let c0_i32_311 : BitVec 32 := 0#32
  let v1026 : BitVec 1 := Scalar.cmpi .sgt c8_i32_308 c0_i32_311
  let v1027 : BitVec 32 := Scalar.extui v1026
  let c0_i32_312 : BitVec 32 := 0#32
  let v1028 : BitVec 1 := Scalar.cmpi .slt c8_i32_308 c0_i32_312
  let v1029 : BitVec 32 := Scalar.extui v1028
  let v1030 : BitVec 32 := Scalar.subi v1027 v1029
  let v1031 : BitVec 1 := Scalar.cmpi .ne v1025 v1030
  let v1032 : BitVec 32 := Scalar.remsi v929 c8_i32_308
  let c0_i32_313 : BitVec 32 := 0#32
  let v1033 : BitVec 1 := Scalar.cmpi .ne v1032 c0_i32_313
  let v1034 : BitVec 1 := Scalar.andi v1031 v1033
  let v1020 : BitVec 32 := Scalar.divsi v929 c8_i32_308
  let c1_i32_314 : BitVec 32 := 1#32
  let v1035 : BitVec 32 := Scalar.subi v1020 c1_i32_314
  let v1036 : BitVec 32 := Scalar.select v1034 v1035 v1020
  let v1048 : Index := Scalar.indexCast v1036
  let c8_i32_315 : BitVec 32 := 8#32
  let c0_i32_316 : BitVec 32 := 0#32
  let v1037 : BitVec 1 := Scalar.cmpi .eq c8_i32_315 c0_i32_316
  let c1_i32_317 : BitVec 32 := 1#32
  let v1038 : BitVec 32 := Scalar.select v1037 c1_i32_317 c8_i32_315
  let v1039 : BitVec 32 := Scalar.remsi v929 v1038
  let c0_i32_319 : BitVec 32 := 0#32
  let v1041 : BitVec 1 := Scalar.cmpi .slt v1039 c0_i32_319
  let c0_i32_320 : BitVec 32 := 0#32
  let v1042 : BitVec 1 := Scalar.cmpi .slt v1038 c0_i32_320
  let v1043 : BitVec 1 := Scalar.xori v1041 v1042
  let c0_i32_318 : BitVec 32 := 0#32
  let v1040 : BitVec 1 := Scalar.cmpi .ne v1039 c0_i32_318
  let v1044 : BitVec 1 := Scalar.andi v1043 v1040
  let v1045 : BitVec 32 := Scalar.addi v1039 v1038
  let v1046 : BitVec 32 := Scalar.select v1044 v1045 v1039
  let c16_i32_321 : BitVec 32 := 16#32
  let v1047 : BitVec 32 := Scalar.muli v1046 c16_i32_321
  let v1049 : Index := Scalar.indexCast v1047
  ![v1048.toNat, v1049.toNat]

def k0_chk8 (v929 : BitVec 32) : Prop :=
  (∀ a, (k0_off139 v929) a + S1x16.size a ≤ S512x128.size a) ∧
  (∀ a, (k0_off141 v929) a + S1x16.size a ≤ S512x128.size a) ∧
  (∀ a, (k0_off143 v929) a + S1x16.size a ≤ S512x128.size a) ∧
  (∀ a, (k0_off145 v929) a + S1x16.size a ≤ S512x128.size a) ∧
  (∀ a, (k0_off147 v929) a + S1x16.size a ≤ S512x128.size a) ∧
  (∀ a, (k0_off149 v929) a + S1x16.size a ≤ S512x128.size a) ∧
  (∀ a, (k0_off151 v929) a + S1x16.size a ≤ S512x128.size a) ∧
  (∀ a, (k0_off153 v929) a + S1x16.size a ≤ S512x128.size a) ∧
  (∀ a, (k0_off155 v929) a + S1x16.size a ≤ S64x128.size a)
theorem k0_off139_inb : ∀ (v929 : BitVec 32) (k0_hw8 : k0_chk8 v929), ∀ a, (k0_off139 v929) a + S1x16.size a ≤ S512x128.size a := fun v929 k0_hw8 => k0_hw8.1
theorem k0_off141_inb : ∀ (v929 : BitVec 32) (k0_hw8 : k0_chk8 v929), ∀ a, (k0_off141 v929) a + S1x16.size a ≤ S512x128.size a := fun v929 k0_hw8 => k0_hw8.2.1
theorem k0_off143_inb : ∀ (v929 : BitVec 32) (k0_hw8 : k0_chk8 v929), ∀ a, (k0_off143 v929) a + S1x16.size a ≤ S512x128.size a := fun v929 k0_hw8 => k0_hw8.2.2.1
theorem k0_off145_inb : ∀ (v929 : BitVec 32) (k0_hw8 : k0_chk8 v929), ∀ a, (k0_off145 v929) a + S1x16.size a ≤ S512x128.size a := fun v929 k0_hw8 => k0_hw8.2.2.2.1
theorem k0_off147_inb : ∀ (v929 : BitVec 32) (k0_hw8 : k0_chk8 v929), ∀ a, (k0_off147 v929) a + S1x16.size a ≤ S512x128.size a := fun v929 k0_hw8 => k0_hw8.2.2.2.2.1
theorem k0_off149_inb : ∀ (v929 : BitVec 32) (k0_hw8 : k0_chk8 v929), ∀ a, (k0_off149 v929) a + S1x16.size a ≤ S512x128.size a := fun v929 k0_hw8 => k0_hw8.2.2.2.2.2.1
theorem k0_off151_inb : ∀ (v929 : BitVec 32) (k0_hw8 : k0_chk8 v929), ∀ a, (k0_off151 v929) a + S1x16.size a ≤ S512x128.size a := fun v929 k0_hw8 => k0_hw8.2.2.2.2.2.2.1
theorem k0_off153_inb : ∀ (v929 : BitVec 32) (k0_hw8 : k0_chk8 v929), ∀ a, (k0_off153 v929) a + S1x16.size a ≤ S512x128.size a := fun v929 k0_hw8 => k0_hw8.2.2.2.2.2.2.2.1
theorem k0_off155_inb : ∀ (v929 : BitVec 32) (k0_hw8 : k0_chk8 v929), ∀ a, (k0_off155 v929) a + S1x16.size a ≤ S64x128.size a := fun v929 k0_hw8 => k0_hw8.2.2.2.2.2.2.2.2

def k0_off156 (v1059 : BitVec 32) : Fin 2 → Nat :=
  let v1062 : Index := Scalar.indexCast v1059
  let c0_324 : Index := 0#32
  ![v1062.toNat, 0]

def k0_off157 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1065 : Index := Scalar.indexCast v1061
  let c0_325 : Index := 0#32
  ![v1065.toNat, 0]
def k0_off158 (v1059 : BitVec 32) : Fin 2 → Nat :=
  let v1073 : Index := Scalar.indexCast v1059
  let c16_327 : Index := 16#32
  ![v1073.toNat, 16]
def k0_off159 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1076 : Index := Scalar.indexCast v1061
  let c16_328 : Index := 16#32
  ![v1076.toNat, 16]
def k0_off160 (v1059 : BitVec 32) : Fin 2 → Nat :=
  let v1084 : Index := Scalar.indexCast v1059
  let c32_330 : Index := 32#32
  ![v1084.toNat, 32]
def k0_off161 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1087 : Index := Scalar.indexCast v1061
  let c32_331 : Index := 32#32
  ![v1087.toNat, 32]
def k0_off162 (v1059 : BitVec 32) : Fin 2 → Nat :=
  let v1095 : Index := Scalar.indexCast v1059
  let c48_333 : Index := 48#32
  ![v1095.toNat, 48]
def k0_off163 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1098 : Index := Scalar.indexCast v1061
  let c48_334 : Index := 48#32
  ![v1098.toNat, 48]
def k0_off164 (v1059 : BitVec 32) : Fin 2 → Nat :=
  let v1106 : Index := Scalar.indexCast v1059
  let c64_336 : Index := 64#32
  ![v1106.toNat, 64]
def k0_off165 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1109 : Index := Scalar.indexCast v1061
  let c64_337 : Index := 64#32
  ![v1109.toNat, 64]
def k0_off166 (v1059 : BitVec 32) : Fin 2 → Nat :=
  let v1117 : Index := Scalar.indexCast v1059
  let c80_339 : Index := 80#32
  ![v1117.toNat, 80]
def k0_off167 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1120 : Index := Scalar.indexCast v1061
  let c80_340 : Index := 80#32
  ![v1120.toNat, 80]
def k0_off168 (v1059 : BitVec 32) : Fin 2 → Nat :=
  let v1128 : Index := Scalar.indexCast v1059
  let c96_342 : Index := 96#32
  ![v1128.toNat, 96]
def k0_off169 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1131 : Index := Scalar.indexCast v1061
  let c96_343 : Index := 96#32
  ![v1131.toNat, 96]
def k0_off170 (v1059 : BitVec 32) : Fin 2 → Nat :=
  let v1139 : Index := Scalar.indexCast v1059
  let c112_345 : Index := 112#32
  ![v1139.toNat, 112]
def k0_off171 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_322 : BitVec 32 := 16#32
  let v1060 : BitVec 32 := Scalar.muli arg11 c16_i32_322
  let c8_i32_323 : BitVec 32 := 8#32
  let v1061 : BitVec 32 := Scalar.addi v1060 c8_i32_323
  let v1142 : Index := Scalar.indexCast v1061
  let c112_346 : Index := 112#32
  ![v1142.toNat, 112]
def k0_off172 (v1059 : BitVec 32) : Fin 2 → Nat :=
  let c0_i32_349 : BitVec 32 := 0#32
  let v1151 : BitVec 1 := Scalar.cmpi .sgt v1059 c0_i32_349
  let v1152 : BitVec 32 := Scalar.extui v1151
  let c0_i32_350 : BitVec 32 := 0#32
  let v1153 : BitVec 1 := Scalar.cmpi .slt v1059 c0_i32_350
  let v1154 : BitVec 32 := Scalar.extui v1153
  let v1155 : BitVec 32 := Scalar.subi v1152 v1154
  let c8_i32_348 : BitVec 32 := 8#32
  let c0_i32_351 : BitVec 32 := 0#32
  let v1156 : BitVec 1 := Scalar.cmpi .sgt c8_i32_348 c0_i32_351
  let v1157 : BitVec 32 := Scalar.extui v1156
  let c0_i32_352 : BitVec 32 := 0#32
  let v1158 : BitVec 1 := Scalar.cmpi .slt c8_i32_348 c0_i32_352
  let v1159 : BitVec 32 := Scalar.extui v1158
  let v1160 : BitVec 32 := Scalar.subi v1157 v1159
  let v1161 : BitVec 1 := Scalar.cmpi .ne v1155 v1160
  let v1162 : BitVec 32 := Scalar.remsi v1059 c8_i32_348
  let c0_i32_353 : BitVec 32 := 0#32
  let v1163 : BitVec 1 := Scalar.cmpi .ne v1162 c0_i32_353
  let v1164 : BitVec 1 := Scalar.andi v1161 v1163
  let v1150 : BitVec 32 := Scalar.divsi v1059 c8_i32_348
  let c1_i32_354 : BitVec 32 := 1#32
  let v1165 : BitVec 32 := Scalar.subi v1150 c1_i32_354
  let v1166 : BitVec 32 := Scalar.select v1164 v1165 v1150
  let v1178 : Index := Scalar.indexCast v1166
  let c8_i32_355 : BitVec 32 := 8#32
  let c0_i32_356 : BitVec 32 := 0#32
  let v1167 : BitVec 1 := Scalar.cmpi .eq c8_i32_355 c0_i32_356
  let c1_i32_357 : BitVec 32 := 1#32
  let v1168 : BitVec 32 := Scalar.select v1167 c1_i32_357 c8_i32_355
  let v1169 : BitVec 32 := Scalar.remsi v1059 v1168
  let c0_i32_359 : BitVec 32 := 0#32
  let v1171 : BitVec 1 := Scalar.cmpi .slt v1169 c0_i32_359
  let c0_i32_360 : BitVec 32 := 0#32
  let v1172 : BitVec 1 := Scalar.cmpi .slt v1168 c0_i32_360
  let v1173 : BitVec 1 := Scalar.xori v1171 v1172
  let c0_i32_358 : BitVec 32 := 0#32
  let v1170 : BitVec 1 := Scalar.cmpi .ne v1169 c0_i32_358
  let v1174 : BitVec 1 := Scalar.andi v1173 v1170
  let v1175 : BitVec 32 := Scalar.addi v1169 v1168
  let v1176 : BitVec 32 := Scalar.select v1174 v1175 v1169
  let c16_i32_361 : BitVec 32 := 16#32
  let v1177 : BitVec 32 := Scalar.muli v1176 c16_i32_361
  let v1179 : Index := Scalar.indexCast v1177
  ![v1178.toNat, v1179.toNat]

def k0_chk9 (v1059 : BitVec 32) : Prop :=
  (∀ a, (k0_off156 v1059) a + S1x16.size a ≤ S512x128.size a) ∧
  (∀ a, (k0_off158 v1059) a + S1x16.size a ≤ S512x128.size a) ∧
  (∀ a, (k0_off160 v1059) a + S1x16.size a ≤ S512x128.size a) ∧
  (∀ a, (k0_off162 v1059) a + S1x16.size a ≤ S512x128.size a) ∧
  (∀ a, (k0_off164 v1059) a + S1x16.size a ≤ S512x128.size a) ∧
  (∀ a, (k0_off166 v1059) a + S1x16.size a ≤ S512x128.size a) ∧
  (∀ a, (k0_off168 v1059) a + S1x16.size a ≤ S512x128.size a) ∧
  (∀ a, (k0_off170 v1059) a + S1x16.size a ≤ S512x128.size a) ∧
  (∀ a, (k0_off172 v1059) a + S1x16.size a ≤ S64x128.size a)
theorem k0_off156_inb : ∀ (v1059 : BitVec 32) (k0_hw9 : k0_chk9 v1059), ∀ a, (k0_off156 v1059) a + S1x16.size a ≤ S512x128.size a := fun v1059 k0_hw9 => k0_hw9.1
theorem k0_off158_inb : ∀ (v1059 : BitVec 32) (k0_hw9 : k0_chk9 v1059), ∀ a, (k0_off158 v1059) a + S1x16.size a ≤ S512x128.size a := fun v1059 k0_hw9 => k0_hw9.2.1
theorem k0_off160_inb : ∀ (v1059 : BitVec 32) (k0_hw9 : k0_chk9 v1059), ∀ a, (k0_off160 v1059) a + S1x16.size a ≤ S512x128.size a := fun v1059 k0_hw9 => k0_hw9.2.2.1
theorem k0_off162_inb : ∀ (v1059 : BitVec 32) (k0_hw9 : k0_chk9 v1059), ∀ a, (k0_off162 v1059) a + S1x16.size a ≤ S512x128.size a := fun v1059 k0_hw9 => k0_hw9.2.2.2.1
theorem k0_off164_inb : ∀ (v1059 : BitVec 32) (k0_hw9 : k0_chk9 v1059), ∀ a, (k0_off164 v1059) a + S1x16.size a ≤ S512x128.size a := fun v1059 k0_hw9 => k0_hw9.2.2.2.2.1
theorem k0_off166_inb : ∀ (v1059 : BitVec 32) (k0_hw9 : k0_chk9 v1059), ∀ a, (k0_off166 v1059) a + S1x16.size a ≤ S512x128.size a := fun v1059 k0_hw9 => k0_hw9.2.2.2.2.2.1
theorem k0_off168_inb : ∀ (v1059 : BitVec 32) (k0_hw9 : k0_chk9 v1059), ∀ a, (k0_off168 v1059) a + S1x16.size a ≤ S512x128.size a := fun v1059 k0_hw9 => k0_hw9.2.2.2.2.2.2.1
theorem k0_off170_inb : ∀ (v1059 : BitVec 32) (k0_hw9 : k0_chk9 v1059), ∀ a, (k0_off170 v1059) a + S1x16.size a ≤ S512x128.size a := fun v1059 k0_hw9 => k0_hw9.2.2.2.2.2.2.2.1
theorem k0_off172_inb : ∀ (v1059 : BitVec 32) (k0_hw9 : k0_chk9 v1059), ∀ a, (k0_off172 v1059) a + S1x16.size a ≤ S64x128.size a := fun v1059 k0_hw9 => k0_hw9.2.2.2.2.2.2.2.2

def k0_off173 (v1189 : BitVec 32) : Fin 2 → Nat :=
  let v1192 : Index := Scalar.indexCast v1189
  let c0_363 : Index := 0#32
  ![v1192.toNat, 0]

def k0_off174 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1195 : Index := Scalar.indexCast v1191
  let c0_364 : Index := 0#32
  ![v1195.toNat, 0]
def k0_off175 (v1189 : BitVec 32) : Fin 2 → Nat :=
  let v1203 : Index := Scalar.indexCast v1189
  let c16_366 : Index := 16#32
  ![v1203.toNat, 16]
def k0_off176 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1206 : Index := Scalar.indexCast v1191
  let c16_367 : Index := 16#32
  ![v1206.toNat, 16]
def k0_off177 (v1189 : BitVec 32) : Fin 2 → Nat :=
  let v1214 : Index := Scalar.indexCast v1189
  let c32_369 : Index := 32#32
  ![v1214.toNat, 32]
def k0_off178 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1217 : Index := Scalar.indexCast v1191
  let c32_370 : Index := 32#32
  ![v1217.toNat, 32]
def k0_off179 (v1189 : BitVec 32) : Fin 2 → Nat :=
  let v1225 : Index := Scalar.indexCast v1189
  let c48_372 : Index := 48#32
  ![v1225.toNat, 48]
def k0_off180 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1228 : Index := Scalar.indexCast v1191
  let c48_373 : Index := 48#32
  ![v1228.toNat, 48]
def k0_off181 (v1189 : BitVec 32) : Fin 2 → Nat :=
  let v1236 : Index := Scalar.indexCast v1189
  let c64_375 : Index := 64#32
  ![v1236.toNat, 64]
def k0_off182 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1239 : Index := Scalar.indexCast v1191
  let c64_376 : Index := 64#32
  ![v1239.toNat, 64]
def k0_off183 (v1189 : BitVec 32) : Fin 2 → Nat :=
  let v1247 : Index := Scalar.indexCast v1189
  let c80_378 : Index := 80#32
  ![v1247.toNat, 80]
def k0_off184 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1250 : Index := Scalar.indexCast v1191
  let c80_379 : Index := 80#32
  ![v1250.toNat, 80]
def k0_off185 (v1189 : BitVec 32) : Fin 2 → Nat :=
  let v1258 : Index := Scalar.indexCast v1189
  let c96_381 : Index := 96#32
  ![v1258.toNat, 96]
def k0_off186 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1261 : Index := Scalar.indexCast v1191
  let c96_382 : Index := 96#32
  ![v1261.toNat, 96]
def k0_off187 (v1189 : BitVec 32) : Fin 2 → Nat :=
  let v1269 : Index := Scalar.indexCast v1189
  let c112_384 : Index := 112#32
  ![v1269.toNat, 112]
def k0_off188 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_362 : BitVec 32 := 16#32
  let v1190 : BitVec 32 := Scalar.muli arg11 c16_i32_362
  let c9_i32 : BitVec 32 := 9#32
  let v1191 : BitVec 32 := Scalar.addi v1190 c9_i32
  let v1272 : Index := Scalar.indexCast v1191
  let c112_385 : Index := 112#32
  ![v1272.toNat, 112]
def k0_off189 (v1189 : BitVec 32) : Fin 2 → Nat :=
  let c0_i32_388 : BitVec 32 := 0#32
  let v1281 : BitVec 1 := Scalar.cmpi .sgt v1189 c0_i32_388
  let v1282 : BitVec 32 := Scalar.extui v1281
  let c0_i32_389 : BitVec 32 := 0#32
  let v1283 : BitVec 1 := Scalar.cmpi .slt v1189 c0_i32_389
  let v1284 : BitVec 32 := Scalar.extui v1283
  let v1285 : BitVec 32 := Scalar.subi v1282 v1284
  let c8_i32_387 : BitVec 32 := 8#32
  let c0_i32_390 : BitVec 32 := 0#32
  let v1286 : BitVec 1 := Scalar.cmpi .sgt c8_i32_387 c0_i32_390
  let v1287 : BitVec 32 := Scalar.extui v1286
  let c0_i32_391 : BitVec 32 := 0#32
  let v1288 : BitVec 1 := Scalar.cmpi .slt c8_i32_387 c0_i32_391
  let v1289 : BitVec 32 := Scalar.extui v1288
  let v1290 : BitVec 32 := Scalar.subi v1287 v1289
  let v1291 : BitVec 1 := Scalar.cmpi .ne v1285 v1290
  let v1292 : BitVec 32 := Scalar.remsi v1189 c8_i32_387
  let c0_i32_392 : BitVec 32 := 0#32
  let v1293 : BitVec 1 := Scalar.cmpi .ne v1292 c0_i32_392
  let v1294 : BitVec 1 := Scalar.andi v1291 v1293
  let v1280 : BitVec 32 := Scalar.divsi v1189 c8_i32_387
  let c1_i32_393 : BitVec 32 := 1#32
  let v1295 : BitVec 32 := Scalar.subi v1280 c1_i32_393
  let v1296 : BitVec 32 := Scalar.select v1294 v1295 v1280
  let v1308 : Index := Scalar.indexCast v1296
  let c8_i32_394 : BitVec 32 := 8#32
  let c0_i32_395 : BitVec 32 := 0#32
  let v1297 : BitVec 1 := Scalar.cmpi .eq c8_i32_394 c0_i32_395
  let c1_i32_396 : BitVec 32 := 1#32
  let v1298 : BitVec 32 := Scalar.select v1297 c1_i32_396 c8_i32_394
  let v1299 : BitVec 32 := Scalar.remsi v1189 v1298
  let c0_i32_398 : BitVec 32 := 0#32
  let v1301 : BitVec 1 := Scalar.cmpi .slt v1299 c0_i32_398
  let c0_i32_399 : BitVec 32 := 0#32
  let v1302 : BitVec 1 := Scalar.cmpi .slt v1298 c0_i32_399
  let v1303 : BitVec 1 := Scalar.xori v1301 v1302
  let c0_i32_397 : BitVec 32 := 0#32
  let v1300 : BitVec 1 := Scalar.cmpi .ne v1299 c0_i32_397
  let v1304 : BitVec 1 := Scalar.andi v1303 v1300
  let v1305 : BitVec 32 := Scalar.addi v1299 v1298
  let v1306 : BitVec 32 := Scalar.select v1304 v1305 v1299
  let c16_i32_400 : BitVec 32 := 16#32
  let v1307 : BitVec 32 := Scalar.muli v1306 c16_i32_400
  let v1309 : Index := Scalar.indexCast v1307
  ![v1308.toNat, v1309.toNat]

def k0_chk10 (v1189 : BitVec 32) : Prop :=
  (∀ a, (k0_off173 v1189) a + S1x16.size a ≤ S512x128.size a) ∧
  (∀ a, (k0_off175 v1189) a + S1x16.size a ≤ S512x128.size a) ∧
  (∀ a, (k0_off177 v1189) a + S1x16.size a ≤ S512x128.size a) ∧
  (∀ a, (k0_off179 v1189) a + S1x16.size a ≤ S512x128.size a) ∧
  (∀ a, (k0_off181 v1189) a + S1x16.size a ≤ S512x128.size a) ∧
  (∀ a, (k0_off183 v1189) a + S1x16.size a ≤ S512x128.size a) ∧
  (∀ a, (k0_off185 v1189) a + S1x16.size a ≤ S512x128.size a) ∧
  (∀ a, (k0_off187 v1189) a + S1x16.size a ≤ S512x128.size a) ∧
  (∀ a, (k0_off189 v1189) a + S1x16.size a ≤ S64x128.size a)
theorem k0_off173_inb : ∀ (v1189 : BitVec 32) (k0_hw10 : k0_chk10 v1189), ∀ a, (k0_off173 v1189) a + S1x16.size a ≤ S512x128.size a := fun v1189 k0_hw10 => k0_hw10.1
theorem k0_off175_inb : ∀ (v1189 : BitVec 32) (k0_hw10 : k0_chk10 v1189), ∀ a, (k0_off175 v1189) a + S1x16.size a ≤ S512x128.size a := fun v1189 k0_hw10 => k0_hw10.2.1
theorem k0_off177_inb : ∀ (v1189 : BitVec 32) (k0_hw10 : k0_chk10 v1189), ∀ a, (k0_off177 v1189) a + S1x16.size a ≤ S512x128.size a := fun v1189 k0_hw10 => k0_hw10.2.2.1
theorem k0_off179_inb : ∀ (v1189 : BitVec 32) (k0_hw10 : k0_chk10 v1189), ∀ a, (k0_off179 v1189) a + S1x16.size a ≤ S512x128.size a := fun v1189 k0_hw10 => k0_hw10.2.2.2.1
theorem k0_off181_inb : ∀ (v1189 : BitVec 32) (k0_hw10 : k0_chk10 v1189), ∀ a, (k0_off181 v1189) a + S1x16.size a ≤ S512x128.size a := fun v1189 k0_hw10 => k0_hw10.2.2.2.2.1
theorem k0_off183_inb : ∀ (v1189 : BitVec 32) (k0_hw10 : k0_chk10 v1189), ∀ a, (k0_off183 v1189) a + S1x16.size a ≤ S512x128.size a := fun v1189 k0_hw10 => k0_hw10.2.2.2.2.2.1
theorem k0_off185_inb : ∀ (v1189 : BitVec 32) (k0_hw10 : k0_chk10 v1189), ∀ a, (k0_off185 v1189) a + S1x16.size a ≤ S512x128.size a := fun v1189 k0_hw10 => k0_hw10.2.2.2.2.2.2.1
theorem k0_off187_inb : ∀ (v1189 : BitVec 32) (k0_hw10 : k0_chk10 v1189), ∀ a, (k0_off187 v1189) a + S1x16.size a ≤ S512x128.size a := fun v1189 k0_hw10 => k0_hw10.2.2.2.2.2.2.2.1
theorem k0_off189_inb : ∀ (v1189 : BitVec 32) (k0_hw10 : k0_chk10 v1189), ∀ a, (k0_off189 v1189) a + S1x16.size a ≤ S64x128.size a := fun v1189 k0_hw10 => k0_hw10.2.2.2.2.2.2.2.2

def k0_off190 (v1319 : BitVec 32) : Fin 2 → Nat :=
  let v1322 : Index := Scalar.indexCast v1319
  let c0_403 : Index := 0#32
  ![v1322.toNat, 0]

def k0_off191 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1325 : Index := Scalar.indexCast v1321
  let c0_404 : Index := 0#32
  ![v1325.toNat, 0]
def k0_off192 (v1319 : BitVec 32) : Fin 2 → Nat :=
  let v1333 : Index := Scalar.indexCast v1319
  let c16_406 : Index := 16#32
  ![v1333.toNat, 16]
def k0_off193 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1336 : Index := Scalar.indexCast v1321
  let c16_407 : Index := 16#32
  ![v1336.toNat, 16]
def k0_off194 (v1319 : BitVec 32) : Fin 2 → Nat :=
  let v1344 : Index := Scalar.indexCast v1319
  let c32_409 : Index := 32#32
  ![v1344.toNat, 32]
def k0_off195 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1347 : Index := Scalar.indexCast v1321
  let c32_410 : Index := 32#32
  ![v1347.toNat, 32]
def k0_off196 (v1319 : BitVec 32) : Fin 2 → Nat :=
  let v1355 : Index := Scalar.indexCast v1319
  let c48_412 : Index := 48#32
  ![v1355.toNat, 48]
def k0_off197 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1358 : Index := Scalar.indexCast v1321
  let c48_413 : Index := 48#32
  ![v1358.toNat, 48]
def k0_off198 (v1319 : BitVec 32) : Fin 2 → Nat :=
  let v1366 : Index := Scalar.indexCast v1319
  let c64_415 : Index := 64#32
  ![v1366.toNat, 64]
def k0_off199 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1369 : Index := Scalar.indexCast v1321
  let c64_416 : Index := 64#32
  ![v1369.toNat, 64]
def k0_off200 (v1319 : BitVec 32) : Fin 2 → Nat :=
  let v1377 : Index := Scalar.indexCast v1319
  let c80_418 : Index := 80#32
  ![v1377.toNat, 80]
def k0_off201 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1380 : Index := Scalar.indexCast v1321
  let c80_419 : Index := 80#32
  ![v1380.toNat, 80]
def k0_off202 (v1319 : BitVec 32) : Fin 2 → Nat :=
  let v1388 : Index := Scalar.indexCast v1319
  let c96_421 : Index := 96#32
  ![v1388.toNat, 96]
def k0_off203 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1391 : Index := Scalar.indexCast v1321
  let c96_422 : Index := 96#32
  ![v1391.toNat, 96]
def k0_off204 (v1319 : BitVec 32) : Fin 2 → Nat :=
  let v1399 : Index := Scalar.indexCast v1319
  let c112_424 : Index := 112#32
  ![v1399.toNat, 112]
def k0_off205 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_401 : BitVec 32 := 16#32
  let v1320 : BitVec 32 := Scalar.muli arg11 c16_i32_401
  let c10_i32_402 : BitVec 32 := 10#32
  let v1321 : BitVec 32 := Scalar.addi v1320 c10_i32_402
  let v1402 : Index := Scalar.indexCast v1321
  let c112_425 : Index := 112#32
  ![v1402.toNat, 112]
def k0_off206 (v1319 : BitVec 32) : Fin 2 → Nat :=
  let c0_i32_428 : BitVec 32 := 0#32
  let v1411 : BitVec 1 := Scalar.cmpi .sgt v1319 c0_i32_428
  let v1412 : BitVec 32 := Scalar.extui v1411
  let c0_i32_429 : BitVec 32 := 0#32
  let v1413 : BitVec 1 := Scalar.cmpi .slt v1319 c0_i32_429
  let v1414 : BitVec 32 := Scalar.extui v1413
  let v1415 : BitVec 32 := Scalar.subi v1412 v1414
  let c8_i32_427 : BitVec 32 := 8#32
  let c0_i32_430 : BitVec 32 := 0#32
  let v1416 : BitVec 1 := Scalar.cmpi .sgt c8_i32_427 c0_i32_430
  let v1417 : BitVec 32 := Scalar.extui v1416
  let c0_i32_431 : BitVec 32 := 0#32
  let v1418 : BitVec 1 := Scalar.cmpi .slt c8_i32_427 c0_i32_431
  let v1419 : BitVec 32 := Scalar.extui v1418
  let v1420 : BitVec 32 := Scalar.subi v1417 v1419
  let v1421 : BitVec 1 := Scalar.cmpi .ne v1415 v1420
  let v1422 : BitVec 32 := Scalar.remsi v1319 c8_i32_427
  let c0_i32_432 : BitVec 32 := 0#32
  let v1423 : BitVec 1 := Scalar.cmpi .ne v1422 c0_i32_432
  let v1424 : BitVec 1 := Scalar.andi v1421 v1423
  let v1410 : BitVec 32 := Scalar.divsi v1319 c8_i32_427
  let c1_i32_433 : BitVec 32 := 1#32
  let v1425 : BitVec 32 := Scalar.subi v1410 c1_i32_433
  let v1426 : BitVec 32 := Scalar.select v1424 v1425 v1410
  let v1438 : Index := Scalar.indexCast v1426
  let c8_i32_434 : BitVec 32 := 8#32
  let c0_i32_435 : BitVec 32 := 0#32
  let v1427 : BitVec 1 := Scalar.cmpi .eq c8_i32_434 c0_i32_435
  let c1_i32_436 : BitVec 32 := 1#32
  let v1428 : BitVec 32 := Scalar.select v1427 c1_i32_436 c8_i32_434
  let v1429 : BitVec 32 := Scalar.remsi v1319 v1428
  let c0_i32_438 : BitVec 32 := 0#32
  let v1431 : BitVec 1 := Scalar.cmpi .slt v1429 c0_i32_438
  let c0_i32_439 : BitVec 32 := 0#32
  let v1432 : BitVec 1 := Scalar.cmpi .slt v1428 c0_i32_439
  let v1433 : BitVec 1 := Scalar.xori v1431 v1432
  let c0_i32_437 : BitVec 32 := 0#32
  let v1430 : BitVec 1 := Scalar.cmpi .ne v1429 c0_i32_437
  let v1434 : BitVec 1 := Scalar.andi v1433 v1430
  let v1435 : BitVec 32 := Scalar.addi v1429 v1428
  let v1436 : BitVec 32 := Scalar.select v1434 v1435 v1429
  let c16_i32_440 : BitVec 32 := 16#32
  let v1437 : BitVec 32 := Scalar.muli v1436 c16_i32_440
  let v1439 : Index := Scalar.indexCast v1437
  ![v1438.toNat, v1439.toNat]

def k0_chk11 (v1319 : BitVec 32) : Prop :=
  (∀ a, (k0_off190 v1319) a + S1x16.size a ≤ S512x128.size a) ∧
  (∀ a, (k0_off192 v1319) a + S1x16.size a ≤ S512x128.size a) ∧
  (∀ a, (k0_off194 v1319) a + S1x16.size a ≤ S512x128.size a) ∧
  (∀ a, (k0_off196 v1319) a + S1x16.size a ≤ S512x128.size a) ∧
  (∀ a, (k0_off198 v1319) a + S1x16.size a ≤ S512x128.size a) ∧
  (∀ a, (k0_off200 v1319) a + S1x16.size a ≤ S512x128.size a) ∧
  (∀ a, (k0_off202 v1319) a + S1x16.size a ≤ S512x128.size a) ∧
  (∀ a, (k0_off204 v1319) a + S1x16.size a ≤ S512x128.size a) ∧
  (∀ a, (k0_off206 v1319) a + S1x16.size a ≤ S64x128.size a)
theorem k0_off190_inb : ∀ (v1319 : BitVec 32) (k0_hw11 : k0_chk11 v1319), ∀ a, (k0_off190 v1319) a + S1x16.size a ≤ S512x128.size a := fun v1319 k0_hw11 => k0_hw11.1
theorem k0_off192_inb : ∀ (v1319 : BitVec 32) (k0_hw11 : k0_chk11 v1319), ∀ a, (k0_off192 v1319) a + S1x16.size a ≤ S512x128.size a := fun v1319 k0_hw11 => k0_hw11.2.1
theorem k0_off194_inb : ∀ (v1319 : BitVec 32) (k0_hw11 : k0_chk11 v1319), ∀ a, (k0_off194 v1319) a + S1x16.size a ≤ S512x128.size a := fun v1319 k0_hw11 => k0_hw11.2.2.1
theorem k0_off196_inb : ∀ (v1319 : BitVec 32) (k0_hw11 : k0_chk11 v1319), ∀ a, (k0_off196 v1319) a + S1x16.size a ≤ S512x128.size a := fun v1319 k0_hw11 => k0_hw11.2.2.2.1
theorem k0_off198_inb : ∀ (v1319 : BitVec 32) (k0_hw11 : k0_chk11 v1319), ∀ a, (k0_off198 v1319) a + S1x16.size a ≤ S512x128.size a := fun v1319 k0_hw11 => k0_hw11.2.2.2.2.1
theorem k0_off200_inb : ∀ (v1319 : BitVec 32) (k0_hw11 : k0_chk11 v1319), ∀ a, (k0_off200 v1319) a + S1x16.size a ≤ S512x128.size a := fun v1319 k0_hw11 => k0_hw11.2.2.2.2.2.1
theorem k0_off202_inb : ∀ (v1319 : BitVec 32) (k0_hw11 : k0_chk11 v1319), ∀ a, (k0_off202 v1319) a + S1x16.size a ≤ S512x128.size a := fun v1319 k0_hw11 => k0_hw11.2.2.2.2.2.2.1
theorem k0_off204_inb : ∀ (v1319 : BitVec 32) (k0_hw11 : k0_chk11 v1319), ∀ a, (k0_off204 v1319) a + S1x16.size a ≤ S512x128.size a := fun v1319 k0_hw11 => k0_hw11.2.2.2.2.2.2.2.1
theorem k0_off206_inb : ∀ (v1319 : BitVec 32) (k0_hw11 : k0_chk11 v1319), ∀ a, (k0_off206 v1319) a + S1x16.size a ≤ S64x128.size a := fun v1319 k0_hw11 => k0_hw11.2.2.2.2.2.2.2.2

def k0_off207 (v1449 : BitVec 32) : Fin 2 → Nat :=
  let v1452 : Index := Scalar.indexCast v1449
  let c0_442 : Index := 0#32
  ![v1452.toNat, 0]

def k0_off208 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1455 : Index := Scalar.indexCast v1451
  let c0_443 : Index := 0#32
  ![v1455.toNat, 0]
def k0_off209 (v1449 : BitVec 32) : Fin 2 → Nat :=
  let v1463 : Index := Scalar.indexCast v1449
  let c16_445 : Index := 16#32
  ![v1463.toNat, 16]
def k0_off210 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1466 : Index := Scalar.indexCast v1451
  let c16_446 : Index := 16#32
  ![v1466.toNat, 16]
def k0_off211 (v1449 : BitVec 32) : Fin 2 → Nat :=
  let v1474 : Index := Scalar.indexCast v1449
  let c32_448 : Index := 32#32
  ![v1474.toNat, 32]
def k0_off212 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1477 : Index := Scalar.indexCast v1451
  let c32_449 : Index := 32#32
  ![v1477.toNat, 32]
def k0_off213 (v1449 : BitVec 32) : Fin 2 → Nat :=
  let v1485 : Index := Scalar.indexCast v1449
  let c48_451 : Index := 48#32
  ![v1485.toNat, 48]
def k0_off214 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1488 : Index := Scalar.indexCast v1451
  let c48_452 : Index := 48#32
  ![v1488.toNat, 48]
def k0_off215 (v1449 : BitVec 32) : Fin 2 → Nat :=
  let v1496 : Index := Scalar.indexCast v1449
  let c64_454 : Index := 64#32
  ![v1496.toNat, 64]
def k0_off216 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1499 : Index := Scalar.indexCast v1451
  let c64_455 : Index := 64#32
  ![v1499.toNat, 64]
def k0_off217 (v1449 : BitVec 32) : Fin 2 → Nat :=
  let v1507 : Index := Scalar.indexCast v1449
  let c80_457 : Index := 80#32
  ![v1507.toNat, 80]
def k0_off218 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1510 : Index := Scalar.indexCast v1451
  let c80_458 : Index := 80#32
  ![v1510.toNat, 80]
def k0_off219 (v1449 : BitVec 32) : Fin 2 → Nat :=
  let v1518 : Index := Scalar.indexCast v1449
  let c96_460 : Index := 96#32
  ![v1518.toNat, 96]
def k0_off220 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1521 : Index := Scalar.indexCast v1451
  let c96_461 : Index := 96#32
  ![v1521.toNat, 96]
def k0_off221 (v1449 : BitVec 32) : Fin 2 → Nat :=
  let v1529 : Index := Scalar.indexCast v1449
  let c112_463 : Index := 112#32
  ![v1529.toNat, 112]
def k0_off222 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_441 : BitVec 32 := 16#32
  let v1450 : BitVec 32 := Scalar.muli arg11 c16_i32_441
  let c11_i32 : BitVec 32 := 11#32
  let v1451 : BitVec 32 := Scalar.addi v1450 c11_i32
  let v1532 : Index := Scalar.indexCast v1451
  let c112_464 : Index := 112#32
  ![v1532.toNat, 112]
def k0_off223 (v1449 : BitVec 32) : Fin 2 → Nat :=
  let c0_i32_467 : BitVec 32 := 0#32
  let v1541 : BitVec 1 := Scalar.cmpi .sgt v1449 c0_i32_467
  let v1542 : BitVec 32 := Scalar.extui v1541
  let c0_i32_468 : BitVec 32 := 0#32
  let v1543 : BitVec 1 := Scalar.cmpi .slt v1449 c0_i32_468
  let v1544 : BitVec 32 := Scalar.extui v1543
  let v1545 : BitVec 32 := Scalar.subi v1542 v1544
  let c8_i32_466 : BitVec 32 := 8#32
  let c0_i32_469 : BitVec 32 := 0#32
  let v1546 : BitVec 1 := Scalar.cmpi .sgt c8_i32_466 c0_i32_469
  let v1547 : BitVec 32 := Scalar.extui v1546
  let c0_i32_470 : BitVec 32 := 0#32
  let v1548 : BitVec 1 := Scalar.cmpi .slt c8_i32_466 c0_i32_470
  let v1549 : BitVec 32 := Scalar.extui v1548
  let v1550 : BitVec 32 := Scalar.subi v1547 v1549
  let v1551 : BitVec 1 := Scalar.cmpi .ne v1545 v1550
  let v1552 : BitVec 32 := Scalar.remsi v1449 c8_i32_466
  let c0_i32_471 : BitVec 32 := 0#32
  let v1553 : BitVec 1 := Scalar.cmpi .ne v1552 c0_i32_471
  let v1554 : BitVec 1 := Scalar.andi v1551 v1553
  let v1540 : BitVec 32 := Scalar.divsi v1449 c8_i32_466
  let c1_i32_472 : BitVec 32 := 1#32
  let v1555 : BitVec 32 := Scalar.subi v1540 c1_i32_472
  let v1556 : BitVec 32 := Scalar.select v1554 v1555 v1540
  let v1568 : Index := Scalar.indexCast v1556
  let c8_i32_473 : BitVec 32 := 8#32
  let c0_i32_474 : BitVec 32 := 0#32
  let v1557 : BitVec 1 := Scalar.cmpi .eq c8_i32_473 c0_i32_474
  let c1_i32_475 : BitVec 32 := 1#32
  let v1558 : BitVec 32 := Scalar.select v1557 c1_i32_475 c8_i32_473
  let v1559 : BitVec 32 := Scalar.remsi v1449 v1558
  let c0_i32_477 : BitVec 32 := 0#32
  let v1561 : BitVec 1 := Scalar.cmpi .slt v1559 c0_i32_477
  let c0_i32_478 : BitVec 32 := 0#32
  let v1562 : BitVec 1 := Scalar.cmpi .slt v1558 c0_i32_478
  let v1563 : BitVec 1 := Scalar.xori v1561 v1562
  let c0_i32_476 : BitVec 32 := 0#32
  let v1560 : BitVec 1 := Scalar.cmpi .ne v1559 c0_i32_476
  let v1564 : BitVec 1 := Scalar.andi v1563 v1560
  let v1565 : BitVec 32 := Scalar.addi v1559 v1558
  let v1566 : BitVec 32 := Scalar.select v1564 v1565 v1559
  let c16_i32_479 : BitVec 32 := 16#32
  let v1567 : BitVec 32 := Scalar.muli v1566 c16_i32_479
  let v1569 : Index := Scalar.indexCast v1567
  ![v1568.toNat, v1569.toNat]

def k0_chk12 (v1449 : BitVec 32) : Prop :=
  (∀ a, (k0_off207 v1449) a + S1x16.size a ≤ S512x128.size a) ∧
  (∀ a, (k0_off209 v1449) a + S1x16.size a ≤ S512x128.size a) ∧
  (∀ a, (k0_off211 v1449) a + S1x16.size a ≤ S512x128.size a) ∧
  (∀ a, (k0_off213 v1449) a + S1x16.size a ≤ S512x128.size a) ∧
  (∀ a, (k0_off215 v1449) a + S1x16.size a ≤ S512x128.size a) ∧
  (∀ a, (k0_off217 v1449) a + S1x16.size a ≤ S512x128.size a) ∧
  (∀ a, (k0_off219 v1449) a + S1x16.size a ≤ S512x128.size a) ∧
  (∀ a, (k0_off221 v1449) a + S1x16.size a ≤ S512x128.size a) ∧
  (∀ a, (k0_off223 v1449) a + S1x16.size a ≤ S64x128.size a)
theorem k0_off207_inb : ∀ (v1449 : BitVec 32) (k0_hw12 : k0_chk12 v1449), ∀ a, (k0_off207 v1449) a + S1x16.size a ≤ S512x128.size a := fun v1449 k0_hw12 => k0_hw12.1
theorem k0_off209_inb : ∀ (v1449 : BitVec 32) (k0_hw12 : k0_chk12 v1449), ∀ a, (k0_off209 v1449) a + S1x16.size a ≤ S512x128.size a := fun v1449 k0_hw12 => k0_hw12.2.1
theorem k0_off211_inb : ∀ (v1449 : BitVec 32) (k0_hw12 : k0_chk12 v1449), ∀ a, (k0_off211 v1449) a + S1x16.size a ≤ S512x128.size a := fun v1449 k0_hw12 => k0_hw12.2.2.1
theorem k0_off213_inb : ∀ (v1449 : BitVec 32) (k0_hw12 : k0_chk12 v1449), ∀ a, (k0_off213 v1449) a + S1x16.size a ≤ S512x128.size a := fun v1449 k0_hw12 => k0_hw12.2.2.2.1
theorem k0_off215_inb : ∀ (v1449 : BitVec 32) (k0_hw12 : k0_chk12 v1449), ∀ a, (k0_off215 v1449) a + S1x16.size a ≤ S512x128.size a := fun v1449 k0_hw12 => k0_hw12.2.2.2.2.1
theorem k0_off217_inb : ∀ (v1449 : BitVec 32) (k0_hw12 : k0_chk12 v1449), ∀ a, (k0_off217 v1449) a + S1x16.size a ≤ S512x128.size a := fun v1449 k0_hw12 => k0_hw12.2.2.2.2.2.1
theorem k0_off219_inb : ∀ (v1449 : BitVec 32) (k0_hw12 : k0_chk12 v1449), ∀ a, (k0_off219 v1449) a + S1x16.size a ≤ S512x128.size a := fun v1449 k0_hw12 => k0_hw12.2.2.2.2.2.2.1
theorem k0_off221_inb : ∀ (v1449 : BitVec 32) (k0_hw12 : k0_chk12 v1449), ∀ a, (k0_off221 v1449) a + S1x16.size a ≤ S512x128.size a := fun v1449 k0_hw12 => k0_hw12.2.2.2.2.2.2.2.1
theorem k0_off223_inb : ∀ (v1449 : BitVec 32) (k0_hw12 : k0_chk12 v1449), ∀ a, (k0_off223 v1449) a + S1x16.size a ≤ S64x128.size a := fun v1449 k0_hw12 => k0_hw12.2.2.2.2.2.2.2.2

def k0_off224 (v1579 : BitVec 32) : Fin 2 → Nat :=
  let v1582 : Index := Scalar.indexCast v1579
  let c0_481 : Index := 0#32
  ![v1582.toNat, 0]

def k0_off225 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1585 : Index := Scalar.indexCast v1581
  let c0_482 : Index := 0#32
  ![v1585.toNat, 0]
def k0_off226 (v1579 : BitVec 32) : Fin 2 → Nat :=
  let v1593 : Index := Scalar.indexCast v1579
  let c16_484 : Index := 16#32
  ![v1593.toNat, 16]
def k0_off227 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1596 : Index := Scalar.indexCast v1581
  let c16_485 : Index := 16#32
  ![v1596.toNat, 16]
def k0_off228 (v1579 : BitVec 32) : Fin 2 → Nat :=
  let v1604 : Index := Scalar.indexCast v1579
  let c32_487 : Index := 32#32
  ![v1604.toNat, 32]
def k0_off229 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1607 : Index := Scalar.indexCast v1581
  let c32_488 : Index := 32#32
  ![v1607.toNat, 32]
def k0_off230 (v1579 : BitVec 32) : Fin 2 → Nat :=
  let v1615 : Index := Scalar.indexCast v1579
  let c48_490 : Index := 48#32
  ![v1615.toNat, 48]
def k0_off231 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1618 : Index := Scalar.indexCast v1581
  let c48_491 : Index := 48#32
  ![v1618.toNat, 48]
def k0_off232 (v1579 : BitVec 32) : Fin 2 → Nat :=
  let v1626 : Index := Scalar.indexCast v1579
  let c64_493 : Index := 64#32
  ![v1626.toNat, 64]
def k0_off233 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1629 : Index := Scalar.indexCast v1581
  let c64_494 : Index := 64#32
  ![v1629.toNat, 64]
def k0_off234 (v1579 : BitVec 32) : Fin 2 → Nat :=
  let v1637 : Index := Scalar.indexCast v1579
  let c80_496 : Index := 80#32
  ![v1637.toNat, 80]
def k0_off235 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1640 : Index := Scalar.indexCast v1581
  let c80_497 : Index := 80#32
  ![v1640.toNat, 80]
def k0_off236 (v1579 : BitVec 32) : Fin 2 → Nat :=
  let v1648 : Index := Scalar.indexCast v1579
  let c96_499 : Index := 96#32
  ![v1648.toNat, 96]
def k0_off237 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1651 : Index := Scalar.indexCast v1581
  let c96_500 : Index := 96#32
  ![v1651.toNat, 96]
def k0_off238 (v1579 : BitVec 32) : Fin 2 → Nat :=
  let v1659 : Index := Scalar.indexCast v1579
  let c112_502 : Index := 112#32
  ![v1659.toNat, 112]
def k0_off239 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_480 : BitVec 32 := 16#32
  let v1580 : BitVec 32 := Scalar.muli arg11 c16_i32_480
  let c12_i32 : BitVec 32 := 12#32
  let v1581 : BitVec 32 := Scalar.addi v1580 c12_i32
  let v1662 : Index := Scalar.indexCast v1581
  let c112_503 : Index := 112#32
  ![v1662.toNat, 112]
def k0_off240 (v1579 : BitVec 32) : Fin 2 → Nat :=
  let c0_i32_506 : BitVec 32 := 0#32
  let v1671 : BitVec 1 := Scalar.cmpi .sgt v1579 c0_i32_506
  let v1672 : BitVec 32 := Scalar.extui v1671
  let c0_i32_507 : BitVec 32 := 0#32
  let v1673 : BitVec 1 := Scalar.cmpi .slt v1579 c0_i32_507
  let v1674 : BitVec 32 := Scalar.extui v1673
  let v1675 : BitVec 32 := Scalar.subi v1672 v1674
  let c8_i32_505 : BitVec 32 := 8#32
  let c0_i32_508 : BitVec 32 := 0#32
  let v1676 : BitVec 1 := Scalar.cmpi .sgt c8_i32_505 c0_i32_508
  let v1677 : BitVec 32 := Scalar.extui v1676
  let c0_i32_509 : BitVec 32 := 0#32
  let v1678 : BitVec 1 := Scalar.cmpi .slt c8_i32_505 c0_i32_509
  let v1679 : BitVec 32 := Scalar.extui v1678
  let v1680 : BitVec 32 := Scalar.subi v1677 v1679
  let v1681 : BitVec 1 := Scalar.cmpi .ne v1675 v1680
  let v1682 : BitVec 32 := Scalar.remsi v1579 c8_i32_505
  let c0_i32_510 : BitVec 32 := 0#32
  let v1683 : BitVec 1 := Scalar.cmpi .ne v1682 c0_i32_510
  let v1684 : BitVec 1 := Scalar.andi v1681 v1683
  let v1670 : BitVec 32 := Scalar.divsi v1579 c8_i32_505
  let c1_i32_511 : BitVec 32 := 1#32
  let v1685 : BitVec 32 := Scalar.subi v1670 c1_i32_511
  let v1686 : BitVec 32 := Scalar.select v1684 v1685 v1670
  let v1698 : Index := Scalar.indexCast v1686
  let c8_i32_512 : BitVec 32 := 8#32
  let c0_i32_513 : BitVec 32 := 0#32
  let v1687 : BitVec 1 := Scalar.cmpi .eq c8_i32_512 c0_i32_513
  let c1_i32_514 : BitVec 32 := 1#32
  let v1688 : BitVec 32 := Scalar.select v1687 c1_i32_514 c8_i32_512
  let v1689 : BitVec 32 := Scalar.remsi v1579 v1688
  let c0_i32_516 : BitVec 32 := 0#32
  let v1691 : BitVec 1 := Scalar.cmpi .slt v1689 c0_i32_516
  let c0_i32_517 : BitVec 32 := 0#32
  let v1692 : BitVec 1 := Scalar.cmpi .slt v1688 c0_i32_517
  let v1693 : BitVec 1 := Scalar.xori v1691 v1692
  let c0_i32_515 : BitVec 32 := 0#32
  let v1690 : BitVec 1 := Scalar.cmpi .ne v1689 c0_i32_515
  let v1694 : BitVec 1 := Scalar.andi v1693 v1690
  let v1695 : BitVec 32 := Scalar.addi v1689 v1688
  let v1696 : BitVec 32 := Scalar.select v1694 v1695 v1689
  let c16_i32_518 : BitVec 32 := 16#32
  let v1697 : BitVec 32 := Scalar.muli v1696 c16_i32_518
  let v1699 : Index := Scalar.indexCast v1697
  ![v1698.toNat, v1699.toNat]

def k0_chk13 (v1579 : BitVec 32) : Prop :=
  (∀ a, (k0_off224 v1579) a + S1x16.size a ≤ S512x128.size a) ∧
  (∀ a, (k0_off226 v1579) a + S1x16.size a ≤ S512x128.size a) ∧
  (∀ a, (k0_off228 v1579) a + S1x16.size a ≤ S512x128.size a) ∧
  (∀ a, (k0_off230 v1579) a + S1x16.size a ≤ S512x128.size a) ∧
  (∀ a, (k0_off232 v1579) a + S1x16.size a ≤ S512x128.size a) ∧
  (∀ a, (k0_off234 v1579) a + S1x16.size a ≤ S512x128.size a) ∧
  (∀ a, (k0_off236 v1579) a + S1x16.size a ≤ S512x128.size a) ∧
  (∀ a, (k0_off238 v1579) a + S1x16.size a ≤ S512x128.size a) ∧
  (∀ a, (k0_off240 v1579) a + S1x16.size a ≤ S64x128.size a)
theorem k0_off224_inb : ∀ (v1579 : BitVec 32) (k0_hw13 : k0_chk13 v1579), ∀ a, (k0_off224 v1579) a + S1x16.size a ≤ S512x128.size a := fun v1579 k0_hw13 => k0_hw13.1
theorem k0_off226_inb : ∀ (v1579 : BitVec 32) (k0_hw13 : k0_chk13 v1579), ∀ a, (k0_off226 v1579) a + S1x16.size a ≤ S512x128.size a := fun v1579 k0_hw13 => k0_hw13.2.1
theorem k0_off228_inb : ∀ (v1579 : BitVec 32) (k0_hw13 : k0_chk13 v1579), ∀ a, (k0_off228 v1579) a + S1x16.size a ≤ S512x128.size a := fun v1579 k0_hw13 => k0_hw13.2.2.1
theorem k0_off230_inb : ∀ (v1579 : BitVec 32) (k0_hw13 : k0_chk13 v1579), ∀ a, (k0_off230 v1579) a + S1x16.size a ≤ S512x128.size a := fun v1579 k0_hw13 => k0_hw13.2.2.2.1
theorem k0_off232_inb : ∀ (v1579 : BitVec 32) (k0_hw13 : k0_chk13 v1579), ∀ a, (k0_off232 v1579) a + S1x16.size a ≤ S512x128.size a := fun v1579 k0_hw13 => k0_hw13.2.2.2.2.1
theorem k0_off234_inb : ∀ (v1579 : BitVec 32) (k0_hw13 : k0_chk13 v1579), ∀ a, (k0_off234 v1579) a + S1x16.size a ≤ S512x128.size a := fun v1579 k0_hw13 => k0_hw13.2.2.2.2.2.1
theorem k0_off236_inb : ∀ (v1579 : BitVec 32) (k0_hw13 : k0_chk13 v1579), ∀ a, (k0_off236 v1579) a + S1x16.size a ≤ S512x128.size a := fun v1579 k0_hw13 => k0_hw13.2.2.2.2.2.2.1
theorem k0_off238_inb : ∀ (v1579 : BitVec 32) (k0_hw13 : k0_chk13 v1579), ∀ a, (k0_off238 v1579) a + S1x16.size a ≤ S512x128.size a := fun v1579 k0_hw13 => k0_hw13.2.2.2.2.2.2.2.1
theorem k0_off240_inb : ∀ (v1579 : BitVec 32) (k0_hw13 : k0_chk13 v1579), ∀ a, (k0_off240 v1579) a + S1x16.size a ≤ S64x128.size a := fun v1579 k0_hw13 => k0_hw13.2.2.2.2.2.2.2.2

def k0_off241 (v1709 : BitVec 32) : Fin 2 → Nat :=
  let v1712 : Index := Scalar.indexCast v1709
  let c0_520 : Index := 0#32
  ![v1712.toNat, 0]

def k0_off242 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1715 : Index := Scalar.indexCast v1711
  let c0_521 : Index := 0#32
  ![v1715.toNat, 0]
def k0_off243 (v1709 : BitVec 32) : Fin 2 → Nat :=
  let v1723 : Index := Scalar.indexCast v1709
  let c16_523 : Index := 16#32
  ![v1723.toNat, 16]
def k0_off244 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1726 : Index := Scalar.indexCast v1711
  let c16_524 : Index := 16#32
  ![v1726.toNat, 16]
def k0_off245 (v1709 : BitVec 32) : Fin 2 → Nat :=
  let v1734 : Index := Scalar.indexCast v1709
  let c32_526 : Index := 32#32
  ![v1734.toNat, 32]
def k0_off246 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1737 : Index := Scalar.indexCast v1711
  let c32_527 : Index := 32#32
  ![v1737.toNat, 32]
def k0_off247 (v1709 : BitVec 32) : Fin 2 → Nat :=
  let v1745 : Index := Scalar.indexCast v1709
  let c48_529 : Index := 48#32
  ![v1745.toNat, 48]
def k0_off248 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1748 : Index := Scalar.indexCast v1711
  let c48_530 : Index := 48#32
  ![v1748.toNat, 48]
def k0_off249 (v1709 : BitVec 32) : Fin 2 → Nat :=
  let v1756 : Index := Scalar.indexCast v1709
  let c64_532 : Index := 64#32
  ![v1756.toNat, 64]
def k0_off250 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1759 : Index := Scalar.indexCast v1711
  let c64_533 : Index := 64#32
  ![v1759.toNat, 64]
def k0_off251 (v1709 : BitVec 32) : Fin 2 → Nat :=
  let v1767 : Index := Scalar.indexCast v1709
  let c80_535 : Index := 80#32
  ![v1767.toNat, 80]
def k0_off252 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1770 : Index := Scalar.indexCast v1711
  let c80_536 : Index := 80#32
  ![v1770.toNat, 80]
def k0_off253 (v1709 : BitVec 32) : Fin 2 → Nat :=
  let v1778 : Index := Scalar.indexCast v1709
  let c96_538 : Index := 96#32
  ![v1778.toNat, 96]
def k0_off254 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1781 : Index := Scalar.indexCast v1711
  let c96_539 : Index := 96#32
  ![v1781.toNat, 96]
def k0_off255 (v1709 : BitVec 32) : Fin 2 → Nat :=
  let v1789 : Index := Scalar.indexCast v1709
  let c112_541 : Index := 112#32
  ![v1789.toNat, 112]
def k0_off256 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_519 : BitVec 32 := 16#32
  let v1710 : BitVec 32 := Scalar.muli arg11 c16_i32_519
  let c13_i32 : BitVec 32 := 13#32
  let v1711 : BitVec 32 := Scalar.addi v1710 c13_i32
  let v1792 : Index := Scalar.indexCast v1711
  let c112_542 : Index := 112#32
  ![v1792.toNat, 112]
def k0_off257 (v1709 : BitVec 32) : Fin 2 → Nat :=
  let c0_i32_545 : BitVec 32 := 0#32
  let v1801 : BitVec 1 := Scalar.cmpi .sgt v1709 c0_i32_545
  let v1802 : BitVec 32 := Scalar.extui v1801
  let c0_i32_546 : BitVec 32 := 0#32
  let v1803 : BitVec 1 := Scalar.cmpi .slt v1709 c0_i32_546
  let v1804 : BitVec 32 := Scalar.extui v1803
  let v1805 : BitVec 32 := Scalar.subi v1802 v1804
  let c8_i32_544 : BitVec 32 := 8#32
  let c0_i32_547 : BitVec 32 := 0#32
  let v1806 : BitVec 1 := Scalar.cmpi .sgt c8_i32_544 c0_i32_547
  let v1807 : BitVec 32 := Scalar.extui v1806
  let c0_i32_548 : BitVec 32 := 0#32
  let v1808 : BitVec 1 := Scalar.cmpi .slt c8_i32_544 c0_i32_548
  let v1809 : BitVec 32 := Scalar.extui v1808
  let v1810 : BitVec 32 := Scalar.subi v1807 v1809
  let v1811 : BitVec 1 := Scalar.cmpi .ne v1805 v1810
  let v1812 : BitVec 32 := Scalar.remsi v1709 c8_i32_544
  let c0_i32_549 : BitVec 32 := 0#32
  let v1813 : BitVec 1 := Scalar.cmpi .ne v1812 c0_i32_549
  let v1814 : BitVec 1 := Scalar.andi v1811 v1813
  let v1800 : BitVec 32 := Scalar.divsi v1709 c8_i32_544
  let c1_i32_550 : BitVec 32 := 1#32
  let v1815 : BitVec 32 := Scalar.subi v1800 c1_i32_550
  let v1816 : BitVec 32 := Scalar.select v1814 v1815 v1800
  let v1828 : Index := Scalar.indexCast v1816
  let c8_i32_551 : BitVec 32 := 8#32
  let c0_i32_552 : BitVec 32 := 0#32
  let v1817 : BitVec 1 := Scalar.cmpi .eq c8_i32_551 c0_i32_552
  let c1_i32_553 : BitVec 32 := 1#32
  let v1818 : BitVec 32 := Scalar.select v1817 c1_i32_553 c8_i32_551
  let v1819 : BitVec 32 := Scalar.remsi v1709 v1818
  let c0_i32_555 : BitVec 32 := 0#32
  let v1821 : BitVec 1 := Scalar.cmpi .slt v1819 c0_i32_555
  let c0_i32_556 : BitVec 32 := 0#32
  let v1822 : BitVec 1 := Scalar.cmpi .slt v1818 c0_i32_556
  let v1823 : BitVec 1 := Scalar.xori v1821 v1822
  let c0_i32_554 : BitVec 32 := 0#32
  let v1820 : BitVec 1 := Scalar.cmpi .ne v1819 c0_i32_554
  let v1824 : BitVec 1 := Scalar.andi v1823 v1820
  let v1825 : BitVec 32 := Scalar.addi v1819 v1818
  let v1826 : BitVec 32 := Scalar.select v1824 v1825 v1819
  let c16_i32_557 : BitVec 32 := 16#32
  let v1827 : BitVec 32 := Scalar.muli v1826 c16_i32_557
  let v1829 : Index := Scalar.indexCast v1827
  ![v1828.toNat, v1829.toNat]

def k0_chk14 (v1709 : BitVec 32) : Prop :=
  (∀ a, (k0_off241 v1709) a + S1x16.size a ≤ S512x128.size a) ∧
  (∀ a, (k0_off243 v1709) a + S1x16.size a ≤ S512x128.size a) ∧
  (∀ a, (k0_off245 v1709) a + S1x16.size a ≤ S512x128.size a) ∧
  (∀ a, (k0_off247 v1709) a + S1x16.size a ≤ S512x128.size a) ∧
  (∀ a, (k0_off249 v1709) a + S1x16.size a ≤ S512x128.size a) ∧
  (∀ a, (k0_off251 v1709) a + S1x16.size a ≤ S512x128.size a) ∧
  (∀ a, (k0_off253 v1709) a + S1x16.size a ≤ S512x128.size a) ∧
  (∀ a, (k0_off255 v1709) a + S1x16.size a ≤ S512x128.size a) ∧
  (∀ a, (k0_off257 v1709) a + S1x16.size a ≤ S64x128.size a)
theorem k0_off241_inb : ∀ (v1709 : BitVec 32) (k0_hw14 : k0_chk14 v1709), ∀ a, (k0_off241 v1709) a + S1x16.size a ≤ S512x128.size a := fun v1709 k0_hw14 => k0_hw14.1
theorem k0_off243_inb : ∀ (v1709 : BitVec 32) (k0_hw14 : k0_chk14 v1709), ∀ a, (k0_off243 v1709) a + S1x16.size a ≤ S512x128.size a := fun v1709 k0_hw14 => k0_hw14.2.1
theorem k0_off245_inb : ∀ (v1709 : BitVec 32) (k0_hw14 : k0_chk14 v1709), ∀ a, (k0_off245 v1709) a + S1x16.size a ≤ S512x128.size a := fun v1709 k0_hw14 => k0_hw14.2.2.1
theorem k0_off247_inb : ∀ (v1709 : BitVec 32) (k0_hw14 : k0_chk14 v1709), ∀ a, (k0_off247 v1709) a + S1x16.size a ≤ S512x128.size a := fun v1709 k0_hw14 => k0_hw14.2.2.2.1
theorem k0_off249_inb : ∀ (v1709 : BitVec 32) (k0_hw14 : k0_chk14 v1709), ∀ a, (k0_off249 v1709) a + S1x16.size a ≤ S512x128.size a := fun v1709 k0_hw14 => k0_hw14.2.2.2.2.1
theorem k0_off251_inb : ∀ (v1709 : BitVec 32) (k0_hw14 : k0_chk14 v1709), ∀ a, (k0_off251 v1709) a + S1x16.size a ≤ S512x128.size a := fun v1709 k0_hw14 => k0_hw14.2.2.2.2.2.1
theorem k0_off253_inb : ∀ (v1709 : BitVec 32) (k0_hw14 : k0_chk14 v1709), ∀ a, (k0_off253 v1709) a + S1x16.size a ≤ S512x128.size a := fun v1709 k0_hw14 => k0_hw14.2.2.2.2.2.2.1
theorem k0_off255_inb : ∀ (v1709 : BitVec 32) (k0_hw14 : k0_chk14 v1709), ∀ a, (k0_off255 v1709) a + S1x16.size a ≤ S512x128.size a := fun v1709 k0_hw14 => k0_hw14.2.2.2.2.2.2.2.1
theorem k0_off257_inb : ∀ (v1709 : BitVec 32) (k0_hw14 : k0_chk14 v1709), ∀ a, (k0_off257 v1709) a + S1x16.size a ≤ S64x128.size a := fun v1709 k0_hw14 => k0_hw14.2.2.2.2.2.2.2.2

def k0_off258 (v1839 : BitVec 32) : Fin 2 → Nat :=
  let v1842 : Index := Scalar.indexCast v1839
  let c0_559 : Index := 0#32
  ![v1842.toNat, 0]

def k0_off259 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1845 : Index := Scalar.indexCast v1841
  let c0_560 : Index := 0#32
  ![v1845.toNat, 0]
def k0_off260 (v1839 : BitVec 32) : Fin 2 → Nat :=
  let v1853 : Index := Scalar.indexCast v1839
  let c16_562 : Index := 16#32
  ![v1853.toNat, 16]
def k0_off261 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1856 : Index := Scalar.indexCast v1841
  let c16_563 : Index := 16#32
  ![v1856.toNat, 16]
def k0_off262 (v1839 : BitVec 32) : Fin 2 → Nat :=
  let v1864 : Index := Scalar.indexCast v1839
  let c32_565 : Index := 32#32
  ![v1864.toNat, 32]
def k0_off263 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1867 : Index := Scalar.indexCast v1841
  let c32_566 : Index := 32#32
  ![v1867.toNat, 32]
def k0_off264 (v1839 : BitVec 32) : Fin 2 → Nat :=
  let v1875 : Index := Scalar.indexCast v1839
  let c48_568 : Index := 48#32
  ![v1875.toNat, 48]
def k0_off265 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1878 : Index := Scalar.indexCast v1841
  let c48_569 : Index := 48#32
  ![v1878.toNat, 48]
def k0_off266 (v1839 : BitVec 32) : Fin 2 → Nat :=
  let v1886 : Index := Scalar.indexCast v1839
  let c64_571 : Index := 64#32
  ![v1886.toNat, 64]
def k0_off267 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1889 : Index := Scalar.indexCast v1841
  let c64_572 : Index := 64#32
  ![v1889.toNat, 64]
def k0_off268 (v1839 : BitVec 32) : Fin 2 → Nat :=
  let v1897 : Index := Scalar.indexCast v1839
  let c80_574 : Index := 80#32
  ![v1897.toNat, 80]
def k0_off269 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1900 : Index := Scalar.indexCast v1841
  let c80_575 : Index := 80#32
  ![v1900.toNat, 80]
def k0_off270 (v1839 : BitVec 32) : Fin 2 → Nat :=
  let v1908 : Index := Scalar.indexCast v1839
  let c96_577 : Index := 96#32
  ![v1908.toNat, 96]
def k0_off271 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1911 : Index := Scalar.indexCast v1841
  let c96_578 : Index := 96#32
  ![v1911.toNat, 96]
def k0_off272 (v1839 : BitVec 32) : Fin 2 → Nat :=
  let v1919 : Index := Scalar.indexCast v1839
  let c112_580 : Index := 112#32
  ![v1919.toNat, 112]
def k0_off273 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_558 : BitVec 32 := 16#32
  let v1840 : BitVec 32 := Scalar.muli arg11 c16_i32_558
  let c14_i32 : BitVec 32 := 14#32
  let v1841 : BitVec 32 := Scalar.addi v1840 c14_i32
  let v1922 : Index := Scalar.indexCast v1841
  let c112_581 : Index := 112#32
  ![v1922.toNat, 112]
def k0_off274 (v1839 : BitVec 32) : Fin 2 → Nat :=
  let c0_i32_584 : BitVec 32 := 0#32
  let v1931 : BitVec 1 := Scalar.cmpi .sgt v1839 c0_i32_584
  let v1932 : BitVec 32 := Scalar.extui v1931
  let c0_i32_585 : BitVec 32 := 0#32
  let v1933 : BitVec 1 := Scalar.cmpi .slt v1839 c0_i32_585
  let v1934 : BitVec 32 := Scalar.extui v1933
  let v1935 : BitVec 32 := Scalar.subi v1932 v1934
  let c8_i32_583 : BitVec 32 := 8#32
  let c0_i32_586 : BitVec 32 := 0#32
  let v1936 : BitVec 1 := Scalar.cmpi .sgt c8_i32_583 c0_i32_586
  let v1937 : BitVec 32 := Scalar.extui v1936
  let c0_i32_587 : BitVec 32 := 0#32
  let v1938 : BitVec 1 := Scalar.cmpi .slt c8_i32_583 c0_i32_587
  let v1939 : BitVec 32 := Scalar.extui v1938
  let v1940 : BitVec 32 := Scalar.subi v1937 v1939
  let v1941 : BitVec 1 := Scalar.cmpi .ne v1935 v1940
  let v1942 : BitVec 32 := Scalar.remsi v1839 c8_i32_583
  let c0_i32_588 : BitVec 32 := 0#32
  let v1943 : BitVec 1 := Scalar.cmpi .ne v1942 c0_i32_588
  let v1944 : BitVec 1 := Scalar.andi v1941 v1943
  let v1930 : BitVec 32 := Scalar.divsi v1839 c8_i32_583
  let c1_i32_589 : BitVec 32 := 1#32
  let v1945 : BitVec 32 := Scalar.subi v1930 c1_i32_589
  let v1946 : BitVec 32 := Scalar.select v1944 v1945 v1930
  let v1958 : Index := Scalar.indexCast v1946
  let c8_i32_590 : BitVec 32 := 8#32
  let c0_i32_591 : BitVec 32 := 0#32
  let v1947 : BitVec 1 := Scalar.cmpi .eq c8_i32_590 c0_i32_591
  let c1_i32_592 : BitVec 32 := 1#32
  let v1948 : BitVec 32 := Scalar.select v1947 c1_i32_592 c8_i32_590
  let v1949 : BitVec 32 := Scalar.remsi v1839 v1948
  let c0_i32_594 : BitVec 32 := 0#32
  let v1951 : BitVec 1 := Scalar.cmpi .slt v1949 c0_i32_594
  let c0_i32_595 : BitVec 32 := 0#32
  let v1952 : BitVec 1 := Scalar.cmpi .slt v1948 c0_i32_595
  let v1953 : BitVec 1 := Scalar.xori v1951 v1952
  let c0_i32_593 : BitVec 32 := 0#32
  let v1950 : BitVec 1 := Scalar.cmpi .ne v1949 c0_i32_593
  let v1954 : BitVec 1 := Scalar.andi v1953 v1950
  let v1955 : BitVec 32 := Scalar.addi v1949 v1948
  let v1956 : BitVec 32 := Scalar.select v1954 v1955 v1949
  let c16_i32_596 : BitVec 32 := 16#32
  let v1957 : BitVec 32 := Scalar.muli v1956 c16_i32_596
  let v1959 : Index := Scalar.indexCast v1957
  ![v1958.toNat, v1959.toNat]

def k0_chk15 (v1839 : BitVec 32) : Prop :=
  (∀ a, (k0_off258 v1839) a + S1x16.size a ≤ S512x128.size a) ∧
  (∀ a, (k0_off260 v1839) a + S1x16.size a ≤ S512x128.size a) ∧
  (∀ a, (k0_off262 v1839) a + S1x16.size a ≤ S512x128.size a) ∧
  (∀ a, (k0_off264 v1839) a + S1x16.size a ≤ S512x128.size a) ∧
  (∀ a, (k0_off266 v1839) a + S1x16.size a ≤ S512x128.size a) ∧
  (∀ a, (k0_off268 v1839) a + S1x16.size a ≤ S512x128.size a) ∧
  (∀ a, (k0_off270 v1839) a + S1x16.size a ≤ S512x128.size a) ∧
  (∀ a, (k0_off272 v1839) a + S1x16.size a ≤ S512x128.size a) ∧
  (∀ a, (k0_off274 v1839) a + S1x16.size a ≤ S64x128.size a)
theorem k0_off258_inb : ∀ (v1839 : BitVec 32) (k0_hw15 : k0_chk15 v1839), ∀ a, (k0_off258 v1839) a + S1x16.size a ≤ S512x128.size a := fun v1839 k0_hw15 => k0_hw15.1
theorem k0_off260_inb : ∀ (v1839 : BitVec 32) (k0_hw15 : k0_chk15 v1839), ∀ a, (k0_off260 v1839) a + S1x16.size a ≤ S512x128.size a := fun v1839 k0_hw15 => k0_hw15.2.1
theorem k0_off262_inb : ∀ (v1839 : BitVec 32) (k0_hw15 : k0_chk15 v1839), ∀ a, (k0_off262 v1839) a + S1x16.size a ≤ S512x128.size a := fun v1839 k0_hw15 => k0_hw15.2.2.1
theorem k0_off264_inb : ∀ (v1839 : BitVec 32) (k0_hw15 : k0_chk15 v1839), ∀ a, (k0_off264 v1839) a + S1x16.size a ≤ S512x128.size a := fun v1839 k0_hw15 => k0_hw15.2.2.2.1
theorem k0_off266_inb : ∀ (v1839 : BitVec 32) (k0_hw15 : k0_chk15 v1839), ∀ a, (k0_off266 v1839) a + S1x16.size a ≤ S512x128.size a := fun v1839 k0_hw15 => k0_hw15.2.2.2.2.1
theorem k0_off268_inb : ∀ (v1839 : BitVec 32) (k0_hw15 : k0_chk15 v1839), ∀ a, (k0_off268 v1839) a + S1x16.size a ≤ S512x128.size a := fun v1839 k0_hw15 => k0_hw15.2.2.2.2.2.1
theorem k0_off270_inb : ∀ (v1839 : BitVec 32) (k0_hw15 : k0_chk15 v1839), ∀ a, (k0_off270 v1839) a + S1x16.size a ≤ S512x128.size a := fun v1839 k0_hw15 => k0_hw15.2.2.2.2.2.2.1
theorem k0_off272_inb : ∀ (v1839 : BitVec 32) (k0_hw15 : k0_chk15 v1839), ∀ a, (k0_off272 v1839) a + S1x16.size a ≤ S512x128.size a := fun v1839 k0_hw15 => k0_hw15.2.2.2.2.2.2.2.1
theorem k0_off274_inb : ∀ (v1839 : BitVec 32) (k0_hw15 : k0_chk15 v1839), ∀ a, (k0_off274 v1839) a + S1x16.size a ≤ S64x128.size a := fun v1839 k0_hw15 => k0_hw15.2.2.2.2.2.2.2.2

def k0_off275 (v1969 : BitVec 32) : Fin 2 → Nat :=
  let v1972 : Index := Scalar.indexCast v1969
  let c0_598 : Index := 0#32
  ![v1972.toNat, 0]

def k0_off276 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v1975 : Index := Scalar.indexCast v1971
  let c0_599 : Index := 0#32
  ![v1975.toNat, 0]
def k0_off277 (v1969 : BitVec 32) : Fin 2 → Nat :=
  let v1983 : Index := Scalar.indexCast v1969
  let c16_601 : Index := 16#32
  ![v1983.toNat, 16]
def k0_off278 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v1986 : Index := Scalar.indexCast v1971
  let c16_602 : Index := 16#32
  ![v1986.toNat, 16]
def k0_off279 (v1969 : BitVec 32) : Fin 2 → Nat :=
  let v1994 : Index := Scalar.indexCast v1969
  let c32_604 : Index := 32#32
  ![v1994.toNat, 32]
def k0_off280 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v1997 : Index := Scalar.indexCast v1971
  let c32_605 : Index := 32#32
  ![v1997.toNat, 32]
def k0_off281 (v1969 : BitVec 32) : Fin 2 → Nat :=
  let v2005 : Index := Scalar.indexCast v1969
  let c48_607 : Index := 48#32
  ![v2005.toNat, 48]
def k0_off282 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v2008 : Index := Scalar.indexCast v1971
  let c48_608 : Index := 48#32
  ![v2008.toNat, 48]
def k0_off283 (v1969 : BitVec 32) : Fin 2 → Nat :=
  let v2016 : Index := Scalar.indexCast v1969
  let c64_610 : Index := 64#32
  ![v2016.toNat, 64]
def k0_off284 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v2019 : Index := Scalar.indexCast v1971
  let c64_611 : Index := 64#32
  ![v2019.toNat, 64]
def k0_off285 (v1969 : BitVec 32) : Fin 2 → Nat :=
  let v2027 : Index := Scalar.indexCast v1969
  let c80_613 : Index := 80#32
  ![v2027.toNat, 80]
def k0_off286 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v2030 : Index := Scalar.indexCast v1971
  let c80_614 : Index := 80#32
  ![v2030.toNat, 80]
def k0_off287 (v1969 : BitVec 32) : Fin 2 → Nat :=
  let v2038 : Index := Scalar.indexCast v1969
  let c96_616 : Index := 96#32
  ![v2038.toNat, 96]
def k0_off288 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v2041 : Index := Scalar.indexCast v1971
  let c96_617 : Index := 96#32
  ![v2041.toNat, 96]
def k0_off289 (v1969 : BitVec 32) : Fin 2 → Nat :=
  let v2049 : Index := Scalar.indexCast v1969
  let c112_619 : Index := 112#32
  ![v2049.toNat, 112]
def k0_off290 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c16_i32_597 : BitVec 32 := 16#32
  let v1970 : BitVec 32 := Scalar.muli arg11 c16_i32_597
  let c15_i32 : BitVec 32 := 15#32
  let v1971 : BitVec 32 := Scalar.addi v1970 c15_i32
  let v2052 : Index := Scalar.indexCast v1971
  let c112_620 : Index := 112#32
  ![v2052.toNat, 112]
def k0_off291 (v1969 : BitVec 32) : Fin 2 → Nat :=
  let c0_i32_623 : BitVec 32 := 0#32
  let v2061 : BitVec 1 := Scalar.cmpi .sgt v1969 c0_i32_623
  let v2062 : BitVec 32 := Scalar.extui v2061
  let c0_i32_624 : BitVec 32 := 0#32
  let v2063 : BitVec 1 := Scalar.cmpi .slt v1969 c0_i32_624
  let v2064 : BitVec 32 := Scalar.extui v2063
  let v2065 : BitVec 32 := Scalar.subi v2062 v2064
  let c8_i32_622 : BitVec 32 := 8#32
  let c0_i32_625 : BitVec 32 := 0#32
  let v2066 : BitVec 1 := Scalar.cmpi .sgt c8_i32_622 c0_i32_625
  let v2067 : BitVec 32 := Scalar.extui v2066
  let c0_i32_626 : BitVec 32 := 0#32
  let v2068 : BitVec 1 := Scalar.cmpi .slt c8_i32_622 c0_i32_626
  let v2069 : BitVec 32 := Scalar.extui v2068
  let v2070 : BitVec 32 := Scalar.subi v2067 v2069
  let v2071 : BitVec 1 := Scalar.cmpi .ne v2065 v2070
  let v2072 : BitVec 32 := Scalar.remsi v1969 c8_i32_622
  let c0_i32_627 : BitVec 32 := 0#32
  let v2073 : BitVec 1 := Scalar.cmpi .ne v2072 c0_i32_627
  let v2074 : BitVec 1 := Scalar.andi v2071 v2073
  let v2060 : BitVec 32 := Scalar.divsi v1969 c8_i32_622
  let c1_i32_628 : BitVec 32 := 1#32
  let v2075 : BitVec 32 := Scalar.subi v2060 c1_i32_628
  let v2076 : BitVec 32 := Scalar.select v2074 v2075 v2060
  let v2088 : Index := Scalar.indexCast v2076
  let c8_i32_629 : BitVec 32 := 8#32
  let c0_i32_630 : BitVec 32 := 0#32
  let v2077 : BitVec 1 := Scalar.cmpi .eq c8_i32_629 c0_i32_630
  let c1_i32_631 : BitVec 32 := 1#32
  let v2078 : BitVec 32 := Scalar.select v2077 c1_i32_631 c8_i32_629
  let v2079 : BitVec 32 := Scalar.remsi v1969 v2078
  let c0_i32_633 : BitVec 32 := 0#32
  let v2081 : BitVec 1 := Scalar.cmpi .slt v2079 c0_i32_633
  let c0_i32_634 : BitVec 32 := 0#32
  let v2082 : BitVec 1 := Scalar.cmpi .slt v2078 c0_i32_634
  let v2083 : BitVec 1 := Scalar.xori v2081 v2082
  let c0_i32_632 : BitVec 32 := 0#32
  let v2080 : BitVec 1 := Scalar.cmpi .ne v2079 c0_i32_632
  let v2084 : BitVec 1 := Scalar.andi v2083 v2080
  let v2085 : BitVec 32 := Scalar.addi v2079 v2078
  let v2086 : BitVec 32 := Scalar.select v2084 v2085 v2079
  let c16_i32_635 : BitVec 32 := 16#32
  let v2087 : BitVec 32 := Scalar.muli v2086 c16_i32_635
  let v2089 : Index := Scalar.indexCast v2087
  ![v2088.toNat, v2089.toNat]

def k0_chk16 (v1969 : BitVec 32) : Prop :=
  (∀ a, (k0_off275 v1969) a + S1x16.size a ≤ S512x128.size a) ∧
  (∀ a, (k0_off277 v1969) a + S1x16.size a ≤ S512x128.size a) ∧
  (∀ a, (k0_off279 v1969) a + S1x16.size a ≤ S512x128.size a) ∧
  (∀ a, (k0_off281 v1969) a + S1x16.size a ≤ S512x128.size a) ∧
  (∀ a, (k0_off283 v1969) a + S1x16.size a ≤ S512x128.size a) ∧
  (∀ a, (k0_off285 v1969) a + S1x16.size a ≤ S512x128.size a) ∧
  (∀ a, (k0_off287 v1969) a + S1x16.size a ≤ S512x128.size a) ∧
  (∀ a, (k0_off289 v1969) a + S1x16.size a ≤ S512x128.size a) ∧
  (∀ a, (k0_off291 v1969) a + S1x16.size a ≤ S64x128.size a)
theorem k0_off275_inb : ∀ (v1969 : BitVec 32) (k0_hw16 : k0_chk16 v1969), ∀ a, (k0_off275 v1969) a + S1x16.size a ≤ S512x128.size a := fun v1969 k0_hw16 => k0_hw16.1
theorem k0_off277_inb : ∀ (v1969 : BitVec 32) (k0_hw16 : k0_chk16 v1969), ∀ a, (k0_off277 v1969) a + S1x16.size a ≤ S512x128.size a := fun v1969 k0_hw16 => k0_hw16.2.1
theorem k0_off279_inb : ∀ (v1969 : BitVec 32) (k0_hw16 : k0_chk16 v1969), ∀ a, (k0_off279 v1969) a + S1x16.size a ≤ S512x128.size a := fun v1969 k0_hw16 => k0_hw16.2.2.1
theorem k0_off281_inb : ∀ (v1969 : BitVec 32) (k0_hw16 : k0_chk16 v1969), ∀ a, (k0_off281 v1969) a + S1x16.size a ≤ S512x128.size a := fun v1969 k0_hw16 => k0_hw16.2.2.2.1
theorem k0_off283_inb : ∀ (v1969 : BitVec 32) (k0_hw16 : k0_chk16 v1969), ∀ a, (k0_off283 v1969) a + S1x16.size a ≤ S512x128.size a := fun v1969 k0_hw16 => k0_hw16.2.2.2.2.1
theorem k0_off285_inb : ∀ (v1969 : BitVec 32) (k0_hw16 : k0_chk16 v1969), ∀ a, (k0_off285 v1969) a + S1x16.size a ≤ S512x128.size a := fun v1969 k0_hw16 => k0_hw16.2.2.2.2.2.1
theorem k0_off287_inb : ∀ (v1969 : BitVec 32) (k0_hw16 : k0_chk16 v1969), ∀ a, (k0_off287 v1969) a + S1x16.size a ≤ S512x128.size a := fun v1969 k0_hw16 => k0_hw16.2.2.2.2.2.2.1
theorem k0_off289_inb : ∀ (v1969 : BitVec 32) (k0_hw16 : k0_chk16 v1969), ∀ a, (k0_off289 v1969) a + S1x16.size a ≤ S512x128.size a := fun v1969 k0_hw16 => k0_hw16.2.2.2.2.2.2.2.1
theorem k0_off291_inb : ∀ (v1969 : BitVec 32) (k0_hw16 : k0_chk16 v1969), ∀ a, (k0_off291 v1969) a + S1x16.size a ≤ S64x128.size a := fun v1969 k0_hw16 => k0_hw16.2.2.2.2.2.2.2.2

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c17_i32 : BitVec 32 := 17#32
  let v7 : BitVec 1 := Scalar.cmpi .slt v1 c17_i32
  let v8 : BitVec 32 := Scalar.extui v7
  let c0_i32_11 : BitVec 32 := 0#32
  let v9 : BitVec 1 := Scalar.cmpi .ne v8 c0_i32_11
  v9

def k0_off292 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c608_i32 : BitVec 32 := 608#32
  let v10 : BitVec 32 := Scalar.addi v1 c608_i32
  let c160_i32 : BitVec 32 := 160#32
  let v11 : BitVec 32 := Scalar.muli v10 c160_i32
  let c0_i32_16_r2 : BitVec 32 := 0#32
  ![v11.toNat, 0]
def k0_off293 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c608_i32 : BitVec 32 := 608#32
  let v10 : BitVec 32 := Scalar.addi v1 c608_i32
  let c160_i32 : BitVec 32 := 160#32
  let v11 : BitVec 32 := Scalar.muli v10 c160_i32
  ![v11.toNat]
@[reducible] def k0_t5_loop : Scf.Loop 32 :=
  let c0_i32_13 : BitVec 32 := 0#32
  let c10_i32 : BitVec 32 := 10#32
  let v12 : BitVec 32 := Scalar.addi c0_i32_13 c10_i32
  let c1_i32_14 : BitVec 32 := 1#32
  ⟨c0_i32_13, v12, c1_i32_14⟩
def k0_off294 (k0_t5 : Fin k0_t5_loop.trips) : Fin 1 → Nat :=
  let c0_i32_13 : BitVec 32 := 0#32
  let c1_i32_14 : BitVec 32 := 1#32
  let arg10 : BitVec 32 := Scf.iv c0_i32_13 c1_i32_14 k0_t5
  let c16_i32_16 : BitVec 32 := 16#32
  let v13 : BitVec 32 := Scalar.muli arg10 c16_i32_16
  let v14 : Index := Scalar.indexCast v13
  ![v14.toNat]
def k0_off295 (v18 : BitVec 32) : Fin 2 → Nat :=
  let v21 : Index := Scalar.indexCast v18
  let c0 : Index := 0#32
  ![v21.toNat, 0]

def k0_off296 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v24 : Index := Scalar.indexCast v20
  let c0_19 : Index := 0#32
  ![v24.toNat, 0]
def k0_off297 (v18 : BitVec 32) : Fin 2 → Nat :=
  let v32 : Index := Scalar.indexCast v18
  let c16 : Index := 16#32
  ![v32.toNat, 16]
def k0_off298 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v35 : Index := Scalar.indexCast v20
  let c16_21 : Index := 16#32
  ![v35.toNat, 16]
def k0_off299 (v18 : BitVec 32) : Fin 2 → Nat :=
  let v43 : Index := Scalar.indexCast v18
  let c32 : Index := 32#32
  ![v43.toNat, 32]
def k0_off300 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v46 : Index := Scalar.indexCast v20
  let c32_23 : Index := 32#32
  ![v46.toNat, 32]
def k0_off301 (v18 : BitVec 32) : Fin 2 → Nat :=
  let v54 : Index := Scalar.indexCast v18
  let c48 : Index := 48#32
  ![v54.toNat, 48]
def k0_off302 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v57 : Index := Scalar.indexCast v20
  let c48_25 : Index := 48#32
  ![v57.toNat, 48]
def k0_off303 (v18 : BitVec 32) : Fin 2 → Nat :=
  let v65 : Index := Scalar.indexCast v18
  let c64 : Index := 64#32
  ![v65.toNat, 64]
def k0_off304 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v68 : Index := Scalar.indexCast v20
  let c64_27 : Index := 64#32
  ![v68.toNat, 64]
def k0_off305 (v18 : BitVec 32) : Fin 2 → Nat :=
  let v76 : Index := Scalar.indexCast v18
  let c80 : Index := 80#32
  ![v76.toNat, 80]
def k0_off306 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v79 : Index := Scalar.indexCast v20
  let c80_29 : Index := 80#32
  ![v79.toNat, 80]
def k0_off307 (v18 : BitVec 32) : Fin 2 → Nat :=
  let v87 : Index := Scalar.indexCast v18
  let c96 : Index := 96#32
  ![v87.toNat, 96]
def k0_off308 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v90 : Index := Scalar.indexCast v20
  let c96_31 : Index := 96#32
  ![v90.toNat, 96]
def k0_off309 (v18 : BitVec 32) : Fin 2 → Nat :=
  let v98 : Index := Scalar.indexCast v18
  let c112 : Index := 112#32
  ![v98.toNat, 112]
def k0_off310 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_17 : BitVec 32 := 16#32
  let v19 : BitVec 32 := Scalar.muli arg10 c16_i32_17
  let c0_i32_18 : BitVec 32 := 0#32
  let v20 : BitVec 32 := Scalar.addi v19 c0_i32_18
  let v101 : Index := Scalar.indexCast v20
  let c112_33 : Index := 112#32
  ![v101.toNat, 112]
def k0_off311 (v18 : BitVec 32) : Fin 2 → Nat :=
  let c0_i32_35 : BitVec 32 := 0#32
  let v110 : BitVec 1 := Scalar.cmpi .sgt v18 c0_i32_35
  let v111 : BitVec 32 := Scalar.extui v110
  let c0_i32_36 : BitVec 32 := 0#32
  let v112 : BitVec 1 := Scalar.cmpi .slt v18 c0_i32_36
  let v113 : BitVec 32 := Scalar.extui v112
  let v114 : BitVec 32 := Scalar.subi v111 v113
  let c8_i32 : BitVec 32 := 8#32
  let c0_i32_37 : BitVec 32 := 0#32
  let v115 : BitVec 1 := Scalar.cmpi .sgt c8_i32 c0_i32_37
  let v116 : BitVec 32 := Scalar.extui v115
  let c0_i32_38 : BitVec 32 := 0#32
  let v117 : BitVec 1 := Scalar.cmpi .slt c8_i32 c0_i32_38
  let v118 : BitVec 32 := Scalar.extui v117
  let v119 : BitVec 32 := Scalar.subi v116 v118
  let v120 : BitVec 1 := Scalar.cmpi .ne v114 v119
  let v121 : BitVec 32 := Scalar.remsi v18 c8_i32
  let c0_i32_39 : BitVec 32 := 0#32
  let v122 : BitVec 1 := Scalar.cmpi .ne v121 c0_i32_39
  let v123 : BitVec 1 := Scalar.andi v120 v122
  let v109 : BitVec 32 := Scalar.divsi v18 c8_i32
  let c1_i32_40 : BitVec 32 := 1#32
  let v124 : BitVec 32 := Scalar.subi v109 c1_i32_40
  let v125 : BitVec 32 := Scalar.select v123 v124 v109
  let v137 : Index := Scalar.indexCast v125
  let c8_i32_41 : BitVec 32 := 8#32
  let c0_i32_42 : BitVec 32 := 0#32
  let v126 : BitVec 1 := Scalar.cmpi .eq c8_i32_41 c0_i32_42
  let c1_i32_43 : BitVec 32 := 1#32
  let v127 : BitVec 32 := Scalar.select v126 c1_i32_43 c8_i32_41
  let v128 : BitVec 32 := Scalar.remsi v18 v127
  let c0_i32_45 : BitVec 32 := 0#32
  let v130 : BitVec 1 := Scalar.cmpi .slt v128 c0_i32_45
  let c0_i32_46 : BitVec 32 := 0#32
  let v131 : BitVec 1 := Scalar.cmpi .slt v127 c0_i32_46
  let v132 : BitVec 1 := Scalar.xori v130 v131
  let c0_i32_44 : BitVec 32 := 0#32
  let v129 : BitVec 1 := Scalar.cmpi .ne v128 c0_i32_44
  let v133 : BitVec 1 := Scalar.andi v132 v129
  let v134 : BitVec 32 := Scalar.addi v128 v127
  let v135 : BitVec 32 := Scalar.select v133 v134 v128
  let c16_i32_47 : BitVec 32 := 16#32
  let v136 : BitVec 32 := Scalar.muli v135 c16_i32_47
  let v138 : Index := Scalar.indexCast v136
  ![v137.toNat, v138.toNat]

def k0_chk17 (i : grid0.Coords) (v18 : BitVec 32) : Prop :=
  (∀ (k0_h1 : k0_cond1 i = 1#1), ∀ a, (k0_off295 v18) a + S1x16.size a ≤ S512x128.size a) ∧
  (∀ (k0_h1 : k0_cond1 i = 1#1), ∀ a, (k0_off297 v18) a + S1x16.size a ≤ S512x128.size a) ∧
  (∀ (k0_h1 : k0_cond1 i = 1#1), ∀ a, (k0_off299 v18) a + S1x16.size a ≤ S512x128.size a) ∧
  (∀ (k0_h1 : k0_cond1 i = 1#1), ∀ a, (k0_off301 v18) a + S1x16.size a ≤ S512x128.size a) ∧
  (∀ (k0_h1 : k0_cond1 i = 1#1), ∀ a, (k0_off303 v18) a + S1x16.size a ≤ S512x128.size a) ∧
  (∀ (k0_h1 : k0_cond1 i = 1#1), ∀ a, (k0_off305 v18) a + S1x16.size a ≤ S512x128.size a) ∧
  (∀ (k0_h1 : k0_cond1 i = 1#1), ∀ a, (k0_off307 v18) a + S1x16.size a ≤ S512x128.size a) ∧
  (∀ (k0_h1 : k0_cond1 i = 1#1), ∀ a, (k0_off309 v18) a + S1x16.size a ≤ S512x128.size a) ∧
  (∀ (k0_h1 : k0_cond1 i = 1#1), ∀ a, (k0_off311 v18) a + S1x16.size a ≤ S64x128.size a)
theorem k0_off295_inb : ∀ (i : grid0.Coords) (v18 : BitVec 32) (k0_hw17 : k0_chk17 i v18), ∀ (k0_h1 : k0_cond1 i = 1#1), ∀ a, (k0_off295 v18) a + S1x16.size a ≤ S512x128.size a := fun i v18 k0_hw17 k0_h1 => k0_hw17.1 k0_h1
theorem k0_off297_inb : ∀ (i : grid0.Coords) (v18 : BitVec 32) (k0_hw17 : k0_chk17 i v18), ∀ (k0_h1 : k0_cond1 i = 1#1), ∀ a, (k0_off297 v18) a + S1x16.size a ≤ S512x128.size a := fun i v18 k0_hw17 k0_h1 => k0_hw17.2.1 k0_h1
theorem k0_off299_inb : ∀ (i : grid0.Coords) (v18 : BitVec 32) (k0_hw17 : k0_chk17 i v18), ∀ (k0_h1 : k0_cond1 i = 1#1), ∀ a, (k0_off299 v18) a + S1x16.size a ≤ S512x128.size a := fun i v18 k0_hw17 k0_h1 => k0_hw17.2.2.1 k0_h1
theorem k0_off301_inb : ∀ (i : grid0.Coords) (v18 : BitVec 32) (k0_hw17 : k0_chk17 i v18), ∀ (k0_h1 : k0_cond1 i = 1#1), ∀ a, (k0_off301 v18) a + S1x16.size a ≤ S512x128.size a := fun i v18 k0_hw17 k0_h1 => k0_hw17.2.2.2.1 k0_h1
theorem k0_off303_inb : ∀ (i : grid0.Coords) (v18 : BitVec 32) (k0_hw17 : k0_chk17 i v18), ∀ (k0_h1 : k0_cond1 i = 1#1), ∀ a, (k0_off303 v18) a + S1x16.size a ≤ S512x128.size a := fun i v18 k0_hw17 k0_h1 => k0_hw17.2.2.2.2.1 k0_h1
theorem k0_off305_inb : ∀ (i : grid0.Coords) (v18 : BitVec 32) (k0_hw17 : k0_chk17 i v18), ∀ (k0_h1 : k0_cond1 i = 1#1), ∀ a, (k0_off305 v18) a + S1x16.size a ≤ S512x128.size a := fun i v18 k0_hw17 k0_h1 => k0_hw17.2.2.2.2.2.1 k0_h1
theorem k0_off307_inb : ∀ (i : grid0.Coords) (v18 : BitVec 32) (k0_hw17 : k0_chk17 i v18), ∀ (k0_h1 : k0_cond1 i = 1#1), ∀ a, (k0_off307 v18) a + S1x16.size a ≤ S512x128.size a := fun i v18 k0_hw17 k0_h1 => k0_hw17.2.2.2.2.2.2.1 k0_h1
theorem k0_off309_inb : ∀ (i : grid0.Coords) (v18 : BitVec 32) (k0_hw17 : k0_chk17 i v18), ∀ (k0_h1 : k0_cond1 i = 1#1), ∀ a, (k0_off309 v18) a + S1x16.size a ≤ S512x128.size a := fun i v18 k0_hw17 k0_h1 => k0_hw17.2.2.2.2.2.2.2.1 k0_h1
theorem k0_off311_inb : ∀ (i : grid0.Coords) (v18 : BitVec 32) (k0_hw17 : k0_chk17 i v18), ∀ (k0_h1 : k0_cond1 i = 1#1), ∀ a, (k0_off311 v18) a + S1x16.size a ≤ S64x128.size a := fun i v18 k0_hw17 k0_h1 => k0_hw17.2.2.2.2.2.2.2.2 k0_h1

def k0_off312 (v148 : BitVec 32) : Fin 2 → Nat :=
  let v151 : Index := Scalar.indexCast v148
  let c0_50 : Index := 0#32
  ![v151.toNat, 0]

def k0_off313 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v154 : Index := Scalar.indexCast v150
  let c0_51 : Index := 0#32
  ![v154.toNat, 0]
def k0_off314 (v148 : BitVec 32) : Fin 2 → Nat :=
  let v162 : Index := Scalar.indexCast v148
  let c16_53 : Index := 16#32
  ![v162.toNat, 16]
def k0_off315 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v165 : Index := Scalar.indexCast v150
  let c16_54 : Index := 16#32
  ![v165.toNat, 16]
def k0_off316 (v148 : BitVec 32) : Fin 2 → Nat :=
  let v173 : Index := Scalar.indexCast v148
  let c32_56 : Index := 32#32
  ![v173.toNat, 32]
def k0_off317 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v176 : Index := Scalar.indexCast v150
  let c32_57 : Index := 32#32
  ![v176.toNat, 32]
def k0_off318 (v148 : BitVec 32) : Fin 2 → Nat :=
  let v184 : Index := Scalar.indexCast v148
  let c48_59 : Index := 48#32
  ![v184.toNat, 48]
def k0_off319 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v187 : Index := Scalar.indexCast v150
  let c48_60 : Index := 48#32
  ![v187.toNat, 48]
def k0_off320 (v148 : BitVec 32) : Fin 2 → Nat :=
  let v195 : Index := Scalar.indexCast v148
  let c64_62 : Index := 64#32
  ![v195.toNat, 64]
def k0_off321 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v198 : Index := Scalar.indexCast v150
  let c64_63 : Index := 64#32
  ![v198.toNat, 64]
def k0_off322 (v148 : BitVec 32) : Fin 2 → Nat :=
  let v206 : Index := Scalar.indexCast v148
  let c80_65 : Index := 80#32
  ![v206.toNat, 80]
def k0_off323 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v209 : Index := Scalar.indexCast v150
  let c80_66 : Index := 80#32
  ![v209.toNat, 80]
def k0_off324 (v148 : BitVec 32) : Fin 2 → Nat :=
  let v217 : Index := Scalar.indexCast v148
  let c96_68 : Index := 96#32
  ![v217.toNat, 96]
def k0_off325 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v220 : Index := Scalar.indexCast v150
  let c96_69 : Index := 96#32
  ![v220.toNat, 96]
def k0_off326 (v148 : BitVec 32) : Fin 2 → Nat :=
  let v228 : Index := Scalar.indexCast v148
  let c112_71 : Index := 112#32
  ![v228.toNat, 112]
def k0_off327 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_48 : BitVec 32 := 16#32
  let v149 : BitVec 32 := Scalar.muli arg10 c16_i32_48
  let c1_i32_49 : BitVec 32 := 1#32
  let v150 : BitVec 32 := Scalar.addi v149 c1_i32_49
  let v231 : Index := Scalar.indexCast v150
  let c112_72 : Index := 112#32
  ![v231.toNat, 112]
def k0_off328 (v148 : BitVec 32) : Fin 2 → Nat :=
  let c0_i32_75 : BitVec 32 := 0#32
  let v240 : BitVec 1 := Scalar.cmpi .sgt v148 c0_i32_75
  let v241 : BitVec 32 := Scalar.extui v240
  let c0_i32_76 : BitVec 32 := 0#32
  let v242 : BitVec 1 := Scalar.cmpi .slt v148 c0_i32_76
  let v243 : BitVec 32 := Scalar.extui v242
  let v244 : BitVec 32 := Scalar.subi v241 v243
  let c8_i32_74 : BitVec 32 := 8#32
  let c0_i32_77 : BitVec 32 := 0#32
  let v245 : BitVec 1 := Scalar.cmpi .sgt c8_i32_74 c0_i32_77
  let v246 : BitVec 32 := Scalar.extui v245
  let c0_i32_78 : BitVec 32 := 0#32
  let v247 : BitVec 1 := Scalar.cmpi .slt c8_i32_74 c0_i32_78
  let v248 : BitVec 32 := Scalar.extui v247
  let v249 : BitVec 32 := Scalar.subi v246 v248
  let v250 : BitVec 1 := Scalar.cmpi .ne v244 v249
  let v251 : BitVec 32 := Scalar.remsi v148 c8_i32_74
  let c0_i32_79 : BitVec 32 := 0#32
  let v252 : BitVec 1 := Scalar.cmpi .ne v251 c0_i32_79
  let v253 : BitVec 1 := Scalar.andi v250 v252
  let v239 : BitVec 32 := Scalar.divsi v148 c8_i32_74
  let c1_i32_80 : BitVec 32 := 1#32
  let v254 : BitVec 32 := Scalar.subi v239 c1_i32_80
  let v255 : BitVec 32 := Scalar.select v253 v254 v239
  let v267 : Index := Scalar.indexCast v255
  let c8_i32_81 : BitVec 32 := 8#32
  let c0_i32_82 : BitVec 32 := 0#32
  let v256 : BitVec 1 := Scalar.cmpi .eq c8_i32_81 c0_i32_82
  let c1_i32_83 : BitVec 32 := 1#32
  let v257 : BitVec 32 := Scalar.select v256 c1_i32_83 c8_i32_81
  let v258 : BitVec 32 := Scalar.remsi v148 v257
  let c0_i32_85 : BitVec 32 := 0#32
  let v260 : BitVec 1 := Scalar.cmpi .slt v258 c0_i32_85
  let c0_i32_86 : BitVec 32 := 0#32
  let v261 : BitVec 1 := Scalar.cmpi .slt v257 c0_i32_86
  let v262 : BitVec 1 := Scalar.xori v260 v261
  let c0_i32_84 : BitVec 32 := 0#32
  let v259 : BitVec 1 := Scalar.cmpi .ne v258 c0_i32_84
  let v263 : BitVec 1 := Scalar.andi v262 v259
  let v264 : BitVec 32 := Scalar.addi v258 v257
  let v265 : BitVec 32 := Scalar.select v263 v264 v258
  let c16_i32_87 : BitVec 32 := 16#32
  let v266 : BitVec 32 := Scalar.muli v265 c16_i32_87
  let v268 : Index := Scalar.indexCast v266
  ![v267.toNat, v268.toNat]

def k0_chk18 (i : grid0.Coords) (v148 : BitVec 32) : Prop :=
  (∀ (k0_h1 : k0_cond1 i = 1#1), ∀ a, (k0_off312 v148) a + S1x16.size a ≤ S512x128.size a) ∧
  (∀ (k0_h1 : k0_cond1 i = 1#1), ∀ a, (k0_off314 v148) a + S1x16.size a ≤ S512x128.size a) ∧
  (∀ (k0_h1 : k0_cond1 i = 1#1), ∀ a, (k0_off316 v148) a + S1x16.size a ≤ S512x128.size a) ∧
  (∀ (k0_h1 : k0_cond1 i = 1#1), ∀ a, (k0_off318 v148) a + S1x16.size a ≤ S512x128.size a) ∧
  (∀ (k0_h1 : k0_cond1 i = 1#1), ∀ a, (k0_off320 v148) a + S1x16.size a ≤ S512x128.size a) ∧
  (∀ (k0_h1 : k0_cond1 i = 1#1), ∀ a, (k0_off322 v148) a + S1x16.size a ≤ S512x128.size a) ∧
  (∀ (k0_h1 : k0_cond1 i = 1#1), ∀ a, (k0_off324 v148) a + S1x16.size a ≤ S512x128.size a) ∧
  (∀ (k0_h1 : k0_cond1 i = 1#1), ∀ a, (k0_off326 v148) a + S1x16.size a ≤ S512x128.size a) ∧
  (∀ (k0_h1 : k0_cond1 i = 1#1), ∀ a, (k0_off328 v148) a + S1x16.size a ≤ S64x128.size a)
theorem k0_off312_inb : ∀ (i : grid0.Coords) (v148 : BitVec 32) (k0_hw18 : k0_chk18 i v148), ∀ (k0_h1 : k0_cond1 i = 1#1), ∀ a, (k0_off312 v148) a + S1x16.size a ≤ S512x128.size a := fun i v148 k0_hw18 k0_h1 => k0_hw18.1 k0_h1
theorem k0_off314_inb : ∀ (i : grid0.Coords) (v148 : BitVec 32) (k0_hw18 : k0_chk18 i v148), ∀ (k0_h1 : k0_cond1 i = 1#1), ∀ a, (k0_off314 v148) a + S1x16.size a ≤ S512x128.size a := fun i v148 k0_hw18 k0_h1 => k0_hw18.2.1 k0_h1
theorem k0_off316_inb : ∀ (i : grid0.Coords) (v148 : BitVec 32) (k0_hw18 : k0_chk18 i v148), ∀ (k0_h1 : k0_cond1 i = 1#1), ∀ a, (k0_off316 v148) a + S1x16.size a ≤ S512x128.size a := fun i v148 k0_hw18 k0_h1 => k0_hw18.2.2.1 k0_h1
theorem k0_off318_inb : ∀ (i : grid0.Coords) (v148 : BitVec 32) (k0_hw18 : k0_chk18 i v148), ∀ (k0_h1 : k0_cond1 i = 1#1), ∀ a, (k0_off318 v148) a + S1x16.size a ≤ S512x128.size a := fun i v148 k0_hw18 k0_h1 => k0_hw18.2.2.2.1 k0_h1
theorem k0_off320_inb : ∀ (i : grid0.Coords) (v148 : BitVec 32) (k0_hw18 : k0_chk18 i v148), ∀ (k0_h1 : k0_cond1 i = 1#1), ∀ a, (k0_off320 v148) a + S1x16.size a ≤ S512x128.size a := fun i v148 k0_hw18 k0_h1 => k0_hw18.2.2.2.2.1 k0_h1
theorem k0_off322_inb : ∀ (i : grid0.Coords) (v148 : BitVec 32) (k0_hw18 : k0_chk18 i v148), ∀ (k0_h1 : k0_cond1 i = 1#1), ∀ a, (k0_off322 v148) a + S1x16.size a ≤ S512x128.size a := fun i v148 k0_hw18 k0_h1 => k0_hw18.2.2.2.2.2.1 k0_h1
theorem k0_off324_inb : ∀ (i : grid0.Coords) (v148 : BitVec 32) (k0_hw18 : k0_chk18 i v148), ∀ (k0_h1 : k0_cond1 i = 1#1), ∀ a, (k0_off324 v148) a + S1x16.size a ≤ S512x128.size a := fun i v148 k0_hw18 k0_h1 => k0_hw18.2.2.2.2.2.2.1 k0_h1
theorem k0_off326_inb : ∀ (i : grid0.Coords) (v148 : BitVec 32) (k0_hw18 : k0_chk18 i v148), ∀ (k0_h1 : k0_cond1 i = 1#1), ∀ a, (k0_off326 v148) a + S1x16.size a ≤ S512x128.size a := fun i v148 k0_hw18 k0_h1 => k0_hw18.2.2.2.2.2.2.2.1 k0_h1
theorem k0_off328_inb : ∀ (i : grid0.Coords) (v148 : BitVec 32) (k0_hw18 : k0_chk18 i v148), ∀ (k0_h1 : k0_cond1 i = 1#1), ∀ a, (k0_off328 v148) a + S1x16.size a ≤ S64x128.size a := fun i v148 k0_hw18 k0_h1 => k0_hw18.2.2.2.2.2.2.2.2 k0_h1

def k0_off329 (v278 : BitVec 32) : Fin 2 → Nat :=
  let v281 : Index := Scalar.indexCast v278
  let c0_89 : Index := 0#32
  ![v281.toNat, 0]

def k0_off330 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v284 : Index := Scalar.indexCast v280
  let c0_90 : Index := 0#32
  ![v284.toNat, 0]
def k0_off331 (v278 : BitVec 32) : Fin 2 → Nat :=
  let v292 : Index := Scalar.indexCast v278
  let c16_92 : Index := 16#32
  ![v292.toNat, 16]
def k0_off332 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v295 : Index := Scalar.indexCast v280
  let c16_93 : Index := 16#32
  ![v295.toNat, 16]
def k0_off333 (v278 : BitVec 32) : Fin 2 → Nat :=
  let v303 : Index := Scalar.indexCast v278
  let c32_95 : Index := 32#32
  ![v303.toNat, 32]
def k0_off334 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v306 : Index := Scalar.indexCast v280
  let c32_96 : Index := 32#32
  ![v306.toNat, 32]
def k0_off335 (v278 : BitVec 32) : Fin 2 → Nat :=
  let v314 : Index := Scalar.indexCast v278
  let c48_98 : Index := 48#32
  ![v314.toNat, 48]
def k0_off336 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v317 : Index := Scalar.indexCast v280
  let c48_99 : Index := 48#32
  ![v317.toNat, 48]
def k0_off337 (v278 : BitVec 32) : Fin 2 → Nat :=
  let v325 : Index := Scalar.indexCast v278
  let c64_101 : Index := 64#32
  ![v325.toNat, 64]
def k0_off338 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v328 : Index := Scalar.indexCast v280
  let c64_102 : Index := 64#32
  ![v328.toNat, 64]
def k0_off339 (v278 : BitVec 32) : Fin 2 → Nat :=
  let v336 : Index := Scalar.indexCast v278
  let c80_104 : Index := 80#32
  ![v336.toNat, 80]
def k0_off340 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v339 : Index := Scalar.indexCast v280
  let c80_105 : Index := 80#32
  ![v339.toNat, 80]
def k0_off341 (v278 : BitVec 32) : Fin 2 → Nat :=
  let v347 : Index := Scalar.indexCast v278
  let c96_107 : Index := 96#32
  ![v347.toNat, 96]
def k0_off342 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v350 : Index := Scalar.indexCast v280
  let c96_108 : Index := 96#32
  ![v350.toNat, 96]
def k0_off343 (v278 : BitVec 32) : Fin 2 → Nat :=
  let v358 : Index := Scalar.indexCast v278
  let c112_110 : Index := 112#32
  ![v358.toNat, 112]
def k0_off344 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_88 : BitVec 32 := 16#32
  let v279 : BitVec 32 := Scalar.muli arg10 c16_i32_88
  let c2_i32 : BitVec 32 := 2#32
  let v280 : BitVec 32 := Scalar.addi v279 c2_i32
  let v361 : Index := Scalar.indexCast v280
  let c112_111 : Index := 112#32
  ![v361.toNat, 112]
def k0_off345 (v278 : BitVec 32) : Fin 2 → Nat :=
  let c0_i32_114 : BitVec 32 := 0#32
  let v370 : BitVec 1 := Scalar.cmpi .sgt v278 c0_i32_114
  let v371 : BitVec 32 := Scalar.extui v370
  let c0_i32_115 : BitVec 32 := 0#32
  let v372 : BitVec 1 := Scalar.cmpi .slt v278 c0_i32_115
  let v373 : BitVec 32 := Scalar.extui v372
  let v374 : BitVec 32 := Scalar.subi v371 v373
  let c8_i32_113 : BitVec 32 := 8#32
  let c0_i32_116 : BitVec 32 := 0#32
  let v375 : BitVec 1 := Scalar.cmpi .sgt c8_i32_113 c0_i32_116
  let v376 : BitVec 32 := Scalar.extui v375
  let c0_i32_117 : BitVec 32 := 0#32
  let v377 : BitVec 1 := Scalar.cmpi .slt c8_i32_113 c0_i32_117
  let v378 : BitVec 32 := Scalar.extui v377
  let v379 : BitVec 32 := Scalar.subi v376 v378
  let v380 : BitVec 1 := Scalar.cmpi .ne v374 v379
  let v381 : BitVec 32 := Scalar.remsi v278 c8_i32_113
  let c0_i32_118 : BitVec 32 := 0#32
  let v382 : BitVec 1 := Scalar.cmpi .ne v381 c0_i32_118
  let v383 : BitVec 1 := Scalar.andi v380 v382
  let v369 : BitVec 32 := Scalar.divsi v278 c8_i32_113
  let c1_i32_119 : BitVec 32 := 1#32
  let v384 : BitVec 32 := Scalar.subi v369 c1_i32_119
  let v385 : BitVec 32 := Scalar.select v383 v384 v369
  let v397 : Index := Scalar.indexCast v385
  let c8_i32_120 : BitVec 32 := 8#32
  let c0_i32_121 : BitVec 32 := 0#32
  let v386 : BitVec 1 := Scalar.cmpi .eq c8_i32_120 c0_i32_121
  let c1_i32_122 : BitVec 32 := 1#32
  let v387 : BitVec 32 := Scalar.select v386 c1_i32_122 c8_i32_120
  let v388 : BitVec 32 := Scalar.remsi v278 v387
  let c0_i32_124 : BitVec 32 := 0#32
  let v390 : BitVec 1 := Scalar.cmpi .slt v388 c0_i32_124
  let c0_i32_125 : BitVec 32 := 0#32
  let v391 : BitVec 1 := Scalar.cmpi .slt v387 c0_i32_125
  let v392 : BitVec 1 := Scalar.xori v390 v391
  let c0_i32_123 : BitVec 32 := 0#32
  let v389 : BitVec 1 := Scalar.cmpi .ne v388 c0_i32_123
  let v393 : BitVec 1 := Scalar.andi v392 v389
  let v394 : BitVec 32 := Scalar.addi v388 v387
  let v395 : BitVec 32 := Scalar.select v393 v394 v388
  let c16_i32_126 : BitVec 32 := 16#32
  let v396 : BitVec 32 := Scalar.muli v395 c16_i32_126
  let v398 : Index := Scalar.indexCast v396
  ![v397.toNat, v398.toNat]

def k0_chk19 (i : grid0.Coords) (v278 : BitVec 32) : Prop :=
  (∀ (k0_h1 : k0_cond1 i = 1#1), ∀ a, (k0_off329 v278) a + S1x16.size a ≤ S512x128.size a) ∧
  (∀ (k0_h1 : k0_cond1 i = 1#1), ∀ a, (k0_off331 v278) a + S1x16.size a ≤ S512x128.size a) ∧
  (∀ (k0_h1 : k0_cond1 i = 1#1), ∀ a, (k0_off333 v278) a + S1x16.size a ≤ S512x128.size a) ∧
  (∀ (k0_h1 : k0_cond1 i = 1#1), ∀ a, (k0_off335 v278) a + S1x16.size a ≤ S512x128.size a) ∧
  (∀ (k0_h1 : k0_cond1 i = 1#1), ∀ a, (k0_off337 v278) a + S1x16.size a ≤ S512x128.size a) ∧
  (∀ (k0_h1 : k0_cond1 i = 1#1), ∀ a, (k0_off339 v278) a + S1x16.size a ≤ S512x128.size a) ∧
  (∀ (k0_h1 : k0_cond1 i = 1#1), ∀ a, (k0_off341 v278) a + S1x16.size a ≤ S512x128.size a) ∧
  (∀ (k0_h1 : k0_cond1 i = 1#1), ∀ a, (k0_off343 v278) a + S1x16.size a ≤ S512x128.size a) ∧
  (∀ (k0_h1 : k0_cond1 i = 1#1), ∀ a, (k0_off345 v278) a + S1x16.size a ≤ S64x128.size a)
theorem k0_off329_inb : ∀ (i : grid0.Coords) (v278 : BitVec 32) (k0_hw19 : k0_chk19 i v278), ∀ (k0_h1 : k0_cond1 i = 1#1), ∀ a, (k0_off329 v278) a + S1x16.size a ≤ S512x128.size a := fun i v278 k0_hw19 k0_h1 => k0_hw19.1 k0_h1
theorem k0_off331_inb : ∀ (i : grid0.Coords) (v278 : BitVec 32) (k0_hw19 : k0_chk19 i v278), ∀ (k0_h1 : k0_cond1 i = 1#1), ∀ a, (k0_off331 v278) a + S1x16.size a ≤ S512x128.size a := fun i v278 k0_hw19 k0_h1 => k0_hw19.2.1 k0_h1
theorem k0_off333_inb : ∀ (i : grid0.Coords) (v278 : BitVec 32) (k0_hw19 : k0_chk19 i v278), ∀ (k0_h1 : k0_cond1 i = 1#1), ∀ a, (k0_off333 v278) a + S1x16.size a ≤ S512x128.size a := fun i v278 k0_hw19 k0_h1 => k0_hw19.2.2.1 k0_h1
theorem k0_off335_inb : ∀ (i : grid0.Coords) (v278 : BitVec 32) (k0_hw19 : k0_chk19 i v278), ∀ (k0_h1 : k0_cond1 i = 1#1), ∀ a, (k0_off335 v278) a + S1x16.size a ≤ S512x128.size a := fun i v278 k0_hw19 k0_h1 => k0_hw19.2.2.2.1 k0_h1
theorem k0_off337_inb : ∀ (i : grid0.Coords) (v278 : BitVec 32) (k0_hw19 : k0_chk19 i v278), ∀ (k0_h1 : k0_cond1 i = 1#1), ∀ a, (k0_off337 v278) a + S1x16.size a ≤ S512x128.size a := fun i v278 k0_hw19 k0_h1 => k0_hw19.2.2.2.2.1 k0_h1
theorem k0_off339_inb : ∀ (i : grid0.Coords) (v278 : BitVec 32) (k0_hw19 : k0_chk19 i v278), ∀ (k0_h1 : k0_cond1 i = 1#1), ∀ a, (k0_off339 v278) a + S1x16.size a ≤ S512x128.size a := fun i v278 k0_hw19 k0_h1 => k0_hw19.2.2.2.2.2.1 k0_h1
theorem k0_off341_inb : ∀ (i : grid0.Coords) (v278 : BitVec 32) (k0_hw19 : k0_chk19 i v278), ∀ (k0_h1 : k0_cond1 i = 1#1), ∀ a, (k0_off341 v278) a + S1x16.size a ≤ S512x128.size a := fun i v278 k0_hw19 k0_h1 => k0_hw19.2.2.2.2.2.2.1 k0_h1
theorem k0_off343_inb : ∀ (i : grid0.Coords) (v278 : BitVec 32) (k0_hw19 : k0_chk19 i v278), ∀ (k0_h1 : k0_cond1 i = 1#1), ∀ a, (k0_off343 v278) a + S1x16.size a ≤ S512x128.size a := fun i v278 k0_hw19 k0_h1 => k0_hw19.2.2.2.2.2.2.2.1 k0_h1
theorem k0_off345_inb : ∀ (i : grid0.Coords) (v278 : BitVec 32) (k0_hw19 : k0_chk19 i v278), ∀ (k0_h1 : k0_cond1 i = 1#1), ∀ a, (k0_off345 v278) a + S1x16.size a ≤ S64x128.size a := fun i v278 k0_hw19 k0_h1 => k0_hw19.2.2.2.2.2.2.2.2 k0_h1

def k0_off346 (v408 : BitVec 32) : Fin 2 → Nat :=
  let v411 : Index := Scalar.indexCast v408
  let c0_128 : Index := 0#32
  ![v411.toNat, 0]

def k0_off347 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v414 : Index := Scalar.indexCast v410
  let c0_129 : Index := 0#32
  ![v414.toNat, 0]
def k0_off348 (v408 : BitVec 32) : Fin 2 → Nat :=
  let v422 : Index := Scalar.indexCast v408
  let c16_131 : Index := 16#32
  ![v422.toNat, 16]
def k0_off349 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v425 : Index := Scalar.indexCast v410
  let c16_132 : Index := 16#32
  ![v425.toNat, 16]
def k0_off350 (v408 : BitVec 32) : Fin 2 → Nat :=
  let v433 : Index := Scalar.indexCast v408
  let c32_134 : Index := 32#32
  ![v433.toNat, 32]
def k0_off351 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v436 : Index := Scalar.indexCast v410
  let c32_135 : Index := 32#32
  ![v436.toNat, 32]
def k0_off352 (v408 : BitVec 32) : Fin 2 → Nat :=
  let v444 : Index := Scalar.indexCast v408
  let c48_137 : Index := 48#32
  ![v444.toNat, 48]
def k0_off353 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v447 : Index := Scalar.indexCast v410
  let c48_138 : Index := 48#32
  ![v447.toNat, 48]
def k0_off354 (v408 : BitVec 32) : Fin 2 → Nat :=
  let v455 : Index := Scalar.indexCast v408
  let c64_140 : Index := 64#32
  ![v455.toNat, 64]
def k0_off355 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v458 : Index := Scalar.indexCast v410
  let c64_141 : Index := 64#32
  ![v458.toNat, 64]
def k0_off356 (v408 : BitVec 32) : Fin 2 → Nat :=
  let v466 : Index := Scalar.indexCast v408
  let c80_143 : Index := 80#32
  ![v466.toNat, 80]
def k0_off357 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v469 : Index := Scalar.indexCast v410
  let c80_144 : Index := 80#32
  ![v469.toNat, 80]
def k0_off358 (v408 : BitVec 32) : Fin 2 → Nat :=
  let v477 : Index := Scalar.indexCast v408
  let c96_146 : Index := 96#32
  ![v477.toNat, 96]
def k0_off359 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v480 : Index := Scalar.indexCast v410
  let c96_147 : Index := 96#32
  ![v480.toNat, 96]
def k0_off360 (v408 : BitVec 32) : Fin 2 → Nat :=
  let v488 : Index := Scalar.indexCast v408
  let c112_149 : Index := 112#32
  ![v488.toNat, 112]
def k0_off361 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_127 : BitVec 32 := 16#32
  let v409 : BitVec 32 := Scalar.muli arg10 c16_i32_127
  let c3_i32 : BitVec 32 := 3#32
  let v410 : BitVec 32 := Scalar.addi v409 c3_i32
  let v491 : Index := Scalar.indexCast v410
  let c112_150 : Index := 112#32
  ![v491.toNat, 112]
def k0_off362 (v408 : BitVec 32) : Fin 2 → Nat :=
  let c0_i32_153 : BitVec 32 := 0#32
  let v500 : BitVec 1 := Scalar.cmpi .sgt v408 c0_i32_153
  let v501 : BitVec 32 := Scalar.extui v500
  let c0_i32_154 : BitVec 32 := 0#32
  let v502 : BitVec 1 := Scalar.cmpi .slt v408 c0_i32_154
  let v503 : BitVec 32 := Scalar.extui v502
  let v504 : BitVec 32 := Scalar.subi v501 v503
  let c8_i32_152 : BitVec 32 := 8#32
  let c0_i32_155 : BitVec 32 := 0#32
  let v505 : BitVec 1 := Scalar.cmpi .sgt c8_i32_152 c0_i32_155
  let v506 : BitVec 32 := Scalar.extui v505
  let c0_i32_156 : BitVec 32 := 0#32
  let v507 : BitVec 1 := Scalar.cmpi .slt c8_i32_152 c0_i32_156
  let v508 : BitVec 32 := Scalar.extui v507
  let v509 : BitVec 32 := Scalar.subi v506 v508
  let v510 : BitVec 1 := Scalar.cmpi .ne v504 v509
  let v511 : BitVec 32 := Scalar.remsi v408 c8_i32_152
  let c0_i32_157 : BitVec 32 := 0#32
  let v512 : BitVec 1 := Scalar.cmpi .ne v511 c0_i32_157
  let v513 : BitVec 1 := Scalar.andi v510 v512
  let v499 : BitVec 32 := Scalar.divsi v408 c8_i32_152
  let c1_i32_158 : BitVec 32 := 1#32
  let v514 : BitVec 32 := Scalar.subi v499 c1_i32_158
  let v515 : BitVec 32 := Scalar.select v513 v514 v499
  let v527 : Index := Scalar.indexCast v515
  let c8_i32_159 : BitVec 32 := 8#32
  let c0_i32_160 : BitVec 32 := 0#32
  let v516 : BitVec 1 := Scalar.cmpi .eq c8_i32_159 c0_i32_160
  let c1_i32_161 : BitVec 32 := 1#32
  let v517 : BitVec 32 := Scalar.select v516 c1_i32_161 c8_i32_159
  let v518 : BitVec 32 := Scalar.remsi v408 v517
  let c0_i32_163 : BitVec 32 := 0#32
  let v520 : BitVec 1 := Scalar.cmpi .slt v518 c0_i32_163
  let c0_i32_164 : BitVec 32 := 0#32
  let v521 : BitVec 1 := Scalar.cmpi .slt v517 c0_i32_164
  let v522 : BitVec 1 := Scalar.xori v520 v521
  let c0_i32_162 : BitVec 32 := 0#32
  let v519 : BitVec 1 := Scalar.cmpi .ne v518 c0_i32_162
  let v523 : BitVec 1 := Scalar.andi v522 v519
  let v524 : BitVec 32 := Scalar.addi v518 v517
  let v525 : BitVec 32 := Scalar.select v523 v524 v518
  let c16_i32_165 : BitVec 32 := 16#32
  let v526 : BitVec 32 := Scalar.muli v525 c16_i32_165
  let v528 : Index := Scalar.indexCast v526
  ![v527.toNat, v528.toNat]

def k0_chk20 (i : grid0.Coords) (v408 : BitVec 32) : Prop :=
  (∀ (k0_h1 : k0_cond1 i = 1#1), ∀ a, (k0_off346 v408) a + S1x16.size a ≤ S512x128.size a) ∧
  (∀ (k0_h1 : k0_cond1 i = 1#1), ∀ a, (k0_off348 v408) a + S1x16.size a ≤ S512x128.size a) ∧
  (∀ (k0_h1 : k0_cond1 i = 1#1), ∀ a, (k0_off350 v408) a + S1x16.size a ≤ S512x128.size a) ∧
  (∀ (k0_h1 : k0_cond1 i = 1#1), ∀ a, (k0_off352 v408) a + S1x16.size a ≤ S512x128.size a) ∧
  (∀ (k0_h1 : k0_cond1 i = 1#1), ∀ a, (k0_off354 v408) a + S1x16.size a ≤ S512x128.size a) ∧
  (∀ (k0_h1 : k0_cond1 i = 1#1), ∀ a, (k0_off356 v408) a + S1x16.size a ≤ S512x128.size a) ∧
  (∀ (k0_h1 : k0_cond1 i = 1#1), ∀ a, (k0_off358 v408) a + S1x16.size a ≤ S512x128.size a) ∧
  (∀ (k0_h1 : k0_cond1 i = 1#1), ∀ a, (k0_off360 v408) a + S1x16.size a ≤ S512x128.size a) ∧
  (∀ (k0_h1 : k0_cond1 i = 1#1), ∀ a, (k0_off362 v408) a + S1x16.size a ≤ S64x128.size a)
theorem k0_off346_inb : ∀ (i : grid0.Coords) (v408 : BitVec 32) (k0_hw20 : k0_chk20 i v408), ∀ (k0_h1 : k0_cond1 i = 1#1), ∀ a, (k0_off346 v408) a + S1x16.size a ≤ S512x128.size a := fun i v408 k0_hw20 k0_h1 => k0_hw20.1 k0_h1
theorem k0_off348_inb : ∀ (i : grid0.Coords) (v408 : BitVec 32) (k0_hw20 : k0_chk20 i v408), ∀ (k0_h1 : k0_cond1 i = 1#1), ∀ a, (k0_off348 v408) a + S1x16.size a ≤ S512x128.size a := fun i v408 k0_hw20 k0_h1 => k0_hw20.2.1 k0_h1
theorem k0_off350_inb : ∀ (i : grid0.Coords) (v408 : BitVec 32) (k0_hw20 : k0_chk20 i v408), ∀ (k0_h1 : k0_cond1 i = 1#1), ∀ a, (k0_off350 v408) a + S1x16.size a ≤ S512x128.size a := fun i v408 k0_hw20 k0_h1 => k0_hw20.2.2.1 k0_h1
theorem k0_off352_inb : ∀ (i : grid0.Coords) (v408 : BitVec 32) (k0_hw20 : k0_chk20 i v408), ∀ (k0_h1 : k0_cond1 i = 1#1), ∀ a, (k0_off352 v408) a + S1x16.size a ≤ S512x128.size a := fun i v408 k0_hw20 k0_h1 => k0_hw20.2.2.2.1 k0_h1
theorem k0_off354_inb : ∀ (i : grid0.Coords) (v408 : BitVec 32) (k0_hw20 : k0_chk20 i v408), ∀ (k0_h1 : k0_cond1 i = 1#1), ∀ a, (k0_off354 v408) a + S1x16.size a ≤ S512x128.size a := fun i v408 k0_hw20 k0_h1 => k0_hw20.2.2.2.2.1 k0_h1
theorem k0_off356_inb : ∀ (i : grid0.Coords) (v408 : BitVec 32) (k0_hw20 : k0_chk20 i v408), ∀ (k0_h1 : k0_cond1 i = 1#1), ∀ a, (k0_off356 v408) a + S1x16.size a ≤ S512x128.size a := fun i v408 k0_hw20 k0_h1 => k0_hw20.2.2.2.2.2.1 k0_h1
theorem k0_off358_inb : ∀ (i : grid0.Coords) (v408 : BitVec 32) (k0_hw20 : k0_chk20 i v408), ∀ (k0_h1 : k0_cond1 i = 1#1), ∀ a, (k0_off358 v408) a + S1x16.size a ≤ S512x128.size a := fun i v408 k0_hw20 k0_h1 => k0_hw20.2.2.2.2.2.2.1 k0_h1
theorem k0_off360_inb : ∀ (i : grid0.Coords) (v408 : BitVec 32) (k0_hw20 : k0_chk20 i v408), ∀ (k0_h1 : k0_cond1 i = 1#1), ∀ a, (k0_off360 v408) a + S1x16.size a ≤ S512x128.size a := fun i v408 k0_hw20 k0_h1 => k0_hw20.2.2.2.2.2.2.2.1 k0_h1
theorem k0_off362_inb : ∀ (i : grid0.Coords) (v408 : BitVec 32) (k0_hw20 : k0_chk20 i v408), ∀ (k0_h1 : k0_cond1 i = 1#1), ∀ a, (k0_off362 v408) a + S1x16.size a ≤ S64x128.size a := fun i v408 k0_hw20 k0_h1 => k0_hw20.2.2.2.2.2.2.2.2 k0_h1

def k0_off363 (v538 : BitVec 32) : Fin 2 → Nat :=
  let v541 : Index := Scalar.indexCast v538
  let c0_167 : Index := 0#32
  ![v541.toNat, 0]

def k0_off364 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v544 : Index := Scalar.indexCast v540
  let c0_168 : Index := 0#32
  ![v544.toNat, 0]
def k0_off365 (v538 : BitVec 32) : Fin 2 → Nat :=
  let v552 : Index := Scalar.indexCast v538
  let c16_170 : Index := 16#32
  ![v552.toNat, 16]
def k0_off366 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v555 : Index := Scalar.indexCast v540
  let c16_171 : Index := 16#32
  ![v555.toNat, 16]
def k0_off367 (v538 : BitVec 32) : Fin 2 → Nat :=
  let v563 : Index := Scalar.indexCast v538
  let c32_173 : Index := 32#32
  ![v563.toNat, 32]
def k0_off368 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v566 : Index := Scalar.indexCast v540
  let c32_174 : Index := 32#32
  ![v566.toNat, 32]
def k0_off369 (v538 : BitVec 32) : Fin 2 → Nat :=
  let v574 : Index := Scalar.indexCast v538
  let c48_176 : Index := 48#32
  ![v574.toNat, 48]
def k0_off370 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v577 : Index := Scalar.indexCast v540
  let c48_177 : Index := 48#32
  ![v577.toNat, 48]
def k0_off371 (v538 : BitVec 32) : Fin 2 → Nat :=
  let v585 : Index := Scalar.indexCast v538
  let c64_179 : Index := 64#32
  ![v585.toNat, 64]
def k0_off372 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v588 : Index := Scalar.indexCast v540
  let c64_180 : Index := 64#32
  ![v588.toNat, 64]
def k0_off373 (v538 : BitVec 32) : Fin 2 → Nat :=
  let v596 : Index := Scalar.indexCast v538
  let c80_182 : Index := 80#32
  ![v596.toNat, 80]
def k0_off374 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v599 : Index := Scalar.indexCast v540
  let c80_183 : Index := 80#32
  ![v599.toNat, 80]
def k0_off375 (v538 : BitVec 32) : Fin 2 → Nat :=
  let v607 : Index := Scalar.indexCast v538
  let c96_185 : Index := 96#32
  ![v607.toNat, 96]
def k0_off376 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v610 : Index := Scalar.indexCast v540
  let c96_186 : Index := 96#32
  ![v610.toNat, 96]
def k0_off377 (v538 : BitVec 32) : Fin 2 → Nat :=
  let v618 : Index := Scalar.indexCast v538
  let c112_188 : Index := 112#32
  ![v618.toNat, 112]
def k0_off378 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_166 : BitVec 32 := 16#32
  let v539 : BitVec 32 := Scalar.muli arg10 c16_i32_166
  let c4_i32 : BitVec 32 := 4#32
  let v540 : BitVec 32 := Scalar.addi v539 c4_i32
  let v621 : Index := Scalar.indexCast v540
  let c112_189 : Index := 112#32
  ![v621.toNat, 112]
def k0_off379 (v538 : BitVec 32) : Fin 2 → Nat :=
  let c0_i32_192 : BitVec 32 := 0#32
  let v630 : BitVec 1 := Scalar.cmpi .sgt v538 c0_i32_192
  let v631 : BitVec 32 := Scalar.extui v630
  let c0_i32_193 : BitVec 32 := 0#32
  let v632 : BitVec 1 := Scalar.cmpi .slt v538 c0_i32_193
  let v633 : BitVec 32 := Scalar.extui v632
  let v634 : BitVec 32 := Scalar.subi v631 v633
  let c8_i32_191 : BitVec 32 := 8#32
  let c0_i32_194 : BitVec 32 := 0#32
  let v635 : BitVec 1 := Scalar.cmpi .sgt c8_i32_191 c0_i32_194
  let v636 : BitVec 32 := Scalar.extui v635
  let c0_i32_195 : BitVec 32 := 0#32
  let v637 : BitVec 1 := Scalar.cmpi .slt c8_i32_191 c0_i32_195
  let v638 : BitVec 32 := Scalar.extui v637
  let v639 : BitVec 32 := Scalar.subi v636 v638
  let v640 : BitVec 1 := Scalar.cmpi .ne v634 v639
  let v641 : BitVec 32 := Scalar.remsi v538 c8_i32_191
  let c0_i32_196 : BitVec 32 := 0#32
  let v642 : BitVec 1 := Scalar.cmpi .ne v641 c0_i32_196
  let v643 : BitVec 1 := Scalar.andi v640 v642
  let v629 : BitVec 32 := Scalar.divsi v538 c8_i32_191
  let c1_i32_197 : BitVec 32 := 1#32
  let v644 : BitVec 32 := Scalar.subi v629 c1_i32_197
  let v645 : BitVec 32 := Scalar.select v643 v644 v629
  let v657 : Index := Scalar.indexCast v645
  let c8_i32_198 : BitVec 32 := 8#32
  let c0_i32_199 : BitVec 32 := 0#32
  let v646 : BitVec 1 := Scalar.cmpi .eq c8_i32_198 c0_i32_199
  let c1_i32_200 : BitVec 32 := 1#32
  let v647 : BitVec 32 := Scalar.select v646 c1_i32_200 c8_i32_198
  let v648 : BitVec 32 := Scalar.remsi v538 v647
  let c0_i32_202 : BitVec 32 := 0#32
  let v650 : BitVec 1 := Scalar.cmpi .slt v648 c0_i32_202
  let c0_i32_203 : BitVec 32 := 0#32
  let v651 : BitVec 1 := Scalar.cmpi .slt v647 c0_i32_203
  let v652 : BitVec 1 := Scalar.xori v650 v651
  let c0_i32_201 : BitVec 32 := 0#32
  let v649 : BitVec 1 := Scalar.cmpi .ne v648 c0_i32_201
  let v653 : BitVec 1 := Scalar.andi v652 v649
  let v654 : BitVec 32 := Scalar.addi v648 v647
  let v655 : BitVec 32 := Scalar.select v653 v654 v648
  let c16_i32_204 : BitVec 32 := 16#32
  let v656 : BitVec 32 := Scalar.muli v655 c16_i32_204
  let v658 : Index := Scalar.indexCast v656
  ![v657.toNat, v658.toNat]

def k0_chk21 (i : grid0.Coords) (v538 : BitVec 32) : Prop :=
  (∀ (k0_h1 : k0_cond1 i = 1#1), ∀ a, (k0_off363 v538) a + S1x16.size a ≤ S512x128.size a) ∧
  (∀ (k0_h1 : k0_cond1 i = 1#1), ∀ a, (k0_off365 v538) a + S1x16.size a ≤ S512x128.size a) ∧
  (∀ (k0_h1 : k0_cond1 i = 1#1), ∀ a, (k0_off367 v538) a + S1x16.size a ≤ S512x128.size a) ∧
  (∀ (k0_h1 : k0_cond1 i = 1#1), ∀ a, (k0_off369 v538) a + S1x16.size a ≤ S512x128.size a) ∧
  (∀ (k0_h1 : k0_cond1 i = 1#1), ∀ a, (k0_off371 v538) a + S1x16.size a ≤ S512x128.size a) ∧
  (∀ (k0_h1 : k0_cond1 i = 1#1), ∀ a, (k0_off373 v538) a + S1x16.size a ≤ S512x128.size a) ∧
  (∀ (k0_h1 : k0_cond1 i = 1#1), ∀ a, (k0_off375 v538) a + S1x16.size a ≤ S512x128.size a) ∧
  (∀ (k0_h1 : k0_cond1 i = 1#1), ∀ a, (k0_off377 v538) a + S1x16.size a ≤ S512x128.size a) ∧
  (∀ (k0_h1 : k0_cond1 i = 1#1), ∀ a, (k0_off379 v538) a + S1x16.size a ≤ S64x128.size a)
theorem k0_off363_inb : ∀ (i : grid0.Coords) (v538 : BitVec 32) (k0_hw21 : k0_chk21 i v538), ∀ (k0_h1 : k0_cond1 i = 1#1), ∀ a, (k0_off363 v538) a + S1x16.size a ≤ S512x128.size a := fun i v538 k0_hw21 k0_h1 => k0_hw21.1 k0_h1
theorem k0_off365_inb : ∀ (i : grid0.Coords) (v538 : BitVec 32) (k0_hw21 : k0_chk21 i v538), ∀ (k0_h1 : k0_cond1 i = 1#1), ∀ a, (k0_off365 v538) a + S1x16.size a ≤ S512x128.size a := fun i v538 k0_hw21 k0_h1 => k0_hw21.2.1 k0_h1
theorem k0_off367_inb : ∀ (i : grid0.Coords) (v538 : BitVec 32) (k0_hw21 : k0_chk21 i v538), ∀ (k0_h1 : k0_cond1 i = 1#1), ∀ a, (k0_off367 v538) a + S1x16.size a ≤ S512x128.size a := fun i v538 k0_hw21 k0_h1 => k0_hw21.2.2.1 k0_h1
theorem k0_off369_inb : ∀ (i : grid0.Coords) (v538 : BitVec 32) (k0_hw21 : k0_chk21 i v538), ∀ (k0_h1 : k0_cond1 i = 1#1), ∀ a, (k0_off369 v538) a + S1x16.size a ≤ S512x128.size a := fun i v538 k0_hw21 k0_h1 => k0_hw21.2.2.2.1 k0_h1
theorem k0_off371_inb : ∀ (i : grid0.Coords) (v538 : BitVec 32) (k0_hw21 : k0_chk21 i v538), ∀ (k0_h1 : k0_cond1 i = 1#1), ∀ a, (k0_off371 v538) a + S1x16.size a ≤ S512x128.size a := fun i v538 k0_hw21 k0_h1 => k0_hw21.2.2.2.2.1 k0_h1
theorem k0_off373_inb : ∀ (i : grid0.Coords) (v538 : BitVec 32) (k0_hw21 : k0_chk21 i v538), ∀ (k0_h1 : k0_cond1 i = 1#1), ∀ a, (k0_off373 v538) a + S1x16.size a ≤ S512x128.size a := fun i v538 k0_hw21 k0_h1 => k0_hw21.2.2.2.2.2.1 k0_h1
theorem k0_off375_inb : ∀ (i : grid0.Coords) (v538 : BitVec 32) (k0_hw21 : k0_chk21 i v538), ∀ (k0_h1 : k0_cond1 i = 1#1), ∀ a, (k0_off375 v538) a + S1x16.size a ≤ S512x128.size a := fun i v538 k0_hw21 k0_h1 => k0_hw21.2.2.2.2.2.2.1 k0_h1
theorem k0_off377_inb : ∀ (i : grid0.Coords) (v538 : BitVec 32) (k0_hw21 : k0_chk21 i v538), ∀ (k0_h1 : k0_cond1 i = 1#1), ∀ a, (k0_off377 v538) a + S1x16.size a ≤ S512x128.size a := fun i v538 k0_hw21 k0_h1 => k0_hw21.2.2.2.2.2.2.2.1 k0_h1
theorem k0_off379_inb : ∀ (i : grid0.Coords) (v538 : BitVec 32) (k0_hw21 : k0_chk21 i v538), ∀ (k0_h1 : k0_cond1 i = 1#1), ∀ a, (k0_off379 v538) a + S1x16.size a ≤ S64x128.size a := fun i v538 k0_hw21 k0_h1 => k0_hw21.2.2.2.2.2.2.2.2 k0_h1

def k0_off380 (v668 : BitVec 32) : Fin 2 → Nat :=
  let v671 : Index := Scalar.indexCast v668
  let c0_206 : Index := 0#32
  ![v671.toNat, 0]

def k0_off381 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v674 : Index := Scalar.indexCast v670
  let c0_207 : Index := 0#32
  ![v674.toNat, 0]
def k0_off382 (v668 : BitVec 32) : Fin 2 → Nat :=
  let v682 : Index := Scalar.indexCast v668
  let c16_209 : Index := 16#32
  ![v682.toNat, 16]
def k0_off383 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v685 : Index := Scalar.indexCast v670
  let c16_210 : Index := 16#32
  ![v685.toNat, 16]
def k0_off384 (v668 : BitVec 32) : Fin 2 → Nat :=
  let v693 : Index := Scalar.indexCast v668
  let c32_212 : Index := 32#32
  ![v693.toNat, 32]
def k0_off385 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v696 : Index := Scalar.indexCast v670
  let c32_213 : Index := 32#32
  ![v696.toNat, 32]
def k0_off386 (v668 : BitVec 32) : Fin 2 → Nat :=
  let v704 : Index := Scalar.indexCast v668
  let c48_215 : Index := 48#32
  ![v704.toNat, 48]
def k0_off387 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v707 : Index := Scalar.indexCast v670
  let c48_216 : Index := 48#32
  ![v707.toNat, 48]
def k0_off388 (v668 : BitVec 32) : Fin 2 → Nat :=
  let v715 : Index := Scalar.indexCast v668
  let c64_218 : Index := 64#32
  ![v715.toNat, 64]
def k0_off389 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v718 : Index := Scalar.indexCast v670
  let c64_219 : Index := 64#32
  ![v718.toNat, 64]
def k0_off390 (v668 : BitVec 32) : Fin 2 → Nat :=
  let v726 : Index := Scalar.indexCast v668
  let c80_221 : Index := 80#32
  ![v726.toNat, 80]
def k0_off391 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v729 : Index := Scalar.indexCast v670
  let c80_222 : Index := 80#32
  ![v729.toNat, 80]
def k0_off392 (v668 : BitVec 32) : Fin 2 → Nat :=
  let v737 : Index := Scalar.indexCast v668
  let c96_224 : Index := 96#32
  ![v737.toNat, 96]
def k0_off393 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v740 : Index := Scalar.indexCast v670
  let c96_225 : Index := 96#32
  ![v740.toNat, 96]
def k0_off394 (v668 : BitVec 32) : Fin 2 → Nat :=
  let v748 : Index := Scalar.indexCast v668
  let c112_227 : Index := 112#32
  ![v748.toNat, 112]
def k0_off395 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_205 : BitVec 32 := 16#32
  let v669 : BitVec 32 := Scalar.muli arg10 c16_i32_205
  let c5_i32 : BitVec 32 := 5#32
  let v670 : BitVec 32 := Scalar.addi v669 c5_i32
  let v751 : Index := Scalar.indexCast v670
  let c112_228 : Index := 112#32
  ![v751.toNat, 112]
def k0_off396 (v668 : BitVec 32) : Fin 2 → Nat :=
  let c0_i32_231 : BitVec 32 := 0#32
  let v760 : BitVec 1 := Scalar.cmpi .sgt v668 c0_i32_231
  let v761 : BitVec 32 := Scalar.extui v760
  let c0_i32_232 : BitVec 32 := 0#32
  let v762 : BitVec 1 := Scalar.cmpi .slt v668 c0_i32_232
  let v763 : BitVec 32 := Scalar.extui v762
  let v764 : BitVec 32 := Scalar.subi v761 v763
  let c8_i32_230 : BitVec 32 := 8#32
  let c0_i32_233 : BitVec 32 := 0#32
  let v765 : BitVec 1 := Scalar.cmpi .sgt c8_i32_230 c0_i32_233
  let v766 : BitVec 32 := Scalar.extui v765
  let c0_i32_234 : BitVec 32 := 0#32
  let v767 : BitVec 1 := Scalar.cmpi .slt c8_i32_230 c0_i32_234
  let v768 : BitVec 32 := Scalar.extui v767
  let v769 : BitVec 32 := Scalar.subi v766 v768
  let v770 : BitVec 1 := Scalar.cmpi .ne v764 v769
  let v771 : BitVec 32 := Scalar.remsi v668 c8_i32_230
  let c0_i32_235 : BitVec 32 := 0#32
  let v772 : BitVec 1 := Scalar.cmpi .ne v771 c0_i32_235
  let v773 : BitVec 1 := Scalar.andi v770 v772
  let v759 : BitVec 32 := Scalar.divsi v668 c8_i32_230
  let c1_i32_236 : BitVec 32 := 1#32
  let v774 : BitVec 32 := Scalar.subi v759 c1_i32_236
  let v775 : BitVec 32 := Scalar.select v773 v774 v759
  let v787 : Index := Scalar.indexCast v775
  let c8_i32_237 : BitVec 32 := 8#32
  let c0_i32_238 : BitVec 32 := 0#32
  let v776 : BitVec 1 := Scalar.cmpi .eq c8_i32_237 c0_i32_238
  let c1_i32_239 : BitVec 32 := 1#32
  let v777 : BitVec 32 := Scalar.select v776 c1_i32_239 c8_i32_237
  let v778 : BitVec 32 := Scalar.remsi v668 v777
  let c0_i32_241 : BitVec 32 := 0#32
  let v780 : BitVec 1 := Scalar.cmpi .slt v778 c0_i32_241
  let c0_i32_242 : BitVec 32 := 0#32
  let v781 : BitVec 1 := Scalar.cmpi .slt v777 c0_i32_242
  let v782 : BitVec 1 := Scalar.xori v780 v781
  let c0_i32_240 : BitVec 32 := 0#32
  let v779 : BitVec 1 := Scalar.cmpi .ne v778 c0_i32_240
  let v783 : BitVec 1 := Scalar.andi v782 v779
  let v784 : BitVec 32 := Scalar.addi v778 v777
  let v785 : BitVec 32 := Scalar.select v783 v784 v778
  let c16_i32_243 : BitVec 32 := 16#32
  let v786 : BitVec 32 := Scalar.muli v785 c16_i32_243
  let v788 : Index := Scalar.indexCast v786
  ![v787.toNat, v788.toNat]

def k0_chk22 (i : grid0.Coords) (v668 : BitVec 32) : Prop :=
  (∀ (k0_h1 : k0_cond1 i = 1#1), ∀ a, (k0_off380 v668) a + S1x16.size a ≤ S512x128.size a) ∧
  (∀ (k0_h1 : k0_cond1 i = 1#1), ∀ a, (k0_off382 v668) a + S1x16.size a ≤ S512x128.size a) ∧
  (∀ (k0_h1 : k0_cond1 i = 1#1), ∀ a, (k0_off384 v668) a + S1x16.size a ≤ S512x128.size a) ∧
  (∀ (k0_h1 : k0_cond1 i = 1#1), ∀ a, (k0_off386 v668) a + S1x16.size a ≤ S512x128.size a) ∧
  (∀ (k0_h1 : k0_cond1 i = 1#1), ∀ a, (k0_off388 v668) a + S1x16.size a ≤ S512x128.size a) ∧
  (∀ (k0_h1 : k0_cond1 i = 1#1), ∀ a, (k0_off390 v668) a + S1x16.size a ≤ S512x128.size a) ∧
  (∀ (k0_h1 : k0_cond1 i = 1#1), ∀ a, (k0_off392 v668) a + S1x16.size a ≤ S512x128.size a) ∧
  (∀ (k0_h1 : k0_cond1 i = 1#1), ∀ a, (k0_off394 v668) a + S1x16.size a ≤ S512x128.size a) ∧
  (∀ (k0_h1 : k0_cond1 i = 1#1), ∀ a, (k0_off396 v668) a + S1x16.size a ≤ S64x128.size a)
theorem k0_off380_inb : ∀ (i : grid0.Coords) (v668 : BitVec 32) (k0_hw22 : k0_chk22 i v668), ∀ (k0_h1 : k0_cond1 i = 1#1), ∀ a, (k0_off380 v668) a + S1x16.size a ≤ S512x128.size a := fun i v668 k0_hw22 k0_h1 => k0_hw22.1 k0_h1
theorem k0_off382_inb : ∀ (i : grid0.Coords) (v668 : BitVec 32) (k0_hw22 : k0_chk22 i v668), ∀ (k0_h1 : k0_cond1 i = 1#1), ∀ a, (k0_off382 v668) a + S1x16.size a ≤ S512x128.size a := fun i v668 k0_hw22 k0_h1 => k0_hw22.2.1 k0_h1
theorem k0_off384_inb : ∀ (i : grid0.Coords) (v668 : BitVec 32) (k0_hw22 : k0_chk22 i v668), ∀ (k0_h1 : k0_cond1 i = 1#1), ∀ a, (k0_off384 v668) a + S1x16.size a ≤ S512x128.size a := fun i v668 k0_hw22 k0_h1 => k0_hw22.2.2.1 k0_h1
theorem k0_off386_inb : ∀ (i : grid0.Coords) (v668 : BitVec 32) (k0_hw22 : k0_chk22 i v668), ∀ (k0_h1 : k0_cond1 i = 1#1), ∀ a, (k0_off386 v668) a + S1x16.size a ≤ S512x128.size a := fun i v668 k0_hw22 k0_h1 => k0_hw22.2.2.2.1 k0_h1
theorem k0_off388_inb : ∀ (i : grid0.Coords) (v668 : BitVec 32) (k0_hw22 : k0_chk22 i v668), ∀ (k0_h1 : k0_cond1 i = 1#1), ∀ a, (k0_off388 v668) a + S1x16.size a ≤ S512x128.size a := fun i v668 k0_hw22 k0_h1 => k0_hw22.2.2.2.2.1 k0_h1
theorem k0_off390_inb : ∀ (i : grid0.Coords) (v668 : BitVec 32) (k0_hw22 : k0_chk22 i v668), ∀ (k0_h1 : k0_cond1 i = 1#1), ∀ a, (k0_off390 v668) a + S1x16.size a ≤ S512x128.size a := fun i v668 k0_hw22 k0_h1 => k0_hw22.2.2.2.2.2.1 k0_h1
theorem k0_off392_inb : ∀ (i : grid0.Coords) (v668 : BitVec 32) (k0_hw22 : k0_chk22 i v668), ∀ (k0_h1 : k0_cond1 i = 1#1), ∀ a, (k0_off392 v668) a + S1x16.size a ≤ S512x128.size a := fun i v668 k0_hw22 k0_h1 => k0_hw22.2.2.2.2.2.2.1 k0_h1
theorem k0_off394_inb : ∀ (i : grid0.Coords) (v668 : BitVec 32) (k0_hw22 : k0_chk22 i v668), ∀ (k0_h1 : k0_cond1 i = 1#1), ∀ a, (k0_off394 v668) a + S1x16.size a ≤ S512x128.size a := fun i v668 k0_hw22 k0_h1 => k0_hw22.2.2.2.2.2.2.2.1 k0_h1
theorem k0_off396_inb : ∀ (i : grid0.Coords) (v668 : BitVec 32) (k0_hw22 : k0_chk22 i v668), ∀ (k0_h1 : k0_cond1 i = 1#1), ∀ a, (k0_off396 v668) a + S1x16.size a ≤ S64x128.size a := fun i v668 k0_hw22 k0_h1 => k0_hw22.2.2.2.2.2.2.2.2 k0_h1

def k0_off397 (v798 : BitVec 32) : Fin 2 → Nat :=
  let v801 : Index := Scalar.indexCast v798
  let c0_245 : Index := 0#32
  ![v801.toNat, 0]

def k0_off398 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v804 : Index := Scalar.indexCast v800
  let c0_246 : Index := 0#32
  ![v804.toNat, 0]
def k0_off399 (v798 : BitVec 32) : Fin 2 → Nat :=
  let v812 : Index := Scalar.indexCast v798
  let c16_248 : Index := 16#32
  ![v812.toNat, 16]
def k0_off400 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v815 : Index := Scalar.indexCast v800
  let c16_249 : Index := 16#32
  ![v815.toNat, 16]
def k0_off401 (v798 : BitVec 32) : Fin 2 → Nat :=
  let v823 : Index := Scalar.indexCast v798
  let c32_251 : Index := 32#32
  ![v823.toNat, 32]
def k0_off402 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v826 : Index := Scalar.indexCast v800
  let c32_252 : Index := 32#32
  ![v826.toNat, 32]
def k0_off403 (v798 : BitVec 32) : Fin 2 → Nat :=
  let v834 : Index := Scalar.indexCast v798
  let c48_254 : Index := 48#32
  ![v834.toNat, 48]
def k0_off404 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v837 : Index := Scalar.indexCast v800
  let c48_255 : Index := 48#32
  ![v837.toNat, 48]
def k0_off405 (v798 : BitVec 32) : Fin 2 → Nat :=
  let v845 : Index := Scalar.indexCast v798
  let c64_257 : Index := 64#32
  ![v845.toNat, 64]
def k0_off406 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v848 : Index := Scalar.indexCast v800
  let c64_258 : Index := 64#32
  ![v848.toNat, 64]
def k0_off407 (v798 : BitVec 32) : Fin 2 → Nat :=
  let v856 : Index := Scalar.indexCast v798
  let c80_260 : Index := 80#32
  ![v856.toNat, 80]
def k0_off408 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v859 : Index := Scalar.indexCast v800
  let c80_261 : Index := 80#32
  ![v859.toNat, 80]
def k0_off409 (v798 : BitVec 32) : Fin 2 → Nat :=
  let v867 : Index := Scalar.indexCast v798
  let c96_263 : Index := 96#32
  ![v867.toNat, 96]
def k0_off410 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v870 : Index := Scalar.indexCast v800
  let c96_264 : Index := 96#32
  ![v870.toNat, 96]
def k0_off411 (v798 : BitVec 32) : Fin 2 → Nat :=
  let v878 : Index := Scalar.indexCast v798
  let c112_266 : Index := 112#32
  ![v878.toNat, 112]
def k0_off412 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_244 : BitVec 32 := 16#32
  let v799 : BitVec 32 := Scalar.muli arg10 c16_i32_244
  let c6_i32 : BitVec 32 := 6#32
  let v800 : BitVec 32 := Scalar.addi v799 c6_i32
  let v881 : Index := Scalar.indexCast v800
  let c112_267 : Index := 112#32
  ![v881.toNat, 112]
def k0_off413 (v798 : BitVec 32) : Fin 2 → Nat :=
  let c0_i32_270 : BitVec 32 := 0#32
  let v890 : BitVec 1 := Scalar.cmpi .sgt v798 c0_i32_270
  let v891 : BitVec 32 := Scalar.extui v890
  let c0_i32_271 : BitVec 32 := 0#32
  let v892 : BitVec 1 := Scalar.cmpi .slt v798 c0_i32_271
  let v893 : BitVec 32 := Scalar.extui v892
  let v894 : BitVec 32 := Scalar.subi v891 v893
  let c8_i32_269 : BitVec 32 := 8#32
  let c0_i32_272 : BitVec 32 := 0#32
  let v895 : BitVec 1 := Scalar.cmpi .sgt c8_i32_269 c0_i32_272
  let v896 : BitVec 32 := Scalar.extui v895
  let c0_i32_273 : BitVec 32 := 0#32
  let v897 : BitVec 1 := Scalar.cmpi .slt c8_i32_269 c0_i32_273
  let v898 : BitVec 32 := Scalar.extui v897
  let v899 : BitVec 32 := Scalar.subi v896 v898
  let v900 : BitVec 1 := Scalar.cmpi .ne v894 v899
  let v901 : BitVec 32 := Scalar.remsi v798 c8_i32_269
  let c0_i32_274 : BitVec 32 := 0#32
  let v902 : BitVec 1 := Scalar.cmpi .ne v901 c0_i32_274
  let v903 : BitVec 1 := Scalar.andi v900 v902
  let v889 : BitVec 32 := Scalar.divsi v798 c8_i32_269
  let c1_i32_275 : BitVec 32 := 1#32
  let v904 : BitVec 32 := Scalar.subi v889 c1_i32_275
  let v905 : BitVec 32 := Scalar.select v903 v904 v889
  let v917 : Index := Scalar.indexCast v905
  let c8_i32_276 : BitVec 32 := 8#32
  let c0_i32_277 : BitVec 32 := 0#32
  let v906 : BitVec 1 := Scalar.cmpi .eq c8_i32_276 c0_i32_277
  let c1_i32_278 : BitVec 32 := 1#32
  let v907 : BitVec 32 := Scalar.select v906 c1_i32_278 c8_i32_276
  let v908 : BitVec 32 := Scalar.remsi v798 v907
  let c0_i32_280 : BitVec 32 := 0#32
  let v910 : BitVec 1 := Scalar.cmpi .slt v908 c0_i32_280
  let c0_i32_281 : BitVec 32 := 0#32
  let v911 : BitVec 1 := Scalar.cmpi .slt v907 c0_i32_281
  let v912 : BitVec 1 := Scalar.xori v910 v911
  let c0_i32_279 : BitVec 32 := 0#32
  let v909 : BitVec 1 := Scalar.cmpi .ne v908 c0_i32_279
  let v913 : BitVec 1 := Scalar.andi v912 v909
  let v914 : BitVec 32 := Scalar.addi v908 v907
  let v915 : BitVec 32 := Scalar.select v913 v914 v908
  let c16_i32_282 : BitVec 32 := 16#32
  let v916 : BitVec 32 := Scalar.muli v915 c16_i32_282
  let v918 : Index := Scalar.indexCast v916
  ![v917.toNat, v918.toNat]

def k0_chk23 (i : grid0.Coords) (v798 : BitVec 32) : Prop :=
  (∀ (k0_h1 : k0_cond1 i = 1#1), ∀ a, (k0_off397 v798) a + S1x16.size a ≤ S512x128.size a) ∧
  (∀ (k0_h1 : k0_cond1 i = 1#1), ∀ a, (k0_off399 v798) a + S1x16.size a ≤ S512x128.size a) ∧
  (∀ (k0_h1 : k0_cond1 i = 1#1), ∀ a, (k0_off401 v798) a + S1x16.size a ≤ S512x128.size a) ∧
  (∀ (k0_h1 : k0_cond1 i = 1#1), ∀ a, (k0_off403 v798) a + S1x16.size a ≤ S512x128.size a) ∧
  (∀ (k0_h1 : k0_cond1 i = 1#1), ∀ a, (k0_off405 v798) a + S1x16.size a ≤ S512x128.size a) ∧
  (∀ (k0_h1 : k0_cond1 i = 1#1), ∀ a, (k0_off407 v798) a + S1x16.size a ≤ S512x128.size a) ∧
  (∀ (k0_h1 : k0_cond1 i = 1#1), ∀ a, (k0_off409 v798) a + S1x16.size a ≤ S512x128.size a) ∧
  (∀ (k0_h1 : k0_cond1 i = 1#1), ∀ a, (k0_off411 v798) a + S1x16.size a ≤ S512x128.size a) ∧
  (∀ (k0_h1 : k0_cond1 i = 1#1), ∀ a, (k0_off413 v798) a + S1x16.size a ≤ S64x128.size a)
theorem k0_off397_inb : ∀ (i : grid0.Coords) (v798 : BitVec 32) (k0_hw23 : k0_chk23 i v798), ∀ (k0_h1 : k0_cond1 i = 1#1), ∀ a, (k0_off397 v798) a + S1x16.size a ≤ S512x128.size a := fun i v798 k0_hw23 k0_h1 => k0_hw23.1 k0_h1
theorem k0_off399_inb : ∀ (i : grid0.Coords) (v798 : BitVec 32) (k0_hw23 : k0_chk23 i v798), ∀ (k0_h1 : k0_cond1 i = 1#1), ∀ a, (k0_off399 v798) a + S1x16.size a ≤ S512x128.size a := fun i v798 k0_hw23 k0_h1 => k0_hw23.2.1 k0_h1
theorem k0_off401_inb : ∀ (i : grid0.Coords) (v798 : BitVec 32) (k0_hw23 : k0_chk23 i v798), ∀ (k0_h1 : k0_cond1 i = 1#1), ∀ a, (k0_off401 v798) a + S1x16.size a ≤ S512x128.size a := fun i v798 k0_hw23 k0_h1 => k0_hw23.2.2.1 k0_h1
theorem k0_off403_inb : ∀ (i : grid0.Coords) (v798 : BitVec 32) (k0_hw23 : k0_chk23 i v798), ∀ (k0_h1 : k0_cond1 i = 1#1), ∀ a, (k0_off403 v798) a + S1x16.size a ≤ S512x128.size a := fun i v798 k0_hw23 k0_h1 => k0_hw23.2.2.2.1 k0_h1
theorem k0_off405_inb : ∀ (i : grid0.Coords) (v798 : BitVec 32) (k0_hw23 : k0_chk23 i v798), ∀ (k0_h1 : k0_cond1 i = 1#1), ∀ a, (k0_off405 v798) a + S1x16.size a ≤ S512x128.size a := fun i v798 k0_hw23 k0_h1 => k0_hw23.2.2.2.2.1 k0_h1
theorem k0_off407_inb : ∀ (i : grid0.Coords) (v798 : BitVec 32) (k0_hw23 : k0_chk23 i v798), ∀ (k0_h1 : k0_cond1 i = 1#1), ∀ a, (k0_off407 v798) a + S1x16.size a ≤ S512x128.size a := fun i v798 k0_hw23 k0_h1 => k0_hw23.2.2.2.2.2.1 k0_h1
theorem k0_off409_inb : ∀ (i : grid0.Coords) (v798 : BitVec 32) (k0_hw23 : k0_chk23 i v798), ∀ (k0_h1 : k0_cond1 i = 1#1), ∀ a, (k0_off409 v798) a + S1x16.size a ≤ S512x128.size a := fun i v798 k0_hw23 k0_h1 => k0_hw23.2.2.2.2.2.2.1 k0_h1
theorem k0_off411_inb : ∀ (i : grid0.Coords) (v798 : BitVec 32) (k0_hw23 : k0_chk23 i v798), ∀ (k0_h1 : k0_cond1 i = 1#1), ∀ a, (k0_off411 v798) a + S1x16.size a ≤ S512x128.size a := fun i v798 k0_hw23 k0_h1 => k0_hw23.2.2.2.2.2.2.2.1 k0_h1
theorem k0_off413_inb : ∀ (i : grid0.Coords) (v798 : BitVec 32) (k0_hw23 : k0_chk23 i v798), ∀ (k0_h1 : k0_cond1 i = 1#1), ∀ a, (k0_off413 v798) a + S1x16.size a ≤ S64x128.size a := fun i v798 k0_hw23 k0_h1 => k0_hw23.2.2.2.2.2.2.2.2 k0_h1

def k0_off414 (v928 : BitVec 32) : Fin 2 → Nat :=
  let v931 : Index := Scalar.indexCast v928
  let c0_284 : Index := 0#32
  ![v931.toNat, 0]

def k0_off415 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v934 : Index := Scalar.indexCast v930
  let c0_285 : Index := 0#32
  ![v934.toNat, 0]
def k0_off416 (v928 : BitVec 32) : Fin 2 → Nat :=
  let v942 : Index := Scalar.indexCast v928
  let c16_287 : Index := 16#32
  ![v942.toNat, 16]
def k0_off417 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v945 : Index := Scalar.indexCast v930
  let c16_288 : Index := 16#32
  ![v945.toNat, 16]
def k0_off418 (v928 : BitVec 32) : Fin 2 → Nat :=
  let v953 : Index := Scalar.indexCast v928
  let c32_290 : Index := 32#32
  ![v953.toNat, 32]
def k0_off419 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v956 : Index := Scalar.indexCast v930
  let c32_291 : Index := 32#32
  ![v956.toNat, 32]
def k0_off420 (v928 : BitVec 32) : Fin 2 → Nat :=
  let v964 : Index := Scalar.indexCast v928
  let c48_293 : Index := 48#32
  ![v964.toNat, 48]
def k0_off421 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v967 : Index := Scalar.indexCast v930
  let c48_294 : Index := 48#32
  ![v967.toNat, 48]
def k0_off422 (v928 : BitVec 32) : Fin 2 → Nat :=
  let v975 : Index := Scalar.indexCast v928
  let c64_296 : Index := 64#32
  ![v975.toNat, 64]
def k0_off423 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v978 : Index := Scalar.indexCast v930
  let c64_297 : Index := 64#32
  ![v978.toNat, 64]
def k0_off424 (v928 : BitVec 32) : Fin 2 → Nat :=
  let v986 : Index := Scalar.indexCast v928
  let c80_299 : Index := 80#32
  ![v986.toNat, 80]
def k0_off425 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v989 : Index := Scalar.indexCast v930
  let c80_300 : Index := 80#32
  ![v989.toNat, 80]
def k0_off426 (v928 : BitVec 32) : Fin 2 → Nat :=
  let v997 : Index := Scalar.indexCast v928
  let c96_302 : Index := 96#32
  ![v997.toNat, 96]
def k0_off427 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v1000 : Index := Scalar.indexCast v930
  let c96_303 : Index := 96#32
  ![v1000.toNat, 96]
def k0_off428 (v928 : BitVec 32) : Fin 2 → Nat :=
  let v1008 : Index := Scalar.indexCast v928
  let c112_305 : Index := 112#32
  ![v1008.toNat, 112]
def k0_off429 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_283 : BitVec 32 := 16#32
  let v929 : BitVec 32 := Scalar.muli arg10 c16_i32_283
  let c7_i32 : BitVec 32 := 7#32
  let v930 : BitVec 32 := Scalar.addi v929 c7_i32
  let v1011 : Index := Scalar.indexCast v930
  let c112_306 : Index := 112#32
  ![v1011.toNat, 112]
def k0_off430 (v928 : BitVec 32) : Fin 2 → Nat :=
  let c0_i32_309 : BitVec 32 := 0#32
  let v1020 : BitVec 1 := Scalar.cmpi .sgt v928 c0_i32_309
  let v1021 : BitVec 32 := Scalar.extui v1020
  let c0_i32_310 : BitVec 32 := 0#32
  let v1022 : BitVec 1 := Scalar.cmpi .slt v928 c0_i32_310
  let v1023 : BitVec 32 := Scalar.extui v1022
  let v1024 : BitVec 32 := Scalar.subi v1021 v1023
  let c8_i32_308 : BitVec 32 := 8#32
  let c0_i32_311 : BitVec 32 := 0#32
  let v1025 : BitVec 1 := Scalar.cmpi .sgt c8_i32_308 c0_i32_311
  let v1026 : BitVec 32 := Scalar.extui v1025
  let c0_i32_312 : BitVec 32 := 0#32
  let v1027 : BitVec 1 := Scalar.cmpi .slt c8_i32_308 c0_i32_312
  let v1028 : BitVec 32 := Scalar.extui v1027
  let v1029 : BitVec 32 := Scalar.subi v1026 v1028
  let v1030 : BitVec 1 := Scalar.cmpi .ne v1024 v1029
  let v1031 : BitVec 32 := Scalar.remsi v928 c8_i32_308
  let c0_i32_313 : BitVec 32 := 0#32
  let v1032 : BitVec 1 := Scalar.cmpi .ne v1031 c0_i32_313
  let v1033 : BitVec 1 := Scalar.andi v1030 v1032
  let v1019 : BitVec 32 := Scalar.divsi v928 c8_i32_308
  let c1_i32_314 : BitVec 32 := 1#32
  let v1034 : BitVec 32 := Scalar.subi v1019 c1_i32_314
  let v1035 : BitVec 32 := Scalar.select v1033 v1034 v1019
  let v1047 : Index := Scalar.indexCast v1035
  let c8_i32_315 : BitVec 32 := 8#32
  let c0_i32_316 : BitVec 32 := 0#32
  let v1036 : BitVec 1 := Scalar.cmpi .eq c8_i32_315 c0_i32_316
  let c1_i32_317 : BitVec 32 := 1#32
  let v1037 : BitVec 32 := Scalar.select v1036 c1_i32_317 c8_i32_315
  let v1038 : BitVec 32 := Scalar.remsi v928 v1037
  let c0_i32_319 : BitVec 32 := 0#32
  let v1040 : BitVec 1 := Scalar.cmpi .slt v1038 c0_i32_319
  let c0_i32_320 : BitVec 32 := 0#32
  let v1041 : BitVec 1 := Scalar.cmpi .slt v1037 c0_i32_320
  let v1042 : BitVec 1 := Scalar.xori v1040 v1041
  let c0_i32_318 : BitVec 32 := 0#32
  let v1039 : BitVec 1 := Scalar.cmpi .ne v1038 c0_i32_318
  let v1043 : BitVec 1 := Scalar.andi v1042 v1039
  let v1044 : BitVec 32 := Scalar.addi v1038 v1037
  let v1045 : BitVec 32 := Scalar.select v1043 v1044 v1038
  let c16_i32_321 : BitVec 32 := 16#32
  let v1046 : BitVec 32 := Scalar.muli v1045 c16_i32_321
  let v1048 : Index := Scalar.indexCast v1046
  ![v1047.toNat, v1048.toNat]

def k0_chk24 (i : grid0.Coords) (v928 : BitVec 32) : Prop :=
  (∀ (k0_h1 : k0_cond1 i = 1#1), ∀ a, (k0_off414 v928) a + S1x16.size a ≤ S512x128.size a) ∧
  (∀ (k0_h1 : k0_cond1 i = 1#1), ∀ a, (k0_off416 v928) a + S1x16.size a ≤ S512x128.size a) ∧
  (∀ (k0_h1 : k0_cond1 i = 1#1), ∀ a, (k0_off418 v928) a + S1x16.size a ≤ S512x128.size a) ∧
  (∀ (k0_h1 : k0_cond1 i = 1#1), ∀ a, (k0_off420 v928) a + S1x16.size a ≤ S512x128.size a) ∧
  (∀ (k0_h1 : k0_cond1 i = 1#1), ∀ a, (k0_off422 v928) a + S1x16.size a ≤ S512x128.size a) ∧
  (∀ (k0_h1 : k0_cond1 i = 1#1), ∀ a, (k0_off424 v928) a + S1x16.size a ≤ S512x128.size a) ∧
  (∀ (k0_h1 : k0_cond1 i = 1#1), ∀ a, (k0_off426 v928) a + S1x16.size a ≤ S512x128.size a) ∧
  (∀ (k0_h1 : k0_cond1 i = 1#1), ∀ a, (k0_off428 v928) a + S1x16.size a ≤ S512x128.size a) ∧
  (∀ (k0_h1 : k0_cond1 i = 1#1), ∀ a, (k0_off430 v928) a + S1x16.size a ≤ S64x128.size a)
theorem k0_off414_inb : ∀ (i : grid0.Coords) (v928 : BitVec 32) (k0_hw24 : k0_chk24 i v928), ∀ (k0_h1 : k0_cond1 i = 1#1), ∀ a, (k0_off414 v928) a + S1x16.size a ≤ S512x128.size a := fun i v928 k0_hw24 k0_h1 => k0_hw24.1 k0_h1
theorem k0_off416_inb : ∀ (i : grid0.Coords) (v928 : BitVec 32) (k0_hw24 : k0_chk24 i v928), ∀ (k0_h1 : k0_cond1 i = 1#1), ∀ a, (k0_off416 v928) a + S1x16.size a ≤ S512x128.size a := fun i v928 k0_hw24 k0_h1 => k0_hw24.2.1 k0_h1
theorem k0_off418_inb : ∀ (i : grid0.Coords) (v928 : BitVec 32) (k0_hw24 : k0_chk24 i v928), ∀ (k0_h1 : k0_cond1 i = 1#1), ∀ a, (k0_off418 v928) a + S1x16.size a ≤ S512x128.size a := fun i v928 k0_hw24 k0_h1 => k0_hw24.2.2.1 k0_h1
theorem k0_off420_inb : ∀ (i : grid0.Coords) (v928 : BitVec 32) (k0_hw24 : k0_chk24 i v928), ∀ (k0_h1 : k0_cond1 i = 1#1), ∀ a, (k0_off420 v928) a + S1x16.size a ≤ S512x128.size a := fun i v928 k0_hw24 k0_h1 => k0_hw24.2.2.2.1 k0_h1
theorem k0_off422_inb : ∀ (i : grid0.Coords) (v928 : BitVec 32) (k0_hw24 : k0_chk24 i v928), ∀ (k0_h1 : k0_cond1 i = 1#1), ∀ a, (k0_off422 v928) a + S1x16.size a ≤ S512x128.size a := fun i v928 k0_hw24 k0_h1 => k0_hw24.2.2.2.2.1 k0_h1
theorem k0_off424_inb : ∀ (i : grid0.Coords) (v928 : BitVec 32) (k0_hw24 : k0_chk24 i v928), ∀ (k0_h1 : k0_cond1 i = 1#1), ∀ a, (k0_off424 v928) a + S1x16.size a ≤ S512x128.size a := fun i v928 k0_hw24 k0_h1 => k0_hw24.2.2.2.2.2.1 k0_h1
theorem k0_off426_inb : ∀ (i : grid0.Coords) (v928 : BitVec 32) (k0_hw24 : k0_chk24 i v928), ∀ (k0_h1 : k0_cond1 i = 1#1), ∀ a, (k0_off426 v928) a + S1x16.size a ≤ S512x128.size a := fun i v928 k0_hw24 k0_h1 => k0_hw24.2.2.2.2.2.2.1 k0_h1
theorem k0_off428_inb : ∀ (i : grid0.Coords) (v928 : BitVec 32) (k0_hw24 : k0_chk24 i v928), ∀ (k0_h1 : k0_cond1 i = 1#1), ∀ a, (k0_off428 v928) a + S1x16.size a ≤ S512x128.size a := fun i v928 k0_hw24 k0_h1 => k0_hw24.2.2.2.2.2.2.2.1 k0_h1
theorem k0_off430_inb : ∀ (i : grid0.Coords) (v928 : BitVec 32) (k0_hw24 : k0_chk24 i v928), ∀ (k0_h1 : k0_cond1 i = 1#1), ∀ a, (k0_off430 v928) a + S1x16.size a ≤ S64x128.size a := fun i v928 k0_hw24 k0_h1 => k0_hw24.2.2.2.2.2.2.2.2 k0_h1

def k0_off431 (v1058 : BitVec 32) : Fin 2 → Nat :=
  let v1061 : Index := Scalar.indexCast v1058
  let c0_324 : Index := 0#32
  ![v1061.toNat, 0]

def k0_off432 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1064 : Index := Scalar.indexCast v1060
  let c0_325 : Index := 0#32
  ![v1064.toNat, 0]
def k0_off433 (v1058 : BitVec 32) : Fin 2 → Nat :=
  let v1072 : Index := Scalar.indexCast v1058
  let c16_327 : Index := 16#32
  ![v1072.toNat, 16]
def k0_off434 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1075 : Index := Scalar.indexCast v1060
  let c16_328 : Index := 16#32
  ![v1075.toNat, 16]
def k0_off435 (v1058 : BitVec 32) : Fin 2 → Nat :=
  let v1083 : Index := Scalar.indexCast v1058
  let c32_330 : Index := 32#32
  ![v1083.toNat, 32]
def k0_off436 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1086 : Index := Scalar.indexCast v1060
  let c32_331 : Index := 32#32
  ![v1086.toNat, 32]
def k0_off437 (v1058 : BitVec 32) : Fin 2 → Nat :=
  let v1094 : Index := Scalar.indexCast v1058
  let c48_333 : Index := 48#32
  ![v1094.toNat, 48]
def k0_off438 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1097 : Index := Scalar.indexCast v1060
  let c48_334 : Index := 48#32
  ![v1097.toNat, 48]
def k0_off439 (v1058 : BitVec 32) : Fin 2 → Nat :=
  let v1105 : Index := Scalar.indexCast v1058
  let c64_336 : Index := 64#32
  ![v1105.toNat, 64]
def k0_off440 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1108 : Index := Scalar.indexCast v1060
  let c64_337 : Index := 64#32
  ![v1108.toNat, 64]
def k0_off441 (v1058 : BitVec 32) : Fin 2 → Nat :=
  let v1116 : Index := Scalar.indexCast v1058
  let c80_339 : Index := 80#32
  ![v1116.toNat, 80]
def k0_off442 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1119 : Index := Scalar.indexCast v1060
  let c80_340 : Index := 80#32
  ![v1119.toNat, 80]
def k0_off443 (v1058 : BitVec 32) : Fin 2 → Nat :=
  let v1127 : Index := Scalar.indexCast v1058
  let c96_342 : Index := 96#32
  ![v1127.toNat, 96]
def k0_off444 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1130 : Index := Scalar.indexCast v1060
  let c96_343 : Index := 96#32
  ![v1130.toNat, 96]
def k0_off445 (v1058 : BitVec 32) : Fin 2 → Nat :=
  let v1138 : Index := Scalar.indexCast v1058
  let c112_345 : Index := 112#32
  ![v1138.toNat, 112]
def k0_off446 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_322 : BitVec 32 := 16#32
  let v1059 : BitVec 32 := Scalar.muli arg10 c16_i32_322
  let c8_i32_323 : BitVec 32 := 8#32
  let v1060 : BitVec 32 := Scalar.addi v1059 c8_i32_323
  let v1141 : Index := Scalar.indexCast v1060
  let c112_346 : Index := 112#32
  ![v1141.toNat, 112]
def k0_off447 (v1058 : BitVec 32) : Fin 2 → Nat :=
  let c0_i32_349 : BitVec 32 := 0#32
  let v1150 : BitVec 1 := Scalar.cmpi .sgt v1058 c0_i32_349
  let v1151 : BitVec 32 := Scalar.extui v1150
  let c0_i32_350 : BitVec 32 := 0#32
  let v1152 : BitVec 1 := Scalar.cmpi .slt v1058 c0_i32_350
  let v1153 : BitVec 32 := Scalar.extui v1152
  let v1154 : BitVec 32 := Scalar.subi v1151 v1153
  let c8_i32_348 : BitVec 32 := 8#32
  let c0_i32_351 : BitVec 32 := 0#32
  let v1155 : BitVec 1 := Scalar.cmpi .sgt c8_i32_348 c0_i32_351
  let v1156 : BitVec 32 := Scalar.extui v1155
  let c0_i32_352 : BitVec 32 := 0#32
  let v1157 : BitVec 1 := Scalar.cmpi .slt c8_i32_348 c0_i32_352
  let v1158 : BitVec 32 := Scalar.extui v1157
  let v1159 : BitVec 32 := Scalar.subi v1156 v1158
  let v1160 : BitVec 1 := Scalar.cmpi .ne v1154 v1159
  let v1161 : BitVec 32 := Scalar.remsi v1058 c8_i32_348
  let c0_i32_353 : BitVec 32 := 0#32
  let v1162 : BitVec 1 := Scalar.cmpi .ne v1161 c0_i32_353
  let v1163 : BitVec 1 := Scalar.andi v1160 v1162
  let v1149 : BitVec 32 := Scalar.divsi v1058 c8_i32_348
  let c1_i32_354 : BitVec 32 := 1#32
  let v1164 : BitVec 32 := Scalar.subi v1149 c1_i32_354
  let v1165 : BitVec 32 := Scalar.select v1163 v1164 v1149
  let v1177 : Index := Scalar.indexCast v1165
  let c8_i32_355 : BitVec 32 := 8#32
  let c0_i32_356 : BitVec 32 := 0#32
  let v1166 : BitVec 1 := Scalar.cmpi .eq c8_i32_355 c0_i32_356
  let c1_i32_357 : BitVec 32 := 1#32
  let v1167 : BitVec 32 := Scalar.select v1166 c1_i32_357 c8_i32_355
  let v1168 : BitVec 32 := Scalar.remsi v1058 v1167
  let c0_i32_359 : BitVec 32 := 0#32
  let v1170 : BitVec 1 := Scalar.cmpi .slt v1168 c0_i32_359
  let c0_i32_360 : BitVec 32 := 0#32
  let v1171 : BitVec 1 := Scalar.cmpi .slt v1167 c0_i32_360
  let v1172 : BitVec 1 := Scalar.xori v1170 v1171
  let c0_i32_358 : BitVec 32 := 0#32
  let v1169 : BitVec 1 := Scalar.cmpi .ne v1168 c0_i32_358
  let v1173 : BitVec 1 := Scalar.andi v1172 v1169
  let v1174 : BitVec 32 := Scalar.addi v1168 v1167
  let v1175 : BitVec 32 := Scalar.select v1173 v1174 v1168
  let c16_i32_361 : BitVec 32 := 16#32
  let v1176 : BitVec 32 := Scalar.muli v1175 c16_i32_361
  let v1178 : Index := Scalar.indexCast v1176
  ![v1177.toNat, v1178.toNat]

def k0_chk25 (i : grid0.Coords) (v1058 : BitVec 32) : Prop :=
  (∀ (k0_h1 : k0_cond1 i = 1#1), ∀ a, (k0_off431 v1058) a + S1x16.size a ≤ S512x128.size a) ∧
  (∀ (k0_h1 : k0_cond1 i = 1#1), ∀ a, (k0_off433 v1058) a + S1x16.size a ≤ S512x128.size a) ∧
  (∀ (k0_h1 : k0_cond1 i = 1#1), ∀ a, (k0_off435 v1058) a + S1x16.size a ≤ S512x128.size a) ∧
  (∀ (k0_h1 : k0_cond1 i = 1#1), ∀ a, (k0_off437 v1058) a + S1x16.size a ≤ S512x128.size a) ∧
  (∀ (k0_h1 : k0_cond1 i = 1#1), ∀ a, (k0_off439 v1058) a + S1x16.size a ≤ S512x128.size a) ∧
  (∀ (k0_h1 : k0_cond1 i = 1#1), ∀ a, (k0_off441 v1058) a + S1x16.size a ≤ S512x128.size a) ∧
  (∀ (k0_h1 : k0_cond1 i = 1#1), ∀ a, (k0_off443 v1058) a + S1x16.size a ≤ S512x128.size a) ∧
  (∀ (k0_h1 : k0_cond1 i = 1#1), ∀ a, (k0_off445 v1058) a + S1x16.size a ≤ S512x128.size a) ∧
  (∀ (k0_h1 : k0_cond1 i = 1#1), ∀ a, (k0_off447 v1058) a + S1x16.size a ≤ S64x128.size a)
theorem k0_off431_inb : ∀ (i : grid0.Coords) (v1058 : BitVec 32) (k0_hw25 : k0_chk25 i v1058), ∀ (k0_h1 : k0_cond1 i = 1#1), ∀ a, (k0_off431 v1058) a + S1x16.size a ≤ S512x128.size a := fun i v1058 k0_hw25 k0_h1 => k0_hw25.1 k0_h1
theorem k0_off433_inb : ∀ (i : grid0.Coords) (v1058 : BitVec 32) (k0_hw25 : k0_chk25 i v1058), ∀ (k0_h1 : k0_cond1 i = 1#1), ∀ a, (k0_off433 v1058) a + S1x16.size a ≤ S512x128.size a := fun i v1058 k0_hw25 k0_h1 => k0_hw25.2.1 k0_h1
theorem k0_off435_inb : ∀ (i : grid0.Coords) (v1058 : BitVec 32) (k0_hw25 : k0_chk25 i v1058), ∀ (k0_h1 : k0_cond1 i = 1#1), ∀ a, (k0_off435 v1058) a + S1x16.size a ≤ S512x128.size a := fun i v1058 k0_hw25 k0_h1 => k0_hw25.2.2.1 k0_h1
theorem k0_off437_inb : ∀ (i : grid0.Coords) (v1058 : BitVec 32) (k0_hw25 : k0_chk25 i v1058), ∀ (k0_h1 : k0_cond1 i = 1#1), ∀ a, (k0_off437 v1058) a + S1x16.size a ≤ S512x128.size a := fun i v1058 k0_hw25 k0_h1 => k0_hw25.2.2.2.1 k0_h1
theorem k0_off439_inb : ∀ (i : grid0.Coords) (v1058 : BitVec 32) (k0_hw25 : k0_chk25 i v1058), ∀ (k0_h1 : k0_cond1 i = 1#1), ∀ a, (k0_off439 v1058) a + S1x16.size a ≤ S512x128.size a := fun i v1058 k0_hw25 k0_h1 => k0_hw25.2.2.2.2.1 k0_h1
theorem k0_off441_inb : ∀ (i : grid0.Coords) (v1058 : BitVec 32) (k0_hw25 : k0_chk25 i v1058), ∀ (k0_h1 : k0_cond1 i = 1#1), ∀ a, (k0_off441 v1058) a + S1x16.size a ≤ S512x128.size a := fun i v1058 k0_hw25 k0_h1 => k0_hw25.2.2.2.2.2.1 k0_h1
theorem k0_off443_inb : ∀ (i : grid0.Coords) (v1058 : BitVec 32) (k0_hw25 : k0_chk25 i v1058), ∀ (k0_h1 : k0_cond1 i = 1#1), ∀ a, (k0_off443 v1058) a + S1x16.size a ≤ S512x128.size a := fun i v1058 k0_hw25 k0_h1 => k0_hw25.2.2.2.2.2.2.1 k0_h1
theorem k0_off445_inb : ∀ (i : grid0.Coords) (v1058 : BitVec 32) (k0_hw25 : k0_chk25 i v1058), ∀ (k0_h1 : k0_cond1 i = 1#1), ∀ a, (k0_off445 v1058) a + S1x16.size a ≤ S512x128.size a := fun i v1058 k0_hw25 k0_h1 => k0_hw25.2.2.2.2.2.2.2.1 k0_h1
theorem k0_off447_inb : ∀ (i : grid0.Coords) (v1058 : BitVec 32) (k0_hw25 : k0_chk25 i v1058), ∀ (k0_h1 : k0_cond1 i = 1#1), ∀ a, (k0_off447 v1058) a + S1x16.size a ≤ S64x128.size a := fun i v1058 k0_hw25 k0_h1 => k0_hw25.2.2.2.2.2.2.2.2 k0_h1

def k0_off448 (v1188 : BitVec 32) : Fin 2 → Nat :=
  let v1191 : Index := Scalar.indexCast v1188
  let c0_363 : Index := 0#32
  ![v1191.toNat, 0]

def k0_off449 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1194 : Index := Scalar.indexCast v1190
  let c0_364 : Index := 0#32
  ![v1194.toNat, 0]
def k0_off450 (v1188 : BitVec 32) : Fin 2 → Nat :=
  let v1202 : Index := Scalar.indexCast v1188
  let c16_366 : Index := 16#32
  ![v1202.toNat, 16]
def k0_off451 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1205 : Index := Scalar.indexCast v1190
  let c16_367 : Index := 16#32
  ![v1205.toNat, 16]
def k0_off452 (v1188 : BitVec 32) : Fin 2 → Nat :=
  let v1213 : Index := Scalar.indexCast v1188
  let c32_369 : Index := 32#32
  ![v1213.toNat, 32]
def k0_off453 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1216 : Index := Scalar.indexCast v1190
  let c32_370 : Index := 32#32
  ![v1216.toNat, 32]
def k0_off454 (v1188 : BitVec 32) : Fin 2 → Nat :=
  let v1224 : Index := Scalar.indexCast v1188
  let c48_372 : Index := 48#32
  ![v1224.toNat, 48]
def k0_off455 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1227 : Index := Scalar.indexCast v1190
  let c48_373 : Index := 48#32
  ![v1227.toNat, 48]
def k0_off456 (v1188 : BitVec 32) : Fin 2 → Nat :=
  let v1235 : Index := Scalar.indexCast v1188
  let c64_375 : Index := 64#32
  ![v1235.toNat, 64]
def k0_off457 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1238 : Index := Scalar.indexCast v1190
  let c64_376 : Index := 64#32
  ![v1238.toNat, 64]
def k0_off458 (v1188 : BitVec 32) : Fin 2 → Nat :=
  let v1246 : Index := Scalar.indexCast v1188
  let c80_378 : Index := 80#32
  ![v1246.toNat, 80]
def k0_off459 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1249 : Index := Scalar.indexCast v1190
  let c80_379 : Index := 80#32
  ![v1249.toNat, 80]
def k0_off460 (v1188 : BitVec 32) : Fin 2 → Nat :=
  let v1257 : Index := Scalar.indexCast v1188
  let c96_381 : Index := 96#32
  ![v1257.toNat, 96]
def k0_off461 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1260 : Index := Scalar.indexCast v1190
  let c96_382 : Index := 96#32
  ![v1260.toNat, 96]
def k0_off462 (v1188 : BitVec 32) : Fin 2 → Nat :=
  let v1268 : Index := Scalar.indexCast v1188
  let c112_384 : Index := 112#32
  ![v1268.toNat, 112]
def k0_off463 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_362 : BitVec 32 := 16#32
  let v1189 : BitVec 32 := Scalar.muli arg10 c16_i32_362
  let c9_i32 : BitVec 32 := 9#32
  let v1190 : BitVec 32 := Scalar.addi v1189 c9_i32
  let v1271 : Index := Scalar.indexCast v1190
  let c112_385 : Index := 112#32
  ![v1271.toNat, 112]
def k0_off464 (v1188 : BitVec 32) : Fin 2 → Nat :=
  let c0_i32_388 : BitVec 32 := 0#32
  let v1280 : BitVec 1 := Scalar.cmpi .sgt v1188 c0_i32_388
  let v1281 : BitVec 32 := Scalar.extui v1280
  let c0_i32_389 : BitVec 32 := 0#32
  let v1282 : BitVec 1 := Scalar.cmpi .slt v1188 c0_i32_389
  let v1283 : BitVec 32 := Scalar.extui v1282
  let v1284 : BitVec 32 := Scalar.subi v1281 v1283
  let c8_i32_387 : BitVec 32 := 8#32
  let c0_i32_390 : BitVec 32 := 0#32
  let v1285 : BitVec 1 := Scalar.cmpi .sgt c8_i32_387 c0_i32_390
  let v1286 : BitVec 32 := Scalar.extui v1285
  let c0_i32_391 : BitVec 32 := 0#32
  let v1287 : BitVec 1 := Scalar.cmpi .slt c8_i32_387 c0_i32_391
  let v1288 : BitVec 32 := Scalar.extui v1287
  let v1289 : BitVec 32 := Scalar.subi v1286 v1288
  let v1290 : BitVec 1 := Scalar.cmpi .ne v1284 v1289
  let v1291 : BitVec 32 := Scalar.remsi v1188 c8_i32_387
  let c0_i32_392 : BitVec 32 := 0#32
  let v1292 : BitVec 1 := Scalar.cmpi .ne v1291 c0_i32_392
  let v1293 : BitVec 1 := Scalar.andi v1290 v1292
  let v1279 : BitVec 32 := Scalar.divsi v1188 c8_i32_387
  let c1_i32_393 : BitVec 32 := 1#32
  let v1294 : BitVec 32 := Scalar.subi v1279 c1_i32_393
  let v1295 : BitVec 32 := Scalar.select v1293 v1294 v1279
  let v1307 : Index := Scalar.indexCast v1295
  let c8_i32_394 : BitVec 32 := 8#32
  let c0_i32_395 : BitVec 32 := 0#32
  let v1296 : BitVec 1 := Scalar.cmpi .eq c8_i32_394 c0_i32_395
  let c1_i32_396 : BitVec 32 := 1#32
  let v1297 : BitVec 32 := Scalar.select v1296 c1_i32_396 c8_i32_394
  let v1298 : BitVec 32 := Scalar.remsi v1188 v1297
  let c0_i32_398 : BitVec 32 := 0#32
  let v1300 : BitVec 1 := Scalar.cmpi .slt v1298 c0_i32_398
  let c0_i32_399 : BitVec 32 := 0#32
  let v1301 : BitVec 1 := Scalar.cmpi .slt v1297 c0_i32_399
  let v1302 : BitVec 1 := Scalar.xori v1300 v1301
  let c0_i32_397 : BitVec 32 := 0#32
  let v1299 : BitVec 1 := Scalar.cmpi .ne v1298 c0_i32_397
  let v1303 : BitVec 1 := Scalar.andi v1302 v1299
  let v1304 : BitVec 32 := Scalar.addi v1298 v1297
  let v1305 : BitVec 32 := Scalar.select v1303 v1304 v1298
  let c16_i32_400 : BitVec 32 := 16#32
  let v1306 : BitVec 32 := Scalar.muli v1305 c16_i32_400
  let v1308 : Index := Scalar.indexCast v1306
  ![v1307.toNat, v1308.toNat]

def k0_chk26 (i : grid0.Coords) (v1188 : BitVec 32) : Prop :=
  (∀ (k0_h1 : k0_cond1 i = 1#1), ∀ a, (k0_off448 v1188) a + S1x16.size a ≤ S512x128.size a) ∧
  (∀ (k0_h1 : k0_cond1 i = 1#1), ∀ a, (k0_off450 v1188) a + S1x16.size a ≤ S512x128.size a) ∧
  (∀ (k0_h1 : k0_cond1 i = 1#1), ∀ a, (k0_off452 v1188) a + S1x16.size a ≤ S512x128.size a) ∧
  (∀ (k0_h1 : k0_cond1 i = 1#1), ∀ a, (k0_off454 v1188) a + S1x16.size a ≤ S512x128.size a) ∧
  (∀ (k0_h1 : k0_cond1 i = 1#1), ∀ a, (k0_off456 v1188) a + S1x16.size a ≤ S512x128.size a) ∧
  (∀ (k0_h1 : k0_cond1 i = 1#1), ∀ a, (k0_off458 v1188) a + S1x16.size a ≤ S512x128.size a) ∧
  (∀ (k0_h1 : k0_cond1 i = 1#1), ∀ a, (k0_off460 v1188) a + S1x16.size a ≤ S512x128.size a) ∧
  (∀ (k0_h1 : k0_cond1 i = 1#1), ∀ a, (k0_off462 v1188) a + S1x16.size a ≤ S512x128.size a) ∧
  (∀ (k0_h1 : k0_cond1 i = 1#1), ∀ a, (k0_off464 v1188) a + S1x16.size a ≤ S64x128.size a)
theorem k0_off448_inb : ∀ (i : grid0.Coords) (v1188 : BitVec 32) (k0_hw26 : k0_chk26 i v1188), ∀ (k0_h1 : k0_cond1 i = 1#1), ∀ a, (k0_off448 v1188) a + S1x16.size a ≤ S512x128.size a := fun i v1188 k0_hw26 k0_h1 => k0_hw26.1 k0_h1
theorem k0_off450_inb : ∀ (i : grid0.Coords) (v1188 : BitVec 32) (k0_hw26 : k0_chk26 i v1188), ∀ (k0_h1 : k0_cond1 i = 1#1), ∀ a, (k0_off450 v1188) a + S1x16.size a ≤ S512x128.size a := fun i v1188 k0_hw26 k0_h1 => k0_hw26.2.1 k0_h1
theorem k0_off452_inb : ∀ (i : grid0.Coords) (v1188 : BitVec 32) (k0_hw26 : k0_chk26 i v1188), ∀ (k0_h1 : k0_cond1 i = 1#1), ∀ a, (k0_off452 v1188) a + S1x16.size a ≤ S512x128.size a := fun i v1188 k0_hw26 k0_h1 => k0_hw26.2.2.1 k0_h1
theorem k0_off454_inb : ∀ (i : grid0.Coords) (v1188 : BitVec 32) (k0_hw26 : k0_chk26 i v1188), ∀ (k0_h1 : k0_cond1 i = 1#1), ∀ a, (k0_off454 v1188) a + S1x16.size a ≤ S512x128.size a := fun i v1188 k0_hw26 k0_h1 => k0_hw26.2.2.2.1 k0_h1
theorem k0_off456_inb : ∀ (i : grid0.Coords) (v1188 : BitVec 32) (k0_hw26 : k0_chk26 i v1188), ∀ (k0_h1 : k0_cond1 i = 1#1), ∀ a, (k0_off456 v1188) a + S1x16.size a ≤ S512x128.size a := fun i v1188 k0_hw26 k0_h1 => k0_hw26.2.2.2.2.1 k0_h1
theorem k0_off458_inb : ∀ (i : grid0.Coords) (v1188 : BitVec 32) (k0_hw26 : k0_chk26 i v1188), ∀ (k0_h1 : k0_cond1 i = 1#1), ∀ a, (k0_off458 v1188) a + S1x16.size a ≤ S512x128.size a := fun i v1188 k0_hw26 k0_h1 => k0_hw26.2.2.2.2.2.1 k0_h1
theorem k0_off460_inb : ∀ (i : grid0.Coords) (v1188 : BitVec 32) (k0_hw26 : k0_chk26 i v1188), ∀ (k0_h1 : k0_cond1 i = 1#1), ∀ a, (k0_off460 v1188) a + S1x16.size a ≤ S512x128.size a := fun i v1188 k0_hw26 k0_h1 => k0_hw26.2.2.2.2.2.2.1 k0_h1
theorem k0_off462_inb : ∀ (i : grid0.Coords) (v1188 : BitVec 32) (k0_hw26 : k0_chk26 i v1188), ∀ (k0_h1 : k0_cond1 i = 1#1), ∀ a, (k0_off462 v1188) a + S1x16.size a ≤ S512x128.size a := fun i v1188 k0_hw26 k0_h1 => k0_hw26.2.2.2.2.2.2.2.1 k0_h1
theorem k0_off464_inb : ∀ (i : grid0.Coords) (v1188 : BitVec 32) (k0_hw26 : k0_chk26 i v1188), ∀ (k0_h1 : k0_cond1 i = 1#1), ∀ a, (k0_off464 v1188) a + S1x16.size a ≤ S64x128.size a := fun i v1188 k0_hw26 k0_h1 => k0_hw26.2.2.2.2.2.2.2.2 k0_h1

def k0_off465 (v1318 : BitVec 32) : Fin 2 → Nat :=
  let v1321 : Index := Scalar.indexCast v1318
  let c0_403 : Index := 0#32
  ![v1321.toNat, 0]

def k0_off466 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1324 : Index := Scalar.indexCast v1320
  let c0_404 : Index := 0#32
  ![v1324.toNat, 0]
def k0_off467 (v1318 : BitVec 32) : Fin 2 → Nat :=
  let v1332 : Index := Scalar.indexCast v1318
  let c16_406 : Index := 16#32
  ![v1332.toNat, 16]
def k0_off468 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1335 : Index := Scalar.indexCast v1320
  let c16_407 : Index := 16#32
  ![v1335.toNat, 16]
def k0_off469 (v1318 : BitVec 32) : Fin 2 → Nat :=
  let v1343 : Index := Scalar.indexCast v1318
  let c32_409 : Index := 32#32
  ![v1343.toNat, 32]
def k0_off470 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1346 : Index := Scalar.indexCast v1320
  let c32_410 : Index := 32#32
  ![v1346.toNat, 32]
def k0_off471 (v1318 : BitVec 32) : Fin 2 → Nat :=
  let v1354 : Index := Scalar.indexCast v1318
  let c48_412 : Index := 48#32
  ![v1354.toNat, 48]
def k0_off472 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1357 : Index := Scalar.indexCast v1320
  let c48_413 : Index := 48#32
  ![v1357.toNat, 48]
def k0_off473 (v1318 : BitVec 32) : Fin 2 → Nat :=
  let v1365 : Index := Scalar.indexCast v1318
  let c64_415 : Index := 64#32
  ![v1365.toNat, 64]
def k0_off474 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1368 : Index := Scalar.indexCast v1320
  let c64_416 : Index := 64#32
  ![v1368.toNat, 64]
def k0_off475 (v1318 : BitVec 32) : Fin 2 → Nat :=
  let v1376 : Index := Scalar.indexCast v1318
  let c80_418 : Index := 80#32
  ![v1376.toNat, 80]
def k0_off476 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1379 : Index := Scalar.indexCast v1320
  let c80_419 : Index := 80#32
  ![v1379.toNat, 80]
def k0_off477 (v1318 : BitVec 32) : Fin 2 → Nat :=
  let v1387 : Index := Scalar.indexCast v1318
  let c96_421 : Index := 96#32
  ![v1387.toNat, 96]
def k0_off478 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1390 : Index := Scalar.indexCast v1320
  let c96_422 : Index := 96#32
  ![v1390.toNat, 96]
def k0_off479 (v1318 : BitVec 32) : Fin 2 → Nat :=
  let v1398 : Index := Scalar.indexCast v1318
  let c112_424 : Index := 112#32
  ![v1398.toNat, 112]
def k0_off480 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_401 : BitVec 32 := 16#32
  let v1319 : BitVec 32 := Scalar.muli arg10 c16_i32_401
  let c10_i32_402 : BitVec 32 := 10#32
  let v1320 : BitVec 32 := Scalar.addi v1319 c10_i32_402
  let v1401 : Index := Scalar.indexCast v1320
  let c112_425 : Index := 112#32
  ![v1401.toNat, 112]
def k0_off481 (v1318 : BitVec 32) : Fin 2 → Nat :=
  let c0_i32_428 : BitVec 32 := 0#32
  let v1410 : BitVec 1 := Scalar.cmpi .sgt v1318 c0_i32_428
  let v1411 : BitVec 32 := Scalar.extui v1410
  let c0_i32_429 : BitVec 32 := 0#32
  let v1412 : BitVec 1 := Scalar.cmpi .slt v1318 c0_i32_429
  let v1413 : BitVec 32 := Scalar.extui v1412
  let v1414 : BitVec 32 := Scalar.subi v1411 v1413
  let c8_i32_427 : BitVec 32 := 8#32
  let c0_i32_430 : BitVec 32 := 0#32
  let v1415 : BitVec 1 := Scalar.cmpi .sgt c8_i32_427 c0_i32_430
  let v1416 : BitVec 32 := Scalar.extui v1415
  let c0_i32_431 : BitVec 32 := 0#32
  let v1417 : BitVec 1 := Scalar.cmpi .slt c8_i32_427 c0_i32_431
  let v1418 : BitVec 32 := Scalar.extui v1417
  let v1419 : BitVec 32 := Scalar.subi v1416 v1418
  let v1420 : BitVec 1 := Scalar.cmpi .ne v1414 v1419
  let v1421 : BitVec 32 := Scalar.remsi v1318 c8_i32_427
  let c0_i32_432 : BitVec 32 := 0#32
  let v1422 : BitVec 1 := Scalar.cmpi .ne v1421 c0_i32_432
  let v1423 : BitVec 1 := Scalar.andi v1420 v1422
  let v1409 : BitVec 32 := Scalar.divsi v1318 c8_i32_427
  let c1_i32_433 : BitVec 32 := 1#32
  let v1424 : BitVec 32 := Scalar.subi v1409 c1_i32_433
  let v1425 : BitVec 32 := Scalar.select v1423 v1424 v1409
  let v1437 : Index := Scalar.indexCast v1425
  let c8_i32_434 : BitVec 32 := 8#32
  let c0_i32_435 : BitVec 32 := 0#32
  let v1426 : BitVec 1 := Scalar.cmpi .eq c8_i32_434 c0_i32_435
  let c1_i32_436 : BitVec 32 := 1#32
  let v1427 : BitVec 32 := Scalar.select v1426 c1_i32_436 c8_i32_434
  let v1428 : BitVec 32 := Scalar.remsi v1318 v1427
  let c0_i32_438 : BitVec 32 := 0#32
  let v1430 : BitVec 1 := Scalar.cmpi .slt v1428 c0_i32_438
  let c0_i32_439 : BitVec 32 := 0#32
  let v1431 : BitVec 1 := Scalar.cmpi .slt v1427 c0_i32_439
  let v1432 : BitVec 1 := Scalar.xori v1430 v1431
  let c0_i32_437 : BitVec 32 := 0#32
  let v1429 : BitVec 1 := Scalar.cmpi .ne v1428 c0_i32_437
  let v1433 : BitVec 1 := Scalar.andi v1432 v1429
  let v1434 : BitVec 32 := Scalar.addi v1428 v1427
  let v1435 : BitVec 32 := Scalar.select v1433 v1434 v1428
  let c16_i32_440 : BitVec 32 := 16#32
  let v1436 : BitVec 32 := Scalar.muli v1435 c16_i32_440
  let v1438 : Index := Scalar.indexCast v1436
  ![v1437.toNat, v1438.toNat]

def k0_chk27 (i : grid0.Coords) (v1318 : BitVec 32) : Prop :=
  (∀ (k0_h1 : k0_cond1 i = 1#1), ∀ a, (k0_off465 v1318) a + S1x16.size a ≤ S512x128.size a) ∧
  (∀ (k0_h1 : k0_cond1 i = 1#1), ∀ a, (k0_off467 v1318) a + S1x16.size a ≤ S512x128.size a) ∧
  (∀ (k0_h1 : k0_cond1 i = 1#1), ∀ a, (k0_off469 v1318) a + S1x16.size a ≤ S512x128.size a) ∧
  (∀ (k0_h1 : k0_cond1 i = 1#1), ∀ a, (k0_off471 v1318) a + S1x16.size a ≤ S512x128.size a) ∧
  (∀ (k0_h1 : k0_cond1 i = 1#1), ∀ a, (k0_off473 v1318) a + S1x16.size a ≤ S512x128.size a) ∧
  (∀ (k0_h1 : k0_cond1 i = 1#1), ∀ a, (k0_off475 v1318) a + S1x16.size a ≤ S512x128.size a) ∧
  (∀ (k0_h1 : k0_cond1 i = 1#1), ∀ a, (k0_off477 v1318) a + S1x16.size a ≤ S512x128.size a) ∧
  (∀ (k0_h1 : k0_cond1 i = 1#1), ∀ a, (k0_off479 v1318) a + S1x16.size a ≤ S512x128.size a) ∧
  (∀ (k0_h1 : k0_cond1 i = 1#1), ∀ a, (k0_off481 v1318) a + S1x16.size a ≤ S64x128.size a)
theorem k0_off465_inb : ∀ (i : grid0.Coords) (v1318 : BitVec 32) (k0_hw27 : k0_chk27 i v1318), ∀ (k0_h1 : k0_cond1 i = 1#1), ∀ a, (k0_off465 v1318) a + S1x16.size a ≤ S512x128.size a := fun i v1318 k0_hw27 k0_h1 => k0_hw27.1 k0_h1
theorem k0_off467_inb : ∀ (i : grid0.Coords) (v1318 : BitVec 32) (k0_hw27 : k0_chk27 i v1318), ∀ (k0_h1 : k0_cond1 i = 1#1), ∀ a, (k0_off467 v1318) a + S1x16.size a ≤ S512x128.size a := fun i v1318 k0_hw27 k0_h1 => k0_hw27.2.1 k0_h1
theorem k0_off469_inb : ∀ (i : grid0.Coords) (v1318 : BitVec 32) (k0_hw27 : k0_chk27 i v1318), ∀ (k0_h1 : k0_cond1 i = 1#1), ∀ a, (k0_off469 v1318) a + S1x16.size a ≤ S512x128.size a := fun i v1318 k0_hw27 k0_h1 => k0_hw27.2.2.1 k0_h1
theorem k0_off471_inb : ∀ (i : grid0.Coords) (v1318 : BitVec 32) (k0_hw27 : k0_chk27 i v1318), ∀ (k0_h1 : k0_cond1 i = 1#1), ∀ a, (k0_off471 v1318) a + S1x16.size a ≤ S512x128.size a := fun i v1318 k0_hw27 k0_h1 => k0_hw27.2.2.2.1 k0_h1
theorem k0_off473_inb : ∀ (i : grid0.Coords) (v1318 : BitVec 32) (k0_hw27 : k0_chk27 i v1318), ∀ (k0_h1 : k0_cond1 i = 1#1), ∀ a, (k0_off473 v1318) a + S1x16.size a ≤ S512x128.size a := fun i v1318 k0_hw27 k0_h1 => k0_hw27.2.2.2.2.1 k0_h1
theorem k0_off475_inb : ∀ (i : grid0.Coords) (v1318 : BitVec 32) (k0_hw27 : k0_chk27 i v1318), ∀ (k0_h1 : k0_cond1 i = 1#1), ∀ a, (k0_off475 v1318) a + S1x16.size a ≤ S512x128.size a := fun i v1318 k0_hw27 k0_h1 => k0_hw27.2.2.2.2.2.1 k0_h1
theorem k0_off477_inb : ∀ (i : grid0.Coords) (v1318 : BitVec 32) (k0_hw27 : k0_chk27 i v1318), ∀ (k0_h1 : k0_cond1 i = 1#1), ∀ a, (k0_off477 v1318) a + S1x16.size a ≤ S512x128.size a := fun i v1318 k0_hw27 k0_h1 => k0_hw27.2.2.2.2.2.2.1 k0_h1
theorem k0_off479_inb : ∀ (i : grid0.Coords) (v1318 : BitVec 32) (k0_hw27 : k0_chk27 i v1318), ∀ (k0_h1 : k0_cond1 i = 1#1), ∀ a, (k0_off479 v1318) a + S1x16.size a ≤ S512x128.size a := fun i v1318 k0_hw27 k0_h1 => k0_hw27.2.2.2.2.2.2.2.1 k0_h1
theorem k0_off481_inb : ∀ (i : grid0.Coords) (v1318 : BitVec 32) (k0_hw27 : k0_chk27 i v1318), ∀ (k0_h1 : k0_cond1 i = 1#1), ∀ a, (k0_off481 v1318) a + S1x16.size a ≤ S64x128.size a := fun i v1318 k0_hw27 k0_h1 => k0_hw27.2.2.2.2.2.2.2.2 k0_h1

def k0_off482 (v1448 : BitVec 32) : Fin 2 → Nat :=
  let v1451 : Index := Scalar.indexCast v1448
  let c0_442 : Index := 0#32
  ![v1451.toNat, 0]

def k0_off483 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1454 : Index := Scalar.indexCast v1450
  let c0_443 : Index := 0#32
  ![v1454.toNat, 0]
def k0_off484 (v1448 : BitVec 32) : Fin 2 → Nat :=
  let v1462 : Index := Scalar.indexCast v1448
  let c16_445 : Index := 16#32
  ![v1462.toNat, 16]
def k0_off485 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1465 : Index := Scalar.indexCast v1450
  let c16_446 : Index := 16#32
  ![v1465.toNat, 16]
def k0_off486 (v1448 : BitVec 32) : Fin 2 → Nat :=
  let v1473 : Index := Scalar.indexCast v1448
  let c32_448 : Index := 32#32
  ![v1473.toNat, 32]
def k0_off487 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1476 : Index := Scalar.indexCast v1450
  let c32_449 : Index := 32#32
  ![v1476.toNat, 32]
def k0_off488 (v1448 : BitVec 32) : Fin 2 → Nat :=
  let v1484 : Index := Scalar.indexCast v1448
  let c48_451 : Index := 48#32
  ![v1484.toNat, 48]
def k0_off489 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1487 : Index := Scalar.indexCast v1450
  let c48_452 : Index := 48#32
  ![v1487.toNat, 48]
def k0_off490 (v1448 : BitVec 32) : Fin 2 → Nat :=
  let v1495 : Index := Scalar.indexCast v1448
  let c64_454 : Index := 64#32
  ![v1495.toNat, 64]
def k0_off491 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1498 : Index := Scalar.indexCast v1450
  let c64_455 : Index := 64#32
  ![v1498.toNat, 64]
def k0_off492 (v1448 : BitVec 32) : Fin 2 → Nat :=
  let v1506 : Index := Scalar.indexCast v1448
  let c80_457 : Index := 80#32
  ![v1506.toNat, 80]
def k0_off493 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1509 : Index := Scalar.indexCast v1450
  let c80_458 : Index := 80#32
  ![v1509.toNat, 80]
def k0_off494 (v1448 : BitVec 32) : Fin 2 → Nat :=
  let v1517 : Index := Scalar.indexCast v1448
  let c96_460 : Index := 96#32
  ![v1517.toNat, 96]
def k0_off495 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1520 : Index := Scalar.indexCast v1450
  let c96_461 : Index := 96#32
  ![v1520.toNat, 96]
def k0_off496 (v1448 : BitVec 32) : Fin 2 → Nat :=
  let v1528 : Index := Scalar.indexCast v1448
  let c112_463 : Index := 112#32
  ![v1528.toNat, 112]
def k0_off497 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_441 : BitVec 32 := 16#32
  let v1449 : BitVec 32 := Scalar.muli arg10 c16_i32_441
  let c11_i32 : BitVec 32 := 11#32
  let v1450 : BitVec 32 := Scalar.addi v1449 c11_i32
  let v1531 : Index := Scalar.indexCast v1450
  let c112_464 : Index := 112#32
  ![v1531.toNat, 112]
def k0_off498 (v1448 : BitVec 32) : Fin 2 → Nat :=
  let c0_i32_467 : BitVec 32 := 0#32
  let v1540 : BitVec 1 := Scalar.cmpi .sgt v1448 c0_i32_467
  let v1541 : BitVec 32 := Scalar.extui v1540
  let c0_i32_468 : BitVec 32 := 0#32
  let v1542 : BitVec 1 := Scalar.cmpi .slt v1448 c0_i32_468
  let v1543 : BitVec 32 := Scalar.extui v1542
  let v1544 : BitVec 32 := Scalar.subi v1541 v1543
  let c8_i32_466 : BitVec 32 := 8#32
  let c0_i32_469 : BitVec 32 := 0#32
  let v1545 : BitVec 1 := Scalar.cmpi .sgt c8_i32_466 c0_i32_469
  let v1546 : BitVec 32 := Scalar.extui v1545
  let c0_i32_470 : BitVec 32 := 0#32
  let v1547 : BitVec 1 := Scalar.cmpi .slt c8_i32_466 c0_i32_470
  let v1548 : BitVec 32 := Scalar.extui v1547
  let v1549 : BitVec 32 := Scalar.subi v1546 v1548
  let v1550 : BitVec 1 := Scalar.cmpi .ne v1544 v1549
  let v1551 : BitVec 32 := Scalar.remsi v1448 c8_i32_466
  let c0_i32_471 : BitVec 32 := 0#32
  let v1552 : BitVec 1 := Scalar.cmpi .ne v1551 c0_i32_471
  let v1553 : BitVec 1 := Scalar.andi v1550 v1552
  let v1539 : BitVec 32 := Scalar.divsi v1448 c8_i32_466
  let c1_i32_472 : BitVec 32 := 1#32
  let v1554 : BitVec 32 := Scalar.subi v1539 c1_i32_472
  let v1555 : BitVec 32 := Scalar.select v1553 v1554 v1539
  let v1567 : Index := Scalar.indexCast v1555
  let c8_i32_473 : BitVec 32 := 8#32
  let c0_i32_474 : BitVec 32 := 0#32
  let v1556 : BitVec 1 := Scalar.cmpi .eq c8_i32_473 c0_i32_474
  let c1_i32_475 : BitVec 32 := 1#32
  let v1557 : BitVec 32 := Scalar.select v1556 c1_i32_475 c8_i32_473
  let v1558 : BitVec 32 := Scalar.remsi v1448 v1557
  let c0_i32_477 : BitVec 32 := 0#32
  let v1560 : BitVec 1 := Scalar.cmpi .slt v1558 c0_i32_477
  let c0_i32_478 : BitVec 32 := 0#32
  let v1561 : BitVec 1 := Scalar.cmpi .slt v1557 c0_i32_478
  let v1562 : BitVec 1 := Scalar.xori v1560 v1561
  let c0_i32_476 : BitVec 32 := 0#32
  let v1559 : BitVec 1 := Scalar.cmpi .ne v1558 c0_i32_476
  let v1563 : BitVec 1 := Scalar.andi v1562 v1559
  let v1564 : BitVec 32 := Scalar.addi v1558 v1557
  let v1565 : BitVec 32 := Scalar.select v1563 v1564 v1558
  let c16_i32_479 : BitVec 32 := 16#32
  let v1566 : BitVec 32 := Scalar.muli v1565 c16_i32_479
  let v1568 : Index := Scalar.indexCast v1566
  ![v1567.toNat, v1568.toNat]

def k0_chk28 (i : grid0.Coords) (v1448 : BitVec 32) : Prop :=
  (∀ (k0_h1 : k0_cond1 i = 1#1), ∀ a, (k0_off482 v1448) a + S1x16.size a ≤ S512x128.size a) ∧
  (∀ (k0_h1 : k0_cond1 i = 1#1), ∀ a, (k0_off484 v1448) a + S1x16.size a ≤ S512x128.size a) ∧
  (∀ (k0_h1 : k0_cond1 i = 1#1), ∀ a, (k0_off486 v1448) a + S1x16.size a ≤ S512x128.size a) ∧
  (∀ (k0_h1 : k0_cond1 i = 1#1), ∀ a, (k0_off488 v1448) a + S1x16.size a ≤ S512x128.size a) ∧
  (∀ (k0_h1 : k0_cond1 i = 1#1), ∀ a, (k0_off490 v1448) a + S1x16.size a ≤ S512x128.size a) ∧
  (∀ (k0_h1 : k0_cond1 i = 1#1), ∀ a, (k0_off492 v1448) a + S1x16.size a ≤ S512x128.size a) ∧
  (∀ (k0_h1 : k0_cond1 i = 1#1), ∀ a, (k0_off494 v1448) a + S1x16.size a ≤ S512x128.size a) ∧
  (∀ (k0_h1 : k0_cond1 i = 1#1), ∀ a, (k0_off496 v1448) a + S1x16.size a ≤ S512x128.size a) ∧
  (∀ (k0_h1 : k0_cond1 i = 1#1), ∀ a, (k0_off498 v1448) a + S1x16.size a ≤ S64x128.size a)
theorem k0_off482_inb : ∀ (i : grid0.Coords) (v1448 : BitVec 32) (k0_hw28 : k0_chk28 i v1448), ∀ (k0_h1 : k0_cond1 i = 1#1), ∀ a, (k0_off482 v1448) a + S1x16.size a ≤ S512x128.size a := fun i v1448 k0_hw28 k0_h1 => k0_hw28.1 k0_h1
theorem k0_off484_inb : ∀ (i : grid0.Coords) (v1448 : BitVec 32) (k0_hw28 : k0_chk28 i v1448), ∀ (k0_h1 : k0_cond1 i = 1#1), ∀ a, (k0_off484 v1448) a + S1x16.size a ≤ S512x128.size a := fun i v1448 k0_hw28 k0_h1 => k0_hw28.2.1 k0_h1
theorem k0_off486_inb : ∀ (i : grid0.Coords) (v1448 : BitVec 32) (k0_hw28 : k0_chk28 i v1448), ∀ (k0_h1 : k0_cond1 i = 1#1), ∀ a, (k0_off486 v1448) a + S1x16.size a ≤ S512x128.size a := fun i v1448 k0_hw28 k0_h1 => k0_hw28.2.2.1 k0_h1
theorem k0_off488_inb : ∀ (i : grid0.Coords) (v1448 : BitVec 32) (k0_hw28 : k0_chk28 i v1448), ∀ (k0_h1 : k0_cond1 i = 1#1), ∀ a, (k0_off488 v1448) a + S1x16.size a ≤ S512x128.size a := fun i v1448 k0_hw28 k0_h1 => k0_hw28.2.2.2.1 k0_h1
theorem k0_off490_inb : ∀ (i : grid0.Coords) (v1448 : BitVec 32) (k0_hw28 : k0_chk28 i v1448), ∀ (k0_h1 : k0_cond1 i = 1#1), ∀ a, (k0_off490 v1448) a + S1x16.size a ≤ S512x128.size a := fun i v1448 k0_hw28 k0_h1 => k0_hw28.2.2.2.2.1 k0_h1
theorem k0_off492_inb : ∀ (i : grid0.Coords) (v1448 : BitVec 32) (k0_hw28 : k0_chk28 i v1448), ∀ (k0_h1 : k0_cond1 i = 1#1), ∀ a, (k0_off492 v1448) a + S1x16.size a ≤ S512x128.size a := fun i v1448 k0_hw28 k0_h1 => k0_hw28.2.2.2.2.2.1 k0_h1
theorem k0_off494_inb : ∀ (i : grid0.Coords) (v1448 : BitVec 32) (k0_hw28 : k0_chk28 i v1448), ∀ (k0_h1 : k0_cond1 i = 1#1), ∀ a, (k0_off494 v1448) a + S1x16.size a ≤ S512x128.size a := fun i v1448 k0_hw28 k0_h1 => k0_hw28.2.2.2.2.2.2.1 k0_h1
theorem k0_off496_inb : ∀ (i : grid0.Coords) (v1448 : BitVec 32) (k0_hw28 : k0_chk28 i v1448), ∀ (k0_h1 : k0_cond1 i = 1#1), ∀ a, (k0_off496 v1448) a + S1x16.size a ≤ S512x128.size a := fun i v1448 k0_hw28 k0_h1 => k0_hw28.2.2.2.2.2.2.2.1 k0_h1
theorem k0_off498_inb : ∀ (i : grid0.Coords) (v1448 : BitVec 32) (k0_hw28 : k0_chk28 i v1448), ∀ (k0_h1 : k0_cond1 i = 1#1), ∀ a, (k0_off498 v1448) a + S1x16.size a ≤ S64x128.size a := fun i v1448 k0_hw28 k0_h1 => k0_hw28.2.2.2.2.2.2.2.2 k0_h1

def k0_off499 (v1578 : BitVec 32) : Fin 2 → Nat :=
  let v1581 : Index := Scalar.indexCast v1578
  let c0_481 : Index := 0#32
  ![v1581.toNat, 0]

def k0_off500 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1584 : Index := Scalar.indexCast v1580
  let c0_482 : Index := 0#32
  ![v1584.toNat, 0]
def k0_off501 (v1578 : BitVec 32) : Fin 2 → Nat :=
  let v1592 : Index := Scalar.indexCast v1578
  let c16_484 : Index := 16#32
  ![v1592.toNat, 16]
def k0_off502 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1595 : Index := Scalar.indexCast v1580
  let c16_485 : Index := 16#32
  ![v1595.toNat, 16]
def k0_off503 (v1578 : BitVec 32) : Fin 2 → Nat :=
  let v1603 : Index := Scalar.indexCast v1578
  let c32_487 : Index := 32#32
  ![v1603.toNat, 32]
def k0_off504 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1606 : Index := Scalar.indexCast v1580
  let c32_488 : Index := 32#32
  ![v1606.toNat, 32]
def k0_off505 (v1578 : BitVec 32) : Fin 2 → Nat :=
  let v1614 : Index := Scalar.indexCast v1578
  let c48_490 : Index := 48#32
  ![v1614.toNat, 48]
def k0_off506 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1617 : Index := Scalar.indexCast v1580
  let c48_491 : Index := 48#32
  ![v1617.toNat, 48]
def k0_off507 (v1578 : BitVec 32) : Fin 2 → Nat :=
  let v1625 : Index := Scalar.indexCast v1578
  let c64_493 : Index := 64#32
  ![v1625.toNat, 64]
def k0_off508 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1628 : Index := Scalar.indexCast v1580
  let c64_494 : Index := 64#32
  ![v1628.toNat, 64]
def k0_off509 (v1578 : BitVec 32) : Fin 2 → Nat :=
  let v1636 : Index := Scalar.indexCast v1578
  let c80_496 : Index := 80#32
  ![v1636.toNat, 80]
def k0_off510 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1639 : Index := Scalar.indexCast v1580
  let c80_497 : Index := 80#32
  ![v1639.toNat, 80]
def k0_off511 (v1578 : BitVec 32) : Fin 2 → Nat :=
  let v1647 : Index := Scalar.indexCast v1578
  let c96_499 : Index := 96#32
  ![v1647.toNat, 96]
def k0_off512 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1650 : Index := Scalar.indexCast v1580
  let c96_500 : Index := 96#32
  ![v1650.toNat, 96]
def k0_off513 (v1578 : BitVec 32) : Fin 2 → Nat :=
  let v1658 : Index := Scalar.indexCast v1578
  let c112_502 : Index := 112#32
  ![v1658.toNat, 112]
def k0_off514 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_480 : BitVec 32 := 16#32
  let v1579 : BitVec 32 := Scalar.muli arg10 c16_i32_480
  let c12_i32 : BitVec 32 := 12#32
  let v1580 : BitVec 32 := Scalar.addi v1579 c12_i32
  let v1661 : Index := Scalar.indexCast v1580
  let c112_503 : Index := 112#32
  ![v1661.toNat, 112]
def k0_off515 (v1578 : BitVec 32) : Fin 2 → Nat :=
  let c0_i32_506 : BitVec 32 := 0#32
  let v1670 : BitVec 1 := Scalar.cmpi .sgt v1578 c0_i32_506
  let v1671 : BitVec 32 := Scalar.extui v1670
  let c0_i32_507 : BitVec 32 := 0#32
  let v1672 : BitVec 1 := Scalar.cmpi .slt v1578 c0_i32_507
  let v1673 : BitVec 32 := Scalar.extui v1672
  let v1674 : BitVec 32 := Scalar.subi v1671 v1673
  let c8_i32_505 : BitVec 32 := 8#32
  let c0_i32_508 : BitVec 32 := 0#32
  let v1675 : BitVec 1 := Scalar.cmpi .sgt c8_i32_505 c0_i32_508
  let v1676 : BitVec 32 := Scalar.extui v1675
  let c0_i32_509 : BitVec 32 := 0#32
  let v1677 : BitVec 1 := Scalar.cmpi .slt c8_i32_505 c0_i32_509
  let v1678 : BitVec 32 := Scalar.extui v1677
  let v1679 : BitVec 32 := Scalar.subi v1676 v1678
  let v1680 : BitVec 1 := Scalar.cmpi .ne v1674 v1679
  let v1681 : BitVec 32 := Scalar.remsi v1578 c8_i32_505
  let c0_i32_510 : BitVec 32 := 0#32
  let v1682 : BitVec 1 := Scalar.cmpi .ne v1681 c0_i32_510
  let v1683 : BitVec 1 := Scalar.andi v1680 v1682
  let v1669 : BitVec 32 := Scalar.divsi v1578 c8_i32_505
  let c1_i32_511 : BitVec 32 := 1#32
  let v1684 : BitVec 32 := Scalar.subi v1669 c1_i32_511
  let v1685 : BitVec 32 := Scalar.select v1683 v1684 v1669
  let v1697 : Index := Scalar.indexCast v1685
  let c8_i32_512 : BitVec 32 := 8#32
  let c0_i32_513 : BitVec 32 := 0#32
  let v1686 : BitVec 1 := Scalar.cmpi .eq c8_i32_512 c0_i32_513
  let c1_i32_514 : BitVec 32 := 1#32
  let v1687 : BitVec 32 := Scalar.select v1686 c1_i32_514 c8_i32_512
  let v1688 : BitVec 32 := Scalar.remsi v1578 v1687
  let c0_i32_516 : BitVec 32 := 0#32
  let v1690 : BitVec 1 := Scalar.cmpi .slt v1688 c0_i32_516
  let c0_i32_517 : BitVec 32 := 0#32
  let v1691 : BitVec 1 := Scalar.cmpi .slt v1687 c0_i32_517
  let v1692 : BitVec 1 := Scalar.xori v1690 v1691
  let c0_i32_515 : BitVec 32 := 0#32
  let v1689 : BitVec 1 := Scalar.cmpi .ne v1688 c0_i32_515
  let v1693 : BitVec 1 := Scalar.andi v1692 v1689
  let v1694 : BitVec 32 := Scalar.addi v1688 v1687
  let v1695 : BitVec 32 := Scalar.select v1693 v1694 v1688
  let c16_i32_518 : BitVec 32 := 16#32
  let v1696 : BitVec 32 := Scalar.muli v1695 c16_i32_518
  let v1698 : Index := Scalar.indexCast v1696
  ![v1697.toNat, v1698.toNat]

def k0_chk29 (i : grid0.Coords) (v1578 : BitVec 32) : Prop :=
  (∀ (k0_h1 : k0_cond1 i = 1#1), ∀ a, (k0_off499 v1578) a + S1x16.size a ≤ S512x128.size a) ∧
  (∀ (k0_h1 : k0_cond1 i = 1#1), ∀ a, (k0_off501 v1578) a + S1x16.size a ≤ S512x128.size a) ∧
  (∀ (k0_h1 : k0_cond1 i = 1#1), ∀ a, (k0_off503 v1578) a + S1x16.size a ≤ S512x128.size a) ∧
  (∀ (k0_h1 : k0_cond1 i = 1#1), ∀ a, (k0_off505 v1578) a + S1x16.size a ≤ S512x128.size a) ∧
  (∀ (k0_h1 : k0_cond1 i = 1#1), ∀ a, (k0_off507 v1578) a + S1x16.size a ≤ S512x128.size a) ∧
  (∀ (k0_h1 : k0_cond1 i = 1#1), ∀ a, (k0_off509 v1578) a + S1x16.size a ≤ S512x128.size a) ∧
  (∀ (k0_h1 : k0_cond1 i = 1#1), ∀ a, (k0_off511 v1578) a + S1x16.size a ≤ S512x128.size a) ∧
  (∀ (k0_h1 : k0_cond1 i = 1#1), ∀ a, (k0_off513 v1578) a + S1x16.size a ≤ S512x128.size a) ∧
  (∀ (k0_h1 : k0_cond1 i = 1#1), ∀ a, (k0_off515 v1578) a + S1x16.size a ≤ S64x128.size a)
theorem k0_off499_inb : ∀ (i : grid0.Coords) (v1578 : BitVec 32) (k0_hw29 : k0_chk29 i v1578), ∀ (k0_h1 : k0_cond1 i = 1#1), ∀ a, (k0_off499 v1578) a + S1x16.size a ≤ S512x128.size a := fun i v1578 k0_hw29 k0_h1 => k0_hw29.1 k0_h1
theorem k0_off501_inb : ∀ (i : grid0.Coords) (v1578 : BitVec 32) (k0_hw29 : k0_chk29 i v1578), ∀ (k0_h1 : k0_cond1 i = 1#1), ∀ a, (k0_off501 v1578) a + S1x16.size a ≤ S512x128.size a := fun i v1578 k0_hw29 k0_h1 => k0_hw29.2.1 k0_h1
theorem k0_off503_inb : ∀ (i : grid0.Coords) (v1578 : BitVec 32) (k0_hw29 : k0_chk29 i v1578), ∀ (k0_h1 : k0_cond1 i = 1#1), ∀ a, (k0_off503 v1578) a + S1x16.size a ≤ S512x128.size a := fun i v1578 k0_hw29 k0_h1 => k0_hw29.2.2.1 k0_h1
theorem k0_off505_inb : ∀ (i : grid0.Coords) (v1578 : BitVec 32) (k0_hw29 : k0_chk29 i v1578), ∀ (k0_h1 : k0_cond1 i = 1#1), ∀ a, (k0_off505 v1578) a + S1x16.size a ≤ S512x128.size a := fun i v1578 k0_hw29 k0_h1 => k0_hw29.2.2.2.1 k0_h1
theorem k0_off507_inb : ∀ (i : grid0.Coords) (v1578 : BitVec 32) (k0_hw29 : k0_chk29 i v1578), ∀ (k0_h1 : k0_cond1 i = 1#1), ∀ a, (k0_off507 v1578) a + S1x16.size a ≤ S512x128.size a := fun i v1578 k0_hw29 k0_h1 => k0_hw29.2.2.2.2.1 k0_h1
theorem k0_off509_inb : ∀ (i : grid0.Coords) (v1578 : BitVec 32) (k0_hw29 : k0_chk29 i v1578), ∀ (k0_h1 : k0_cond1 i = 1#1), ∀ a, (k0_off509 v1578) a + S1x16.size a ≤ S512x128.size a := fun i v1578 k0_hw29 k0_h1 => k0_hw29.2.2.2.2.2.1 k0_h1
theorem k0_off511_inb : ∀ (i : grid0.Coords) (v1578 : BitVec 32) (k0_hw29 : k0_chk29 i v1578), ∀ (k0_h1 : k0_cond1 i = 1#1), ∀ a, (k0_off511 v1578) a + S1x16.size a ≤ S512x128.size a := fun i v1578 k0_hw29 k0_h1 => k0_hw29.2.2.2.2.2.2.1 k0_h1
theorem k0_off513_inb : ∀ (i : grid0.Coords) (v1578 : BitVec 32) (k0_hw29 : k0_chk29 i v1578), ∀ (k0_h1 : k0_cond1 i = 1#1), ∀ a, (k0_off513 v1578) a + S1x16.size a ≤ S512x128.size a := fun i v1578 k0_hw29 k0_h1 => k0_hw29.2.2.2.2.2.2.2.1 k0_h1
theorem k0_off515_inb : ∀ (i : grid0.Coords) (v1578 : BitVec 32) (k0_hw29 : k0_chk29 i v1578), ∀ (k0_h1 : k0_cond1 i = 1#1), ∀ a, (k0_off515 v1578) a + S1x16.size a ≤ S64x128.size a := fun i v1578 k0_hw29 k0_h1 => k0_hw29.2.2.2.2.2.2.2.2 k0_h1

def k0_off516 (v1708 : BitVec 32) : Fin 2 → Nat :=
  let v1711 : Index := Scalar.indexCast v1708
  let c0_520 : Index := 0#32
  ![v1711.toNat, 0]

def k0_off517 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1714 : Index := Scalar.indexCast v1710
  let c0_521 : Index := 0#32
  ![v1714.toNat, 0]
def k0_off518 (v1708 : BitVec 32) : Fin 2 → Nat :=
  let v1722 : Index := Scalar.indexCast v1708
  let c16_523 : Index := 16#32
  ![v1722.toNat, 16]
def k0_off519 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1725 : Index := Scalar.indexCast v1710
  let c16_524 : Index := 16#32
  ![v1725.toNat, 16]
def k0_off520 (v1708 : BitVec 32) : Fin 2 → Nat :=
  let v1733 : Index := Scalar.indexCast v1708
  let c32_526 : Index := 32#32
  ![v1733.toNat, 32]
def k0_off521 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1736 : Index := Scalar.indexCast v1710
  let c32_527 : Index := 32#32
  ![v1736.toNat, 32]
def k0_off522 (v1708 : BitVec 32) : Fin 2 → Nat :=
  let v1744 : Index := Scalar.indexCast v1708
  let c48_529 : Index := 48#32
  ![v1744.toNat, 48]
def k0_off523 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1747 : Index := Scalar.indexCast v1710
  let c48_530 : Index := 48#32
  ![v1747.toNat, 48]
def k0_off524 (v1708 : BitVec 32) : Fin 2 → Nat :=
  let v1755 : Index := Scalar.indexCast v1708
  let c64_532 : Index := 64#32
  ![v1755.toNat, 64]
def k0_off525 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1758 : Index := Scalar.indexCast v1710
  let c64_533 : Index := 64#32
  ![v1758.toNat, 64]
def k0_off526 (v1708 : BitVec 32) : Fin 2 → Nat :=
  let v1766 : Index := Scalar.indexCast v1708
  let c80_535 : Index := 80#32
  ![v1766.toNat, 80]
def k0_off527 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1769 : Index := Scalar.indexCast v1710
  let c80_536 : Index := 80#32
  ![v1769.toNat, 80]
def k0_off528 (v1708 : BitVec 32) : Fin 2 → Nat :=
  let v1777 : Index := Scalar.indexCast v1708
  let c96_538 : Index := 96#32
  ![v1777.toNat, 96]
def k0_off529 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1780 : Index := Scalar.indexCast v1710
  let c96_539 : Index := 96#32
  ![v1780.toNat, 96]
def k0_off530 (v1708 : BitVec 32) : Fin 2 → Nat :=
  let v1788 : Index := Scalar.indexCast v1708
  let c112_541 : Index := 112#32
  ![v1788.toNat, 112]
def k0_off531 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_519 : BitVec 32 := 16#32
  let v1709 : BitVec 32 := Scalar.muli arg10 c16_i32_519
  let c13_i32 : BitVec 32 := 13#32
  let v1710 : BitVec 32 := Scalar.addi v1709 c13_i32
  let v1791 : Index := Scalar.indexCast v1710
  let c112_542 : Index := 112#32
  ![v1791.toNat, 112]
def k0_off532 (v1708 : BitVec 32) : Fin 2 → Nat :=
  let c0_i32_545 : BitVec 32 := 0#32
  let v1800 : BitVec 1 := Scalar.cmpi .sgt v1708 c0_i32_545
  let v1801 : BitVec 32 := Scalar.extui v1800
  let c0_i32_546 : BitVec 32 := 0#32
  let v1802 : BitVec 1 := Scalar.cmpi .slt v1708 c0_i32_546
  let v1803 : BitVec 32 := Scalar.extui v1802
  let v1804 : BitVec 32 := Scalar.subi v1801 v1803
  let c8_i32_544 : BitVec 32 := 8#32
  let c0_i32_547 : BitVec 32 := 0#32
  let v1805 : BitVec 1 := Scalar.cmpi .sgt c8_i32_544 c0_i32_547
  let v1806 : BitVec 32 := Scalar.extui v1805
  let c0_i32_548 : BitVec 32 := 0#32
  let v1807 : BitVec 1 := Scalar.cmpi .slt c8_i32_544 c0_i32_548
  let v1808 : BitVec 32 := Scalar.extui v1807
  let v1809 : BitVec 32 := Scalar.subi v1806 v1808
  let v1810 : BitVec 1 := Scalar.cmpi .ne v1804 v1809
  let v1811 : BitVec 32 := Scalar.remsi v1708 c8_i32_544
  let c0_i32_549 : BitVec 32 := 0#32
  let v1812 : BitVec 1 := Scalar.cmpi .ne v1811 c0_i32_549
  let v1813 : BitVec 1 := Scalar.andi v1810 v1812
  let v1799 : BitVec 32 := Scalar.divsi v1708 c8_i32_544
  let c1_i32_550 : BitVec 32 := 1#32
  let v1814 : BitVec 32 := Scalar.subi v1799 c1_i32_550
  let v1815 : BitVec 32 := Scalar.select v1813 v1814 v1799
  let v1827 : Index := Scalar.indexCast v1815
  let c8_i32_551 : BitVec 32 := 8#32
  let c0_i32_552 : BitVec 32 := 0#32
  let v1816 : BitVec 1 := Scalar.cmpi .eq c8_i32_551 c0_i32_552
  let c1_i32_553 : BitVec 32 := 1#32
  let v1817 : BitVec 32 := Scalar.select v1816 c1_i32_553 c8_i32_551
  let v1818 : BitVec 32 := Scalar.remsi v1708 v1817
  let c0_i32_555 : BitVec 32 := 0#32
  let v1820 : BitVec 1 := Scalar.cmpi .slt v1818 c0_i32_555
  let c0_i32_556 : BitVec 32 := 0#32
  let v1821 : BitVec 1 := Scalar.cmpi .slt v1817 c0_i32_556
  let v1822 : BitVec 1 := Scalar.xori v1820 v1821
  let c0_i32_554 : BitVec 32 := 0#32
  let v1819 : BitVec 1 := Scalar.cmpi .ne v1818 c0_i32_554
  let v1823 : BitVec 1 := Scalar.andi v1822 v1819
  let v1824 : BitVec 32 := Scalar.addi v1818 v1817
  let v1825 : BitVec 32 := Scalar.select v1823 v1824 v1818
  let c16_i32_557 : BitVec 32 := 16#32
  let v1826 : BitVec 32 := Scalar.muli v1825 c16_i32_557
  let v1828 : Index := Scalar.indexCast v1826
  ![v1827.toNat, v1828.toNat]

def k0_chk30 (i : grid0.Coords) (v1708 : BitVec 32) : Prop :=
  (∀ (k0_h1 : k0_cond1 i = 1#1), ∀ a, (k0_off516 v1708) a + S1x16.size a ≤ S512x128.size a) ∧
  (∀ (k0_h1 : k0_cond1 i = 1#1), ∀ a, (k0_off518 v1708) a + S1x16.size a ≤ S512x128.size a) ∧
  (∀ (k0_h1 : k0_cond1 i = 1#1), ∀ a, (k0_off520 v1708) a + S1x16.size a ≤ S512x128.size a) ∧
  (∀ (k0_h1 : k0_cond1 i = 1#1), ∀ a, (k0_off522 v1708) a + S1x16.size a ≤ S512x128.size a) ∧
  (∀ (k0_h1 : k0_cond1 i = 1#1), ∀ a, (k0_off524 v1708) a + S1x16.size a ≤ S512x128.size a) ∧
  (∀ (k0_h1 : k0_cond1 i = 1#1), ∀ a, (k0_off526 v1708) a + S1x16.size a ≤ S512x128.size a) ∧
  (∀ (k0_h1 : k0_cond1 i = 1#1), ∀ a, (k0_off528 v1708) a + S1x16.size a ≤ S512x128.size a) ∧
  (∀ (k0_h1 : k0_cond1 i = 1#1), ∀ a, (k0_off530 v1708) a + S1x16.size a ≤ S512x128.size a) ∧
  (∀ (k0_h1 : k0_cond1 i = 1#1), ∀ a, (k0_off532 v1708) a + S1x16.size a ≤ S64x128.size a)
theorem k0_off516_inb : ∀ (i : grid0.Coords) (v1708 : BitVec 32) (k0_hw30 : k0_chk30 i v1708), ∀ (k0_h1 : k0_cond1 i = 1#1), ∀ a, (k0_off516 v1708) a + S1x16.size a ≤ S512x128.size a := fun i v1708 k0_hw30 k0_h1 => k0_hw30.1 k0_h1
theorem k0_off518_inb : ∀ (i : grid0.Coords) (v1708 : BitVec 32) (k0_hw30 : k0_chk30 i v1708), ∀ (k0_h1 : k0_cond1 i = 1#1), ∀ a, (k0_off518 v1708) a + S1x16.size a ≤ S512x128.size a := fun i v1708 k0_hw30 k0_h1 => k0_hw30.2.1 k0_h1
theorem k0_off520_inb : ∀ (i : grid0.Coords) (v1708 : BitVec 32) (k0_hw30 : k0_chk30 i v1708), ∀ (k0_h1 : k0_cond1 i = 1#1), ∀ a, (k0_off520 v1708) a + S1x16.size a ≤ S512x128.size a := fun i v1708 k0_hw30 k0_h1 => k0_hw30.2.2.1 k0_h1
theorem k0_off522_inb : ∀ (i : grid0.Coords) (v1708 : BitVec 32) (k0_hw30 : k0_chk30 i v1708), ∀ (k0_h1 : k0_cond1 i = 1#1), ∀ a, (k0_off522 v1708) a + S1x16.size a ≤ S512x128.size a := fun i v1708 k0_hw30 k0_h1 => k0_hw30.2.2.2.1 k0_h1
theorem k0_off524_inb : ∀ (i : grid0.Coords) (v1708 : BitVec 32) (k0_hw30 : k0_chk30 i v1708), ∀ (k0_h1 : k0_cond1 i = 1#1), ∀ a, (k0_off524 v1708) a + S1x16.size a ≤ S512x128.size a := fun i v1708 k0_hw30 k0_h1 => k0_hw30.2.2.2.2.1 k0_h1
theorem k0_off526_inb : ∀ (i : grid0.Coords) (v1708 : BitVec 32) (k0_hw30 : k0_chk30 i v1708), ∀ (k0_h1 : k0_cond1 i = 1#1), ∀ a, (k0_off526 v1708) a + S1x16.size a ≤ S512x128.size a := fun i v1708 k0_hw30 k0_h1 => k0_hw30.2.2.2.2.2.1 k0_h1
theorem k0_off528_inb : ∀ (i : grid0.Coords) (v1708 : BitVec 32) (k0_hw30 : k0_chk30 i v1708), ∀ (k0_h1 : k0_cond1 i = 1#1), ∀ a, (k0_off528 v1708) a + S1x16.size a ≤ S512x128.size a := fun i v1708 k0_hw30 k0_h1 => k0_hw30.2.2.2.2.2.2.1 k0_h1
theorem k0_off530_inb : ∀ (i : grid0.Coords) (v1708 : BitVec 32) (k0_hw30 : k0_chk30 i v1708), ∀ (k0_h1 : k0_cond1 i = 1#1), ∀ a, (k0_off530 v1708) a + S1x16.size a ≤ S512x128.size a := fun i v1708 k0_hw30 k0_h1 => k0_hw30.2.2.2.2.2.2.2.1 k0_h1
theorem k0_off532_inb : ∀ (i : grid0.Coords) (v1708 : BitVec 32) (k0_hw30 : k0_chk30 i v1708), ∀ (k0_h1 : k0_cond1 i = 1#1), ∀ a, (k0_off532 v1708) a + S1x16.size a ≤ S64x128.size a := fun i v1708 k0_hw30 k0_h1 => k0_hw30.2.2.2.2.2.2.2.2 k0_h1

def k0_off533 (v1838 : BitVec 32) : Fin 2 → Nat :=
  let v1841 : Index := Scalar.indexCast v1838
  let c0_559 : Index := 0#32
  ![v1841.toNat, 0]

def k0_off534 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1844 : Index := Scalar.indexCast v1840
  let c0_560 : Index := 0#32
  ![v1844.toNat, 0]
def k0_off535 (v1838 : BitVec 32) : Fin 2 → Nat :=
  let v1852 : Index := Scalar.indexCast v1838
  let c16_562 : Index := 16#32
  ![v1852.toNat, 16]
def k0_off536 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1855 : Index := Scalar.indexCast v1840
  let c16_563 : Index := 16#32
  ![v1855.toNat, 16]
def k0_off537 (v1838 : BitVec 32) : Fin 2 → Nat :=
  let v1863 : Index := Scalar.indexCast v1838
  let c32_565 : Index := 32#32
  ![v1863.toNat, 32]
def k0_off538 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1866 : Index := Scalar.indexCast v1840
  let c32_566 : Index := 32#32
  ![v1866.toNat, 32]
def k0_off539 (v1838 : BitVec 32) : Fin 2 → Nat :=
  let v1874 : Index := Scalar.indexCast v1838
  let c48_568 : Index := 48#32
  ![v1874.toNat, 48]
def k0_off540 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1877 : Index := Scalar.indexCast v1840
  let c48_569 : Index := 48#32
  ![v1877.toNat, 48]
def k0_off541 (v1838 : BitVec 32) : Fin 2 → Nat :=
  let v1885 : Index := Scalar.indexCast v1838
  let c64_571 : Index := 64#32
  ![v1885.toNat, 64]
def k0_off542 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1888 : Index := Scalar.indexCast v1840
  let c64_572 : Index := 64#32
  ![v1888.toNat, 64]
def k0_off543 (v1838 : BitVec 32) : Fin 2 → Nat :=
  let v1896 : Index := Scalar.indexCast v1838
  let c80_574 : Index := 80#32
  ![v1896.toNat, 80]
def k0_off544 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1899 : Index := Scalar.indexCast v1840
  let c80_575 : Index := 80#32
  ![v1899.toNat, 80]
def k0_off545 (v1838 : BitVec 32) : Fin 2 → Nat :=
  let v1907 : Index := Scalar.indexCast v1838
  let c96_577 : Index := 96#32
  ![v1907.toNat, 96]
def k0_off546 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1910 : Index := Scalar.indexCast v1840
  let c96_578 : Index := 96#32
  ![v1910.toNat, 96]
def k0_off547 (v1838 : BitVec 32) : Fin 2 → Nat :=
  let v1918 : Index := Scalar.indexCast v1838
  let c112_580 : Index := 112#32
  ![v1918.toNat, 112]
def k0_off548 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_558 : BitVec 32 := 16#32
  let v1839 : BitVec 32 := Scalar.muli arg10 c16_i32_558
  let c14_i32 : BitVec 32 := 14#32
  let v1840 : BitVec 32 := Scalar.addi v1839 c14_i32
  let v1921 : Index := Scalar.indexCast v1840
  let c112_581 : Index := 112#32
  ![v1921.toNat, 112]
def k0_off549 (v1838 : BitVec 32) : Fin 2 → Nat :=
  let c0_i32_584 : BitVec 32 := 0#32
  let v1930 : BitVec 1 := Scalar.cmpi .sgt v1838 c0_i32_584
  let v1931 : BitVec 32 := Scalar.extui v1930
  let c0_i32_585 : BitVec 32 := 0#32
  let v1932 : BitVec 1 := Scalar.cmpi .slt v1838 c0_i32_585
  let v1933 : BitVec 32 := Scalar.extui v1932
  let v1934 : BitVec 32 := Scalar.subi v1931 v1933
  let c8_i32_583 : BitVec 32 := 8#32
  let c0_i32_586 : BitVec 32 := 0#32
  let v1935 : BitVec 1 := Scalar.cmpi .sgt c8_i32_583 c0_i32_586
  let v1936 : BitVec 32 := Scalar.extui v1935
  let c0_i32_587 : BitVec 32 := 0#32
  let v1937 : BitVec 1 := Scalar.cmpi .slt c8_i32_583 c0_i32_587
  let v1938 : BitVec 32 := Scalar.extui v1937
  let v1939 : BitVec 32 := Scalar.subi v1936 v1938
  let v1940 : BitVec 1 := Scalar.cmpi .ne v1934 v1939
  let v1941 : BitVec 32 := Scalar.remsi v1838 c8_i32_583
  let c0_i32_588 : BitVec 32 := 0#32
  let v1942 : BitVec 1 := Scalar.cmpi .ne v1941 c0_i32_588
  let v1943 : BitVec 1 := Scalar.andi v1940 v1942
  let v1929 : BitVec 32 := Scalar.divsi v1838 c8_i32_583
  let c1_i32_589 : BitVec 32 := 1#32
  let v1944 : BitVec 32 := Scalar.subi v1929 c1_i32_589
  let v1945 : BitVec 32 := Scalar.select v1943 v1944 v1929
  let v1957 : Index := Scalar.indexCast v1945
  let c8_i32_590 : BitVec 32 := 8#32
  let c0_i32_591 : BitVec 32 := 0#32
  let v1946 : BitVec 1 := Scalar.cmpi .eq c8_i32_590 c0_i32_591
  let c1_i32_592 : BitVec 32 := 1#32
  let v1947 : BitVec 32 := Scalar.select v1946 c1_i32_592 c8_i32_590
  let v1948 : BitVec 32 := Scalar.remsi v1838 v1947
  let c0_i32_594 : BitVec 32 := 0#32
  let v1950 : BitVec 1 := Scalar.cmpi .slt v1948 c0_i32_594
  let c0_i32_595 : BitVec 32 := 0#32
  let v1951 : BitVec 1 := Scalar.cmpi .slt v1947 c0_i32_595
  let v1952 : BitVec 1 := Scalar.xori v1950 v1951
  let c0_i32_593 : BitVec 32 := 0#32
  let v1949 : BitVec 1 := Scalar.cmpi .ne v1948 c0_i32_593
  let v1953 : BitVec 1 := Scalar.andi v1952 v1949
  let v1954 : BitVec 32 := Scalar.addi v1948 v1947
  let v1955 : BitVec 32 := Scalar.select v1953 v1954 v1948
  let c16_i32_596 : BitVec 32 := 16#32
  let v1956 : BitVec 32 := Scalar.muli v1955 c16_i32_596
  let v1958 : Index := Scalar.indexCast v1956
  ![v1957.toNat, v1958.toNat]

def k0_chk31 (i : grid0.Coords) (v1838 : BitVec 32) : Prop :=
  (∀ (k0_h1 : k0_cond1 i = 1#1), ∀ a, (k0_off533 v1838) a + S1x16.size a ≤ S512x128.size a) ∧
  (∀ (k0_h1 : k0_cond1 i = 1#1), ∀ a, (k0_off535 v1838) a + S1x16.size a ≤ S512x128.size a) ∧
  (∀ (k0_h1 : k0_cond1 i = 1#1), ∀ a, (k0_off537 v1838) a + S1x16.size a ≤ S512x128.size a) ∧
  (∀ (k0_h1 : k0_cond1 i = 1#1), ∀ a, (k0_off539 v1838) a + S1x16.size a ≤ S512x128.size a) ∧
  (∀ (k0_h1 : k0_cond1 i = 1#1), ∀ a, (k0_off541 v1838) a + S1x16.size a ≤ S512x128.size a) ∧
  (∀ (k0_h1 : k0_cond1 i = 1#1), ∀ a, (k0_off543 v1838) a + S1x16.size a ≤ S512x128.size a) ∧
  (∀ (k0_h1 : k0_cond1 i = 1#1), ∀ a, (k0_off545 v1838) a + S1x16.size a ≤ S512x128.size a) ∧
  (∀ (k0_h1 : k0_cond1 i = 1#1), ∀ a, (k0_off547 v1838) a + S1x16.size a ≤ S512x128.size a) ∧
  (∀ (k0_h1 : k0_cond1 i = 1#1), ∀ a, (k0_off549 v1838) a + S1x16.size a ≤ S64x128.size a)
theorem k0_off533_inb : ∀ (i : grid0.Coords) (v1838 : BitVec 32) (k0_hw31 : k0_chk31 i v1838), ∀ (k0_h1 : k0_cond1 i = 1#1), ∀ a, (k0_off533 v1838) a + S1x16.size a ≤ S512x128.size a := fun i v1838 k0_hw31 k0_h1 => k0_hw31.1 k0_h1
theorem k0_off535_inb : ∀ (i : grid0.Coords) (v1838 : BitVec 32) (k0_hw31 : k0_chk31 i v1838), ∀ (k0_h1 : k0_cond1 i = 1#1), ∀ a, (k0_off535 v1838) a + S1x16.size a ≤ S512x128.size a := fun i v1838 k0_hw31 k0_h1 => k0_hw31.2.1 k0_h1
theorem k0_off537_inb : ∀ (i : grid0.Coords) (v1838 : BitVec 32) (k0_hw31 : k0_chk31 i v1838), ∀ (k0_h1 : k0_cond1 i = 1#1), ∀ a, (k0_off537 v1838) a + S1x16.size a ≤ S512x128.size a := fun i v1838 k0_hw31 k0_h1 => k0_hw31.2.2.1 k0_h1
theorem k0_off539_inb : ∀ (i : grid0.Coords) (v1838 : BitVec 32) (k0_hw31 : k0_chk31 i v1838), ∀ (k0_h1 : k0_cond1 i = 1#1), ∀ a, (k0_off539 v1838) a + S1x16.size a ≤ S512x128.size a := fun i v1838 k0_hw31 k0_h1 => k0_hw31.2.2.2.1 k0_h1
theorem k0_off541_inb : ∀ (i : grid0.Coords) (v1838 : BitVec 32) (k0_hw31 : k0_chk31 i v1838), ∀ (k0_h1 : k0_cond1 i = 1#1), ∀ a, (k0_off541 v1838) a + S1x16.size a ≤ S512x128.size a := fun i v1838 k0_hw31 k0_h1 => k0_hw31.2.2.2.2.1 k0_h1
theorem k0_off543_inb : ∀ (i : grid0.Coords) (v1838 : BitVec 32) (k0_hw31 : k0_chk31 i v1838), ∀ (k0_h1 : k0_cond1 i = 1#1), ∀ a, (k0_off543 v1838) a + S1x16.size a ≤ S512x128.size a := fun i v1838 k0_hw31 k0_h1 => k0_hw31.2.2.2.2.2.1 k0_h1
theorem k0_off545_inb : ∀ (i : grid0.Coords) (v1838 : BitVec 32) (k0_hw31 : k0_chk31 i v1838), ∀ (k0_h1 : k0_cond1 i = 1#1), ∀ a, (k0_off545 v1838) a + S1x16.size a ≤ S512x128.size a := fun i v1838 k0_hw31 k0_h1 => k0_hw31.2.2.2.2.2.2.1 k0_h1
theorem k0_off547_inb : ∀ (i : grid0.Coords) (v1838 : BitVec 32) (k0_hw31 : k0_chk31 i v1838), ∀ (k0_h1 : k0_cond1 i = 1#1), ∀ a, (k0_off547 v1838) a + S1x16.size a ≤ S512x128.size a := fun i v1838 k0_hw31 k0_h1 => k0_hw31.2.2.2.2.2.2.2.1 k0_h1
theorem k0_off549_inb : ∀ (i : grid0.Coords) (v1838 : BitVec 32) (k0_hw31 : k0_chk31 i v1838), ∀ (k0_h1 : k0_cond1 i = 1#1), ∀ a, (k0_off549 v1838) a + S1x16.size a ≤ S64x128.size a := fun i v1838 k0_hw31 k0_h1 => k0_hw31.2.2.2.2.2.2.2.2 k0_h1

def k0_off550 (v1968 : BitVec 32) : Fin 2 → Nat :=
  let v1971 : Index := Scalar.indexCast v1968
  let c0_598 : Index := 0#32
  ![v1971.toNat, 0]

def k0_off551 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v1974 : Index := Scalar.indexCast v1970
  let c0_599 : Index := 0#32
  ![v1974.toNat, 0]
def k0_off552 (v1968 : BitVec 32) : Fin 2 → Nat :=
  let v1982 : Index := Scalar.indexCast v1968
  let c16_601 : Index := 16#32
  ![v1982.toNat, 16]
def k0_off553 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v1985 : Index := Scalar.indexCast v1970
  let c16_602 : Index := 16#32
  ![v1985.toNat, 16]
def k0_off554 (v1968 : BitVec 32) : Fin 2 → Nat :=
  let v1993 : Index := Scalar.indexCast v1968
  let c32_604 : Index := 32#32
  ![v1993.toNat, 32]
def k0_off555 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v1996 : Index := Scalar.indexCast v1970
  let c32_605 : Index := 32#32
  ![v1996.toNat, 32]
def k0_off556 (v1968 : BitVec 32) : Fin 2 → Nat :=
  let v2004 : Index := Scalar.indexCast v1968
  let c48_607 : Index := 48#32
  ![v2004.toNat, 48]
def k0_off557 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v2007 : Index := Scalar.indexCast v1970
  let c48_608 : Index := 48#32
  ![v2007.toNat, 48]
def k0_off558 (v1968 : BitVec 32) : Fin 2 → Nat :=
  let v2015 : Index := Scalar.indexCast v1968
  let c64_610 : Index := 64#32
  ![v2015.toNat, 64]
def k0_off559 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v2018 : Index := Scalar.indexCast v1970
  let c64_611 : Index := 64#32
  ![v2018.toNat, 64]
def k0_off560 (v1968 : BitVec 32) : Fin 2 → Nat :=
  let v2026 : Index := Scalar.indexCast v1968
  let c80_613 : Index := 80#32
  ![v2026.toNat, 80]
def k0_off561 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v2029 : Index := Scalar.indexCast v1970
  let c80_614 : Index := 80#32
  ![v2029.toNat, 80]
def k0_off562 (v1968 : BitVec 32) : Fin 2 → Nat :=
  let v2037 : Index := Scalar.indexCast v1968
  let c96_616 : Index := 96#32
  ![v2037.toNat, 96]
def k0_off563 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v2040 : Index := Scalar.indexCast v1970
  let c96_617 : Index := 96#32
  ![v2040.toNat, 96]
def k0_off564 (v1968 : BitVec 32) : Fin 2 → Nat :=
  let v2048 : Index := Scalar.indexCast v1968
  let c112_619 : Index := 112#32
  ![v2048.toNat, 112]
def k0_off565 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c16_i32_597 : BitVec 32 := 16#32
  let v1969 : BitVec 32 := Scalar.muli arg10 c16_i32_597
  let c15_i32 : BitVec 32 := 15#32
  let v1970 : BitVec 32 := Scalar.addi v1969 c15_i32
  let v2051 : Index := Scalar.indexCast v1970
  let c112_620 : Index := 112#32
  ![v2051.toNat, 112]
def k0_off566 (v1968 : BitVec 32) : Fin 2 → Nat :=
  let c0_i32_623 : BitVec 32 := 0#32
  let v2060 : BitVec 1 := Scalar.cmpi .sgt v1968 c0_i32_623
  let v2061 : BitVec 32 := Scalar.extui v2060
  let c0_i32_624 : BitVec 32 := 0#32
  let v2062 : BitVec 1 := Scalar.cmpi .slt v1968 c0_i32_624
  let v2063 : BitVec 32 := Scalar.extui v2062
  let v2064 : BitVec 32 := Scalar.subi v2061 v2063
  let c8_i32_622 : BitVec 32 := 8#32
  let c0_i32_625 : BitVec 32 := 0#32
  let v2065 : BitVec 1 := Scalar.cmpi .sgt c8_i32_622 c0_i32_625
  let v2066 : BitVec 32 := Scalar.extui v2065
  let c0_i32_626 : BitVec 32 := 0#32
  let v2067 : BitVec 1 := Scalar.cmpi .slt c8_i32_622 c0_i32_626
  let v2068 : BitVec 32 := Scalar.extui v2067
  let v2069 : BitVec 32 := Scalar.subi v2066 v2068
  let v2070 : BitVec 1 := Scalar.cmpi .ne v2064 v2069
  let v2071 : BitVec 32 := Scalar.remsi v1968 c8_i32_622
  let c0_i32_627 : BitVec 32 := 0#32
  let v2072 : BitVec 1 := Scalar.cmpi .ne v2071 c0_i32_627
  let v2073 : BitVec 1 := Scalar.andi v2070 v2072
  let v2059 : BitVec 32 := Scalar.divsi v1968 c8_i32_622
  let c1_i32_628 : BitVec 32 := 1#32
  let v2074 : BitVec 32 := Scalar.subi v2059 c1_i32_628
  let v2075 : BitVec 32 := Scalar.select v2073 v2074 v2059
  let v2087 : Index := Scalar.indexCast v2075
  let c8_i32_629 : BitVec 32 := 8#32
  let c0_i32_630 : BitVec 32 := 0#32
  let v2076 : BitVec 1 := Scalar.cmpi .eq c8_i32_629 c0_i32_630
  let c1_i32_631 : BitVec 32 := 1#32
  let v2077 : BitVec 32 := Scalar.select v2076 c1_i32_631 c8_i32_629
  let v2078 : BitVec 32 := Scalar.remsi v1968 v2077
  let c0_i32_633 : BitVec 32 := 0#32
  let v2080 : BitVec 1 := Scalar.cmpi .slt v2078 c0_i32_633
  let c0_i32_634 : BitVec 32 := 0#32
  let v2081 : BitVec 1 := Scalar.cmpi .slt v2077 c0_i32_634
  let v2082 : BitVec 1 := Scalar.xori v2080 v2081
  let c0_i32_632 : BitVec 32 := 0#32
  let v2079 : BitVec 1 := Scalar.cmpi .ne v2078 c0_i32_632
  let v2083 : BitVec 1 := Scalar.andi v2082 v2079
  let v2084 : BitVec 32 := Scalar.addi v2078 v2077
  let v2085 : BitVec 32 := Scalar.select v2083 v2084 v2078
  let c16_i32_635 : BitVec 32 := 16#32
  let v2086 : BitVec 32 := Scalar.muli v2085 c16_i32_635
  let v2088 : Index := Scalar.indexCast v2086
  ![v2087.toNat, v2088.toNat]

def k0_chk32 (i : grid0.Coords) (v1968 : BitVec 32) : Prop :=
  (∀ (k0_h1 : k0_cond1 i = 1#1), ∀ a, (k0_off550 v1968) a + S1x16.size a ≤ S512x128.size a) ∧
  (∀ (k0_h1 : k0_cond1 i = 1#1), ∀ a, (k0_off552 v1968) a + S1x16.size a ≤ S512x128.size a) ∧
  (∀ (k0_h1 : k0_cond1 i = 1#1), ∀ a, (k0_off554 v1968) a + S1x16.size a ≤ S512x128.size a) ∧
  (∀ (k0_h1 : k0_cond1 i = 1#1), ∀ a, (k0_off556 v1968) a + S1x16.size a ≤ S512x128.size a) ∧
  (∀ (k0_h1 : k0_cond1 i = 1#1), ∀ a, (k0_off558 v1968) a + S1x16.size a ≤ S512x128.size a) ∧
  (∀ (k0_h1 : k0_cond1 i = 1#1), ∀ a, (k0_off560 v1968) a + S1x16.size a ≤ S512x128.size a) ∧
  (∀ (k0_h1 : k0_cond1 i = 1#1), ∀ a, (k0_off562 v1968) a + S1x16.size a ≤ S512x128.size a) ∧
  (∀ (k0_h1 : k0_cond1 i = 1#1), ∀ a, (k0_off564 v1968) a + S1x16.size a ≤ S512x128.size a) ∧
  (∀ (k0_h1 : k0_cond1 i = 1#1), ∀ a, (k0_off566 v1968) a + S1x16.size a ≤ S64x128.size a)
theorem k0_off550_inb : ∀ (i : grid0.Coords) (v1968 : BitVec 32) (k0_hw32 : k0_chk32 i v1968), ∀ (k0_h1 : k0_cond1 i = 1#1), ∀ a, (k0_off550 v1968) a + S1x16.size a ≤ S512x128.size a := fun i v1968 k0_hw32 k0_h1 => k0_hw32.1 k0_h1
theorem k0_off552_inb : ∀ (i : grid0.Coords) (v1968 : BitVec 32) (k0_hw32 : k0_chk32 i v1968), ∀ (k0_h1 : k0_cond1 i = 1#1), ∀ a, (k0_off552 v1968) a + S1x16.size a ≤ S512x128.size a := fun i v1968 k0_hw32 k0_h1 => k0_hw32.2.1 k0_h1
theorem k0_off554_inb : ∀ (i : grid0.Coords) (v1968 : BitVec 32) (k0_hw32 : k0_chk32 i v1968), ∀ (k0_h1 : k0_cond1 i = 1#1), ∀ a, (k0_off554 v1968) a + S1x16.size a ≤ S512x128.size a := fun i v1968 k0_hw32 k0_h1 => k0_hw32.2.2.1 k0_h1
theorem k0_off556_inb : ∀ (i : grid0.Coords) (v1968 : BitVec 32) (k0_hw32 : k0_chk32 i v1968), ∀ (k0_h1 : k0_cond1 i = 1#1), ∀ a, (k0_off556 v1968) a + S1x16.size a ≤ S512x128.size a := fun i v1968 k0_hw32 k0_h1 => k0_hw32.2.2.2.1 k0_h1
theorem k0_off558_inb : ∀ (i : grid0.Coords) (v1968 : BitVec 32) (k0_hw32 : k0_chk32 i v1968), ∀ (k0_h1 : k0_cond1 i = 1#1), ∀ a, (k0_off558 v1968) a + S1x16.size a ≤ S512x128.size a := fun i v1968 k0_hw32 k0_h1 => k0_hw32.2.2.2.2.1 k0_h1
theorem k0_off560_inb : ∀ (i : grid0.Coords) (v1968 : BitVec 32) (k0_hw32 : k0_chk32 i v1968), ∀ (k0_h1 : k0_cond1 i = 1#1), ∀ a, (k0_off560 v1968) a + S1x16.size a ≤ S512x128.size a := fun i v1968 k0_hw32 k0_h1 => k0_hw32.2.2.2.2.2.1 k0_h1
theorem k0_off562_inb : ∀ (i : grid0.Coords) (v1968 : BitVec 32) (k0_hw32 : k0_chk32 i v1968), ∀ (k0_h1 : k0_cond1 i = 1#1), ∀ a, (k0_off562 v1968) a + S1x16.size a ≤ S512x128.size a := fun i v1968 k0_hw32 k0_h1 => k0_hw32.2.2.2.2.2.2.1 k0_h1
theorem k0_off564_inb : ∀ (i : grid0.Coords) (v1968 : BitVec 32) (k0_hw32 : k0_chk32 i v1968), ∀ (k0_h1 : k0_cond1 i = 1#1), ∀ a, (k0_off564 v1968) a + S1x16.size a ≤ S512x128.size a := fun i v1968 k0_hw32 k0_h1 => k0_hw32.2.2.2.2.2.2.2.1 k0_h1
theorem k0_off566_inb : ∀ (i : grid0.Coords) (v1968 : BitVec 32) (k0_hw32 : k0_chk32 i v1968), ∀ (k0_h1 : k0_cond1 i = 1#1), ∀ a, (k0_off566 v1968) a + S1x16.size a ≤ S64x128.size a := fun i v1968 k0_hw32 k0_h1 => k0_hw32.2.2.2.2.2.2.2.2 k0_h1

def k0_off567 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r4 : BitVec 32 := 0#32
  let c0_i32_13_r4 : BitVec 32 := 0#32
  ![v1.toNat, 0, 0]
def k0_off568 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r5 : BitVec 32 := 0#32
  let c0_i32_13_r5 : BitVec 32 := 0#32
  ![v1.toNat, 0, 0]
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S10x128 : Shape := ⟨2, ![10, 128]⟩
abbrev S10 : Shape := ⟨1, ![10]⟩
abbrev S_ : Shape := ⟨0, ![]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S10x128, .f32⟩
  | .hbm, ⟨3, _⟩ => ⟨S10, .f32⟩
  | .hbm, ⟨4, _⟩ => ⟨S_, .f32⟩
  | .hbm, ⟨5, _⟩ => ⟨S512x128, .f32⟩
  | .hbm, ⟨6, _⟩ => ⟨S100000x1, .i32⟩
  | .hbm, ⟨7, _⟩ => ⟨S512x128, .f32⟩
  | .hbm, ⟨8, _⟩ => ⟨S_, .f32⟩
  | .hbm, ⟨9, _⟩ => ⟨S100000, .f32⟩
  | .hbm, ⟨10, _⟩ => ⟨S_, .f32⟩
  | .hbm, ⟨11, _⟩ => ⟨S512, .f32⟩
  | .hbm, ⟨12, _⟩ => ⟨S100000x1, .i32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512x1, .f32⟩
  | .hbm, ⟨18, _⟩ => ⟨S512x128, .f32⟩
  | .hbm, ⟨19, _⟩ => ⟨S512x128, .f32⟩
  | .hbm, ⟨20, _⟩ => ⟨S128x10, .f32⟩
  | .hbm, ⟨21, _⟩ => ⟨S512x10, .f32⟩
  | .hbm, ⟨22, _⟩ => ⟨S1x10, .f32⟩
  | .hbm, ⟨23, _⟩ => ⟨S512x10, .f32⟩
  | .hbm, ⟨24, _⟩ => ⟨S512x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Same.lean ====
/-
  The kernel and its idealization have one text: their body tables are equal, part by part.
-/
module

public import proofs.«01_k».proof.Proof.Gen.Kernel
public import proofs.«01_k».proof.Proof.Gen.KernelIdeal
@[expose] public section
noncomputable section
namespace Cert.Proof.Pool

open Idealize.ShloMosaic

variable {F : FTy → Type} [FloatOps F]

-- The tile program's body calls ninety-six parts of some sixty statements each, every one compared here.
set_option maxHeartbeats 4000000 in
theorem part97_same : @Cert.Kernel.k0_part97 F _ _ = @Cert.KernelIdeal.k0_part97 F _ _ := rfl

theorem tile_same : @Cert.Kernel.cc0__sc_body F _ _ = @Cert.KernelIdeal.cc0__sc_body F _ _ := by
  unfold Cert.Kernel.cc0__sc_body
  rw [part97_same]
  rfl

theorem bodies_same : Cert.Kernel.defs₀ (F := F) = Cert.KernelIdeal.defs₀ (F := F) := by
  funext p ℓ a
  match p, ℓ, a with
  | .tc, 0, _ => rfl
  | .tc, 1, _ => rfl
  | .scScalar _, 0, _ => rfl
  | .scScalar _, 1, _ => rfl
  | .scVector _ _, 0, _ =>
    unfold Cert.Kernel.defs₀
    dsimp only
    rw [tile_same]
    rfl
  | .scVector _ _, 1, _ => rfl

theorem defs_same : Cert.Kernel.defs (F := F) = Cert.KernelIdeal.defs (F := F) := by
  unfold Cert.Kernel.defs
  rw [bodies_same]
  rfl

end Cert.Proof.Pool
end
-- ==== Proof.Common.lean ====
/-
  The names every module of this proof shares: the program's label signature and its SparseCore configuration, the
  resource algebra (the handshakes' rounds and the transfers' counters), the kernel's memrefs, and the buffers as
  locations of a device.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ

/-! ## The task's coordinates and thread -/

abbrev cV (L : grid0.Coords) : Fin τ.nSC := (L 0).castLE hcore0
abbrev jV (L : grid0.Coords) : Fin τ.nSub := (L 1).castLE hsub0

end Cert.Proof.Pool

end
-- ==== Proof.Rows.lean ====
/-
  One row of a chunk: what the sixteen-lane updates of the two accumulators do to their contents, and the rule for each
  of the three stretches of a row's program (the check of the row's segment, one sixteen-lane update of the segment's sums,
  the update of the segment's count), each from the four scratch buffers held whole to the same buffers at the next contents.
-/
module

public import proofs.«01_k».proof.Proof.Common
public import Idealize.ShloMosaic.Lib.Pointwise.Index
public import Idealize.ShloMosaic.Lib.Pipeline.Value

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes of the SparseCore call, the staging of the TensorCore call, the counters of the local copies. -/
abbrev UP : Type := URounds (GSem nD τ sig) Unit
abbrev UU : Type := UH × (UP × Counters)

local notation "𝕄" => MT nD τ sig (HIx 1) (Elt F) ℕ UU ℕ

local notation "xB" => (Memref.whole Cert.KernelIdeal.cc0_scratch0 : Memref Cert.KernelIdeal.sig Kind.scVector Space.vmem Cert.KernelIdeal.S160x128 EltTy.f32)
local notation "bB" => (Memref.whole Cert.KernelIdeal.cc0_scratch1 : Memref Cert.KernelIdeal.sig Kind.scVector Space.vmem Cert.KernelIdeal.S160 EltTy.i32)
local notation "aB" => (Memref.whole Cert.KernelIdeal.cc0_scratch2 : Memref Cert.KernelIdeal.sig Kind.scVector Space.vmem Cert.KernelIdeal.S512x128 EltTy.f32)
local notation "cB" => (Memref.whole Cert.KernelIdeal.cc0_scratch3 : Memref Cert.KernelIdeal.sig Kind.scVector Space.vmem Cert.KernelIdeal.S64x128 EltTy.f32)

/-! ## Contents -/

abbrev Acc (F : FTy → Type) : Type := S512x128.Idx → F .f32
abbrev Cnt (F : FTy → Type) : Type := S64x128.Idx → F .f32
abbrev XBuf (F : FTy → Type) : Type := S160x128.Idx → F .f32
abbrev BBuf : Type := S160.Idx → BitVec 32

variable [FloatOps F]

/-- Segment `s`'s sums with the first `16 * q` lanes of row `r` of the chunk added. -/
def part (A : Acc F) (s : ℕ) (X : XBuf F) (r : Fin 160) (q : ℕ) : Acc F := fun i =>
  if (i 0).val = s ∧ (i 1).val < 16 * q then FloatOps.addf (A i) (X (ix2 r (i 1))) else A i

/-- Segment `s`'s sums with row `r` of the chunk added. -/
def addRow (A : Acc F) (s : ℕ) (X : XBuf F) (r : Fin 160) : Acc F := fun i =>
  if (i 0).val = s then FloatOps.addf (A i) (X (ix2 r (i 1))) else A i

/-- The number one. -/
def one : F .f32 := Scalar.ofBits .f32 0x3F800000#32

/-- Segment `s`'s sixteen count lanes with one added. -/
def addCnt (C : Cnt F) (s : ℕ) : Cnt F := fun i =>
  if (i 0).val = s / 8 ∧ 16 * (s % 8) ≤ (i 1).val ∧ (i 1).val < 16 * (s % 8) + 16 then FloatOps.addf (C i) one else C i

theorem part_zero (A : Acc F) (s : ℕ) (X : XBuf F) (r : Fin 160) : part A s X r 0 = A := by
  funext i; simp [part]

theorem part_eight (A : Acc F) (s : ℕ) (X : XBuf F) (r : Fin 160) : part A s X r 8 = addRow A s X r := by
  funext i
  have h : (i 1).val < 128 := (i 1).isLt
  simp [part, addRow, show (i 1).val < 16 * 8 from h]

/-! ## A sixteen-lane access of a whole buffer of rows -/

section Access

variable {n : ℕ} (b : Ref sig .scVector)

omit [FloatOps F] in
/-- The sixteen lanes written: row `r`, lanes from `c` on. -/
theorem write_aB {off : Fin 2 → ℕ} (inb : ∀ a, off a + S1x16.size a ≤ S512x128.size a) {r c : ℕ} (h : off = ![r, c])
    (A : Acc F) (w : S1x16.Idx → F .f32) (i : S512x128.Idx) :
    ((aB).access (Rect.unit (s := S512x128) off S1x16.size inb)).write (Elt F) A w Finset.univ i
      = if hh : (i 0).val = r ∧ c ≤ (i 1).val ∧ (i 1).val < c + 16 then w (ix2 0 ⟨(i 1).val - c, by omega⟩) else A i := by
  subst h
  refine (congrFun (View.write_whole_slice_unit (Val := Elt F) cc0_scratch2 _ S1x16.size inb A w) i).trans ?_
  unfold updateSlice
  by_cases hh : (i 0).val = r ∧ c ≤ (i 1).val ∧ (i 1).val < c + 16
  · rw [dif_pos hh, dif_pos (fun a => by
      match a with
      | 0 => show r ≤ (i 0).val ∧ (i 0).val < r + 1; omega
      | 1 => show c ≤ (i 1).val ∧ (i 1).val < c + 16; omega)]
    refine congrArg w (funext fun a => Fin.ext ?_)
    match a with
    | 0 => show (i 0).val - r = 0; omega
    | 1 => rfl
  · rw [dif_neg hh, dif_neg (fun hin => hh (by
      have h0 : r ≤ (i 0).val ∧ (i 0).val < r + 1 := hin 0
      have h1 : c ≤ (i 1).val ∧ (i 1).val < c + 16 := hin 1
      omega))]

omit [FloatOps F] in
theorem write_cB {off : Fin 2 → ℕ} (inb : ∀ a, off a + S1x16.size a ≤ S64x128.size a) {r c : ℕ} (h : off = ![r, c])
    (A : Cnt F) (w : S1x16.Idx → F .f32) (i : S64x128.Idx) :
    ((cB).access (Rect.unit (s := S64x128) off S1x16.size inb)).write (Elt F) A w Finset.univ i
      = if hh : (i 0).val = r ∧ c ≤ (i 1).val ∧ (i 1).val < c + 16 then w (ix2 0 ⟨(i 1).val - c, by omega⟩) else A i := by
  subst h
  refine (congrFun (View.write_whole_slice_unit (Val := Elt F) cc0_scratch3 _ S1x16.size inb A w) i).trans ?_
  unfold updateSlice
  by_cases hh : (i 0).val = r ∧ c ≤ (i 1).val ∧ (i 1).val < c + 16
  · rw [dif_pos hh, dif_pos (fun a => by
      match a with
      | 0 => show r ≤ (i 0).val ∧ (i 0).val < r + 1; omega
      | 1 => show c ≤ (i 1).val ∧ (i 1).val < c + 16; omega)]
    refine congrArg w (funext fun a => Fin.ext ?_)
    match a with
    | 0 => show (i 0).val - r = 0; omega
    | 1 => rfl
  · rw [dif_neg hh, dif_neg (fun hin => hh (by
      have h0 : r ≤ (i 0).val ∧ (i 0).val < r + 1 := hin 0
      have h1 : c ≤ (i 1).val ∧ (i 1).val < c + 16 := hin 1
      omega))]

end Access

/-- The lanes `v` with the lanes `v'` added, as the program spells it. -/
def sum16 (v v' : S1x16.Idx → F .f32) : S1x16.Idx → F .f32 :=
  shapeCast S1x16 (addf (shapeCast S16 v shapeCasts_S1x16_S16 : FVec F S16 .f32) (shapeCast S16 v' shapeCasts_S1x16_S16)) shapeCasts_S16_S1x16

theorem shapeCast_back {α : Type} (v : S1x16.Idx → α) (y : S1x16.Idx) :
    shapeCast S16 v shapeCasts_S1x16_S16 (Shape.reshapeEquiv shapeCasts_S16_S1x16 y) = v y := by
  show v (Shape.reshapeEquiv _ (Shape.reshapeEquiv _ y)) = v y
  rw [Shape.reshapeEquiv_reshapeEquiv, Shape.reshapeEquiv_self]

theorem sum16_apply (v v' : S1x16.Idx → F .f32) (y : S1x16.Idx) : sum16 v v' y = FloatOps.addf (v y) (v' y) := by
  show FloatOps.addf (shapeCast S16 v _ (Shape.reshapeEquiv _ y)) (shapeCast S16 v' _ (Shape.reshapeEquiv _ y)) = _
  rw [shapeCast_back, shapeCast_back]

/-- One sixteen-lane update of segment `s`'s sums. -/
theorem write_part {off off' : Fin 2 → ℕ} (inb : ∀ a, off a + S1x16.size a ≤ S512x128.size a)
    (inb' : ∀ a, off' a + S1x16.size a ≤ S160x128.size a) {s q : ℕ} {r : Fin 160}
    (h : off = ![s, 16 * q]) (h' : off' = ![r.val, 16 * q]) (A : Acc F) (X : XBuf F) :
    ((aB).access (Rect.unit (s := S512x128) off S1x16.size inb)).write (Elt F) (part A s X r q)
        (sum16 ((aB).view.readAt (Elt F) (Rect.unit (s := S512x128) off S1x16.size inb).toLoadRect (part A s X r q))
          ((xB).view.readAt (Elt F) (Rect.unit (s := S160x128) off' S1x16.size inb').toLoadRect X)) Finset.univ
      = part A s X r (q + 1) := by
  funext i
  rw [write_aB inb h]
  subst h h'
  by_cases hh : (i 0).val = s ∧ 16 * q ≤ (i 1).val ∧ (i 1).val < 16 * q + 16
  · rw [dif_pos hh, sum16_apply]
    have e1 : (aB).view.readAt (Elt F) (Rect.unit (s := S512x128) ![s, 16 * q] S1x16.size inb).toLoadRect (part A s X r q)
        (ix2 0 ⟨(i 1).val - 16 * q, by omega⟩) = A i := by
      show part A s X r q ((Rect.unit (s := S512x128) ![s, 16 * q] S1x16.size inb).toLoadRect.idx _) = A i
      have : (Rect.unit (s := S512x128) ![s, 16 * q] S1x16.size inb).toLoadRect.idx (ix2 0 ⟨(i 1).val - 16 * q, by omega⟩) = i := by
        funext a
        match a with
        | 0 => exact Fin.ext (show s + 1 * 0 = (i 0).val by omega)
        | 1 => exact Fin.ext (show 16 * q + 1 * ((i 1).val - 16 * q) = (i 1).val by omega)
      rw [this]
      unfold part
      rw [if_neg (by omega)]
    have e2 : (xB).view.readAt (Elt F) (Rect.unit (s := S160x128) ![r.val, 16 * q] S1x16.size inb').toLoadRect X
        (ix2 0 ⟨(i 1).val - 16 * q, by omega⟩) = X (ix2 r (i 1)) := by
      show X ((Rect.unit (s := S160x128) ![r.val, 16 * q] S1x16.size inb').toLoadRect.idx _) = _
      refine congrArg X (funext fun a => ?_)
      match a with
      | 0 => exact Fin.ext (show r.val + 1 * 0 = r.val by omega)
      | 1 => exact Fin.ext (show 16 * q + 1 * ((i 1).val - 16 * q) = (i 1).val by omega)
    refine (congrArg₂ FloatOps.addf e1 e2).trans ?_
    unfold part
    rw [if_pos (by omega)]
  · rw [dif_neg hh]
    unfold part
    by_cases hc : (i 0).val = s ∧ (i 1).val < 16 * q
    · rw [if_pos hc, if_pos (by omega)]
    · rw [if_neg hc, if_neg (by omega)]

/-- The lanes `v` with one added to each, as the program spells it. -/
def inc16 (v : S1x16.Idx → F .f32) : S1x16.Idx → F .f32 :=
  shapeCast S1x16 (addf (shapeCast S16 v shapeCasts_S1x16_S16 : FVec F S16 .f32) (broadcast S16 one)) shapeCasts_S16_S1x16

theorem inc16_apply (v : S1x16.Idx → F .f32) (y : S1x16.Idx) : inc16 v y = FloatOps.addf (v y) one := by
  show FloatOps.addf (shapeCast S16 v _ (Shape.reshapeEquiv _ y)) one = _
  rw [shapeCast_back]

/-- The update of segment `s`'s count. -/
theorem write_addCnt {off : Fin 2 → ℕ} (inb : ∀ a, off a + S1x16.size a ≤ S64x128.size a) {s : ℕ}
    (h : off = ![s / 8, 16 * (s % 8)]) (C : Cnt F) :
    ((cB).access (Rect.unit (s := S64x128) off S1x16.size inb)).write (Elt F) C
        (inc16 ((cB).view.readAt (Elt F) (Rect.unit (s := S64x128) off S1x16.size inb).toLoadRect C)) Finset.univ
      = addCnt C s := by
  funext i
  rw [write_cB inb h]
  subst h
  unfold addCnt
  by_cases hh : (i 0).val = s / 8 ∧ 16 * (s % 8) ≤ (i 1).val ∧ (i 1).val < 16 * (s % 8) + 16
  · rw [dif_pos hh, if_pos hh, inc16_apply]
    refine congrArg (FloatOps.addf · one) ?_
    show C ((Rect.unit (s := S64x128) ![s / 8, 16 * (s % 8)] S1x16.size inb).toLoadRect.idx _) = C i
    refine congrArg C (funext fun a => ?_)
    match a with
    | 0 => exact Fin.ext (show s / 8 + 1 * 0 = (i 0).val by omega)
    | 1 => exact Fin.ext (show 16 * (s % 8) + 1 * ((i 1).val - 16 * (s % 8)) = (i 1).val by omega)
  · rw [dif_neg hh, if_neg hh]

/-! ## The rules -/

section Rules

variable (d : Dev nD) (L : grid0.Coords)

local notation "thr" => (V d (cV L) (jV L) : Thread nD τ)

/-- The tile's four scratch buffers, whole. -/
def St (A : Acc F) (C : Cnt F) (X : XBuf F) (B : BBuf) : sProp 𝕄 :=
  iprop(((aB).view.loc thr ↦{fullShare} A) ∗ ((cB).view.loc thr ↦{fullShare} C)
    ∗ ((xB).view.loc thr ↦{fullShare} X) ∗ ((bB).view.loc thr ↦{fullShare} B))

abbrev TP (α : Type) : Type 1 := Prog (TpuEff nD τ sig (Elt F) Λ₀ (.scVector (cV L) (jV L))) α
abbrev WP {α : Type} (p : TP (F := F) L α) (Q : α → sProp 𝕄) : sProp 𝕄 :=
  wp frame (wpE (defs₀ (F := F)) 𝒱₀ thr none) Set.univ p Q

variable {A : Acc F} {C : Cnt F} {X : XBuf F} {B : BBuf}

theorem ld_a {α : Type} {Q : α → sProp 𝕄} {r : LoadRect S512x128} {hl : (aB).view.LoadsAt r} {k : (r.shape.Idx → F .f32) → TP (F := F) L α}
    (h : St d L A C X B ⊢ WP d L (k ((aB).view.readAt (Elt F) r A)) Q) :
    St d L A C X B ⊢ WP d L (.op (.load aB r hl) k) Q := by
  unfold St at h ⊢
  iintro ⟨HA, HR⟩
  iapply (wp_load (defs := defs₀ (F := F)) 𝒱₀ thr none Set.univ (m := aB) (S := Finset.univ) (f := A) (q := fullShare) (Finset.subset_univ _)) $$ [HA]
  · iexact HA
  iintro HA
  iapply h
  isplitl [HA]; · iexact HA
  iexact HR

theorem ld_x {α : Type} {Q : α → sProp 𝕄} {r : LoadRect S160x128} {hl : (xB).view.LoadsAt r} {k : (r.shape.Idx → F .f32) → TP (F := F) L α}
    (h : St d L A C X B ⊢ WP d L (k ((xB).view.readAt (Elt F) r X)) Q) :
    St d L A C X B ⊢ WP d L (.op (.load xB r hl) k) Q := by
  unfold St at h ⊢
  iintro ⟨HA, HC, HX, HB⟩
  iapply (wp_load (defs := defs₀ (F := F)) 𝒱₀ thr none Set.univ (m := xB) (S := Finset.univ) (f := X) (q := fullShare) (Finset.subset_univ _)) $$ [HX]
  · iexact HX
  iintro HX
  iapply h
  isplitl [HA]; · iexact HA
  isplitl [HC]; · iexact HC
  isplitl [HX]; · iexact HX
  iexact HB

theorem ld_b {α : Type} {Q : α → sProp 𝕄} {r : LoadRect S160} {hl : (bB).view.LoadsAt r} {k : (r.shape.Idx → BitVec 32) → TP (F := F) L α}
    (h : St d L A C X B ⊢ WP d L (k ((bB).view.readAt (Elt F) r B)) Q) :
    St d L A C X B ⊢ WP d L (.op (.load bB r hl) k) Q := by
  unfold St at h ⊢
  iintro ⟨HA, HC, HX, HB⟩
  iapply (wp_load (defs := defs₀ (F := F)) 𝒱₀ thr none Set.univ (m := bB) (S := Finset.univ) (f := B) (q := fullShare) (Finset.subset_univ _)) $$ [HB]
  · iexact HB
  iintro HB
  iapply h
  isplitl [HA]; · iexact HA
  isplitl [HC]; · iexact HC
  isplitl [HX]; · iexact HX
  iexact HB

theorem ld_c {α : Type} {Q : α → sProp 𝕄} {r : LoadRect S64x128} {hl : (cB).view.LoadsAt r} {k : (r.shape.Idx → F .f32) → TP (F := F) L α}
    (h : St d L A C X B ⊢ WP d L (k ((cB).view.readAt (Elt F) r C)) Q) :
    St d L A C X B ⊢ WP d L (.op (.load cB r hl) k) Q := by
  unfold St at h ⊢
  iintro ⟨HA, HC, HR⟩
  iapply (wp_load (defs := defs₀ (F := F)) 𝒱₀ thr none Set.univ (m := cB) (S := Finset.univ) (f := C) (q := fullShare) (Finset.subset_univ _)) $$ [HC]
  · iexact HC
  iintro HC
  iapply h
  isplitl [HA]; · iexact HA
  isplitl [HC]; · iexact HC
  iexact HR

theorem st_a {α : Type} {Q : α → sProp 𝕄} {r : Rect S512x128} {w : r.shape.Idx → F .f32} {hx hm} {k : PUnit → TP (F := F) L α}
    (h : St d L (((aB).access r).write (Elt F) A w Finset.univ) C X B ⊢ WP d L (k ⟨⟩) Q) :
    St d L A C X B ⊢ WP d L (.op (.store aB r w Finset.univ hx hm) k) Q := by
  unfold St at h ⊢
  iintro ⟨HA, HR⟩
  iapply (wp_store (defs := defs₀ (F := F)) 𝒱₀ thr none Set.univ (m := aB) (r := r) (w := w) (S := Finset.univ) (f := A) (Finset.subset_univ _)) $$ [HA]
  · iexact HA
  iintro HA
  iapply h
  isplitl [HA]; · iexact HA
  iexact HR

theorem st_c {α : Type} {Q : α → sProp 𝕄} {r : Rect S64x128} {w : r.shape.Idx → F .f32} {hx hm} {k : PUnit → TP (F := F) L α}
    (h : St d L A (((cB).access r).write (Elt F) C w Finset.univ) X B ⊢ WP d L (k ⟨⟩) Q) :
    St d L A C X B ⊢ WP d L (.op (.store cB r w Finset.univ hx hm) k) Q := by
  unfold St at h ⊢
  iintro ⟨HA, HC, HR⟩
  iapply (wp_store (defs := defs₀ (F := F)) 𝒱₀ thr none Set.univ (m := cB) (r := r) (w := w) (S := Finset.univ) (f := C) (Finset.subset_univ _)) $$ [HC]
  · iexact HC
  iintro HC
  iapply h
  isplitl [HA]; · iexact HA
  isplitl [HC]; · iexact HC
  iexact HR

theorem asm {α : Type} {Q : α → sProp 𝕄} {P : Prop} {dp : Decidable P} {k : PLift P → TP (F := F) L α} (hP : P)
    (h : St d L A C X B ⊢ WP d L (k ⟨hP⟩) Q) : St d L A C X B ⊢ WP d L (.op (.assume P dp) k) Q :=
  h.trans (wp_assume 𝒱₀ thr none Set.univ hP)

/-- One sixteen-lane update: the segment's lanes are loaded, the row's lanes are loaded, the segment's are loaded once
    more and the sum is stored. -/
theorem rmw {α : Type} {Q : α → sProp 𝕄} {s q : ℕ} {r : Fin 160} {off off' : Fin 2 → ℕ} {inb : ∀ a, off a + S1x16.size a ≤ S512x128.size a}
    {inb' : ∀ a, off' a + S1x16.size a ≤ S160x128.size a} {hl hl' hl'' hx hm} {k : PUnit → TP (F := F) L α}
    (h : off = ![s, 16 * q]) (h' : off' = ![r.val, 16 * q])
    (hk : St d L (part A s X r (q + 1)) C X B ⊢ WP d L (k ⟨⟩) Q) :
    St d L (part A s X r q) C X B ⊢ WP d L
      (.op (.load aB (Rect.unit (s := S512x128) off S1x16.size inb).toLoadRect hl) fun (v : S1x16.Idx → F .f32) =>
        .op (.load xB (Rect.unit (s := S160x128) off' S1x16.size inb').toLoadRect hl') fun (v' : S1x16.Idx → F .f32) =>
        .op (.load aB (Rect.unit (s := S512x128) off S1x16.size inb).toLoadRect hl'') fun _ =>
        .op (.store aB (Rect.unit (s := S512x128) off S1x16.size inb) (sum16 v v') Finset.univ hx hm) k) Q := by
  refine ld_a d L (ld_x d L (ld_a d L (st_a d L ?_)))
  rw [write_part inb inb' h h' A X]
  exact hk

/-- The update of the segment's count. -/
theorem cntStep {α : Type} {Q : α → sProp 𝕄} {s : ℕ} {off : Fin 2 → ℕ} {inb : ∀ a, off a + S1x16.size a ≤ S64x128.size a} {hl hl' hx hm}
    {k : PUnit → TP (F := F) L α} (h : off = ![s / 8, 16 * (s % 8)])
    (hk : St d L A (addCnt C s) X B ⊢ WP d L (k ⟨⟩) Q) :
    St d L A C X B ⊢ WP d L
      (.op (.load cB (Rect.unit (s := S64x128) off S1x16.size inb).toLoadRect hl) fun (v : S1x16.Idx → F .f32) =>
        .op (.load cB (Rect.unit (s := S64x128) off S1x16.size inb).toLoadRect hl') fun _ =>
        .op (.store cB (Rect.unit (s := S64x128) off S1x16.size inb) (inc16 v) Finset.univ hx hm) k) Q := by
  refine ld_c d L (ld_c d L (st_c d L ?_))
  rw [write_addCnt inb h C]
  exact hk

end Rules

end Cert.Proof.Pool

end
-- ==== Proof.Group.lean ====
/-
  One group of sixteen rows: the body of the chunk loop's inner loop and of the last chunk's, each from the scratch buffers
  at the contents after the rows before it to those after its own sixteen.
-/
module

public import proofs.«01_k».proof.Proof.Rows
@[expose] public section
noncomputable section
namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "xV" => (Memref.whole Cert.KernelIdeal.main_arg0_scv : Memref Cert.KernelIdeal.sig Kind.scVector Space.hbm Cert.KernelIdeal.S100000x128 EltTy.f32)
local notation "bV" => (Memref.whole Cert.KernelIdeal.main_arg1_scv : Memref Cert.KernelIdeal.sig Kind.scVector Space.hbm Cert.KernelIdeal.S100000 EltTy.i32)
local notation "sV" => (Memref.whole Cert.KernelIdeal.main_v0_0_scv : Memref Cert.KernelIdeal.sig Kind.scVector Space.hbm Cert.KernelIdeal.S32x512x128 EltTy.f32)
local notation "nV" => (Memref.whole Cert.KernelIdeal.main_v0_1_scv : Memref Cert.KernelIdeal.sig Kind.scVector Space.hbm Cert.KernelIdeal.S32x64x128 EltTy.f32)
local notation "xB" => (Memref.whole Cert.KernelIdeal.cc0_scratch0 : Memref Cert.KernelIdeal.sig Kind.scVector Space.vmem Cert.KernelIdeal.S160x128 EltTy.f32)
local notation "bB" => (Memref.whole Cert.KernelIdeal.cc0_scratch1 : Memref Cert.KernelIdeal.sig Kind.scVector Space.vmem Cert.KernelIdeal.S160 EltTy.i32)
local notation "aB" => (Memref.whole Cert.KernelIdeal.cc0_scratch2 : Memref Cert.KernelIdeal.sig Kind.scVector Space.vmem Cert.KernelIdeal.S512x128 EltTy.f32)
local notation "cB" => (Memref.whole Cert.KernelIdeal.cc0_scratch3 : Memref Cert.KernelIdeal.sig Kind.scVector Space.vmem Cert.KernelIdeal.S64x128 EltTy.f32)

/-! ## The accumulators after the first rows of a chunk -/

/-- Row `n` of a chunk. -/
def rowIx (n : ℕ) : Fin 160 := ⟨n % 160, Nat.mod_lt _ (by decide)⟩
/-- The segment row `n` of a chunk belongs to. -/
def seg (B : BBuf) (n : ℕ) : ℕ := (B (ix1 (rowIx n))).toNat

/-- The segments' sums with the first `n` rows of the chunk added, in their order. -/
def accN (A : Acc F) (X : XBuf F) (B : BBuf) : ℕ → Acc F
  | 0 => A
  | n + 1 => addRow (accN A X B n) (seg B n) X (rowIx n)

/-- The segments' counts with the first `n` rows of the chunk counted. -/
def cntN (C : Cnt F) (B : BBuf) : ℕ → Cnt F
  | 0 => C
  | n + 1 => addCnt (cntN C B n) (seg B n)

/-! ## The word a row's segment is read at -/

theorem iv_toNat (k : ℕ) (hk : k < 10) : (Scf.iv 0#32 1#32 k).toNat = k := by
  interval_cases k <;> rfl

theorem rowWord (k j : ℕ) (hk : k < 10) (hj : j < 16) :
    (Scalar.indexCast (Scalar.addi (Scalar.muli (Scf.iv 0#32 1#32 k) 16#32) (BitVec.ofNat 32 j)) : Index).toNat = 16 * k + j := by
  show ((Scf.iv 0#32 1#32 k) * 16#32 + BitVec.ofNat 32 j).toNat = _
  rw [BitVec.toNat_add, BitVec.toNat_mul, iv_toNat k hk, BitVec.toNat_ofNat, BitVec.toNat_ofNat]
  omega

theorem rowOff (k j c : ℕ) (hk : k < 10) (hj : j < 16) :
    (![(Scalar.indexCast (Scalar.addi (Scalar.muli (Scf.iv 0#32 1#32 k) 16#32) (BitVec.ofNat 32 j)) : Index).toNat, c] : Fin 2 → ℕ)
      = ![(rowIx (16 * k + j)).val, c] := by
  rw [rowWord k j hk hj]
  show _ = ![(16 * k + j) % 160, c]
  rw [Nat.mod_eq_of_lt (by omega)]

/-- The group's sixteen words of the chunk's segments. -/
abbrev words (B : BBuf) (o : Fin 1 → ℕ) (inb : ∀ a, o a + S16.size a ≤ S160.size a) : IVec S16 32 :=
  shapeCast S16 ((bB).view.readAt (Elt F) (Rect.unit (s := S160) o S16.size inb).toLoadRect B) shapeCasts_S16_S16

abbrev word (B : BBuf) (o : Fin 1 → ℕ) (inb : ∀ a, o a + S16.size a ≤ S160.size a) (j : ℕ) (hs : S16.Slices ![j] S1) : BitVec 32 :=
  extractAt ![0] (extractStridedSlice S1 ![j] (words (F := F) B o inb) hs) inpos_S1_p0

omit [FloatOps F] in
theorem word_eq (B : BBuf) {o : Fin 1 → ℕ} (inb : ∀ a, o a + S16.size a ≤ S160.size a) (j : ℕ) (hs : S16.Slices ![j] S1)
    {k : ℕ} (hk : k < 10) (ho : o = ![16 * k]) : word (F := F) B o inb j hs = B (ix1 (rowIx (16 * k + j))) := by
  subst ho
  have hj : j < 16 := hs.2 0
  unfold word words extractAt extractStridedSlice shapeCast
  rw [Shape.reshapeEquiv_self]
  show B ((Rect.unit (s := S160) ![16 * k] S16.size inb).toLoadRect.idx _) = _
  refine congrArg B (funext fun a => ?_)
  match a with
  | 0 =>
    refine Fin.ext ?_
    show 16 * k + 1 * (j + 0) = (16 * k + j) % 160
    rw [Nat.mod_eq_of_lt (by omega)]; omega

theorem wordOff {B : BBuf} {o : Fin 1 → ℕ} {inb : ∀ a, o a + S16.size a ≤ S160.size a} {j c : ℕ} {hs : S16.Slices ![j] S1}
    {k : ℕ} (hk : k < 10) (ho : o = ![16 * k]) :
    (![(Scalar.indexCast (word (F := F) B o inb j hs) : Index).toNat, c] : Fin 2 → ℕ) = ![seg B (16 * k + j), c] := by
  rw [word_eq B inb j hs hk ho]; rfl

theorem cntOff₀ : ∀ s : Fin 512, k0_off36 (BitVec.ofNat 32 s.val) = ![s.val / 8, 16 * (s.val % 8)] := by
  decide +kernel

theorem cntOff₁ (w : BitVec 32) (h : w.toNat < 512) : k0_off36 w = ![w.toNat / 8, 16 * (w.toNat % 8)] := by
  have := cntOff₀ ⟨w.toNat, h⟩
  rwa [show BitVec.ofNat 32 (⟨w.toNat, h⟩ : Fin 512).val = w from by simp] at this

/-- Every word of the chunk names a segment. -/
def Okay (B : BBuf) : Prop := ∀ r : S160.Idx, (B r).toNat < 512

theorem word_lt {B : BBuf} {o : Fin 1 → ℕ} {inb : ∀ a, o a + S16.size a ≤ S160.size a} {j : ℕ} {hs : S16.Slices ![j] S1}
    (hB : Okay B) {k : ℕ} (hk : k < 10) (ho : o = ![16 * k]) : (word (F := F) B o inb j hs).toNat < 512 := by
  rw [word_eq B inb j hs hk ho]; exact hB _

theorem cntOff {B : BBuf} {o : Fin 1 → ℕ} {inb : ∀ a, o a + S16.size a ≤ S160.size a} {j : ℕ} {hs : S16.Slices ![j] S1}
    (hB : Okay B) {k : ℕ} (hk : k < 10) (ho : o = ![16 * k]) :
    k0_off36 (word (F := F) B o inb j hs) = ![seg B (16 * k + j) / 8, 16 * (seg B (16 * k + j) % 8)] := by
  rw [cntOff₁ _ (word_lt hB hk ho), word_eq B inb j hs hk ho]; rfl

/-! ## The check of a row's segment -/

theorem inb_seg {s c : ℕ} (hs : s < 512) (hc : c + 16 ≤ 128) : ∀ a, (![s, c] : Fin 2 → ℕ) a + S1x16.size a ≤ S512x128.size a := by
  intro a
  match a with
  | 0 => show s + 1 ≤ 512; omega
  | 1 => show c + 16 ≤ 128; exact hc

theorem inb_cnt (w : BitVec 32) (h : w.toNat < 512) : ∀ a, (k0_off36 w) a + S1x16.size a ≤ S64x128.size a := by
  rw [cntOff₁ w h]
  intro a
  match a with
  | 0 => show w.toNat / 8 + 1 ≤ 64; omega
  | 1 => show 16 * (w.toNat % 8) + 16 ≤ 128; omega

theorem chk4 (w : BitVec 32) (h : w.toNat < 512) : k0_chk1 w :=
  ⟨inb_seg h (by decide), inb_seg h (by decide), inb_seg h (by decide), inb_seg h (by decide), inb_seg h (by decide),
    inb_seg h (by decide), inb_seg h (by decide), inb_seg h (by decide), inb_cnt w h⟩

theorem chk5 (i : grid0.Coords) (w : BitVec 32) (h : w.toNat < 512) : k0_chk17 i w :=
  ⟨fun _ => inb_seg h (by decide), fun _ => inb_seg h (by decide), fun _ => inb_seg h (by decide), fun _ => inb_seg h (by decide),
    fun _ => inb_seg h (by decide), fun _ => inb_seg h (by decide), fun _ => inb_seg h (by decide), fun _ => inb_seg h (by decide),
    fun _ => inb_cnt w h⟩

/-! ## A row's first and last stretch -/

section Rules

variable (d : Dev nD) (L : grid0.Coords) {A : Acc F} {C : Cnt F} {X : XBuf F} {B : BBuf}

theorem rowBegin {α : Type} {Q : α → sProp (MT nD τ sig (HIx 1) (Elt F) ℕ UU ℕ)} {P : Prop} {dp : Decidable P} {k : PLift P → TP (F := F) L α} {n : ℕ} (hP : P)
    (h : St d L (part (accN A X B n) (seg B n) X (rowIx n) 0) (cntN C B n) X B ⊢ WP d L (k ⟨hP⟩) Q) :
    St d L (accN A X B n) (cntN C B n) X B ⊢ WP d L (.op (.assume P dp) k) Q :=
  asm d L hP (by rwa [part_zero] at h)

theorem rowEnd {α : Type} {Q : α → sProp (MT nD τ sig (HIx 1) (Elt F) ℕ UU ℕ)} {n : ℕ} {off : Fin 2 → ℕ} {inb : ∀ a, off a + S1x16.size a ≤ S64x128.size a} {hl hl' hx hm}
    {k : PUnit → TP (F := F) L α} (h : off = ![seg B n / 8, 16 * (seg B n % 8)])
    (hk : St d L (accN A X B (n + 1)) (cntN C B (n + 1)) X B ⊢ WP d L (k ⟨⟩) Q) :
    St d L (part (accN A X B n) (seg B n) X (rowIx n) 8) (cntN C B n) X B ⊢ WP d L
      (.op (.load cB (Rect.unit (s := S64x128) off S1x16.size inb).toLoadRect hl) fun (v : S1x16.Idx → F .f32) =>
        .op (.load cB (Rect.unit (s := S64x128) off S1x16.size inb).toLoadRect hl') fun _ =>
        .op (.store cB (Rect.unit (s := S64x128) off S1x16.size inb) (inc16 v) Finset.univ hx hm) k) Q :=
  cntStep d L h (by rw [part_eight]; exact hk)

theorem groupOff4 (k : Fin k0_t4_loop.trips) (hk : k.val < 10) : k0_off19 k = ![16 * k.val] := by
  show ![((Scf.iv 0#32 1#32 k.val) * 16#32).toNat] = _
  rw [BitVec.toNat_mul, iv_toNat _ hk, BitVec.toNat_ofNat]
  congr 1; omega

theorem groupOff5 (k : Fin k0_t5_loop.trips) (hk : k.val < 10) : k0_off294 k = ![16 * k.val] := by
  show ![((Scf.iv 0#32 1#32 k.val) * 16#32).toNat] = _
  rw [BitVec.toNat_mul, iv_toNat _ hk, BitVec.toNat_ofNat]
  congr 1; omega

/-- One group of a chunk. -/
theorem group4 (hB : Okay B) (k : Fin k0_t4_loop.trips) (hk : k.val < 10) :
    St d L (accN A X B (16 * k.val)) (cntN C B (16 * k.val)) X B ⊢ WP d L
      (k0_t4_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5 k ())
      (fun _ => St d L (accN A X B (16 * (k.val + 1))) (cntN C B (16 * (k.val + 1))) X B) := by
  have ho := groupOff4 k hk
  refine ld_b d L ?_
  iterate 16
    refine rowBegin d L (chk4 _ (word_lt hB hk ho)) ?_
    iterate 8
      refine rmw d L ?_ ?_ ?_
      · exact wordOff hk ho
      · exact rowOff k.val _ _ hk (by decide)
    refine rowEnd d L (cntOff hB hk ho) ?_
  exact le_wp_ret Idealize.ShloMosaic.frame _ Set.univ () (fun _ => St d L (accN A X B (16 * (k.val + 1))) (cntN C B (16 * (k.val + 1))) X B)

/-- One group of the last chunk. -/
theorem group5 (hB : Okay B) (h1 : k0_cond1 L = 1#1) (k : Fin k0_t5_loop.trips) (hk : k.val < 10) :
    St d L (accN A X B (16 * k.val)) (cntN C B (16 * k.val)) X B ⊢ WP d L
      (k0_t5_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5 h1 k ())
      (fun _ => St d L (accN A X B (16 * (k.val + 1))) (cntN C B (16 * (k.val + 1))) X B) := by
  have ho := groupOff5 k hk
  refine ld_b d L ?_
  iterate 16
    refine rowBegin d L (chk5 L _ (word_lt hB hk ho)) ?_
    iterate 8
      refine rmw d L ?_ ?_ ?_
      · exact wordOff hk ho
      · exact rowOff k.val _ _ hk (by decide)
    refine rowEnd d L (cntOff hB hk ho) ?_
  exact le_wp_ret Idealize.ShloMosaic.frame _ Set.univ () (fun _ => St d L (accN A X B (16 * (k.val + 1))) (cntN C B (16 * (k.val + 1))) X B)

end Rules

end Cert.Proof.Pool

end
-- ==== Proof.Loops.lean ====
/-
  The kernel's loops over the scratch buffers: the two that clear the accumulators, and the loop over a chunk's ten groups of
  sixteen rows.
-/
module

public import proofs.«01_k».proof.Proof.Group
@[expose] public section
noncomputable section
namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "xV" => (Memref.whole Cert.KernelIdeal.main_arg0_scv : Memref Cert.KernelIdeal.sig Kind.scVector Space.hbm Cert.KernelIdeal.S100000x128 EltTy.f32)
local notation "bV" => (Memref.whole Cert.KernelIdeal.main_arg1_scv : Memref Cert.KernelIdeal.sig Kind.scVector Space.hbm Cert.KernelIdeal.S100000 EltTy.i32)
local notation "sV" => (Memref.whole Cert.KernelIdeal.main_v0_0_scv : Memref Cert.KernelIdeal.sig Kind.scVector Space.hbm Cert.KernelIdeal.S32x512x128 EltTy.f32)
local notation "nV" => (Memref.whole Cert.KernelIdeal.main_v0_1_scv : Memref Cert.KernelIdeal.sig Kind.scVector Space.hbm Cert.KernelIdeal.S32x64x128 EltTy.f32)
local notation "xB" => (Memref.whole Cert.KernelIdeal.cc0_scratch0 : Memref Cert.KernelIdeal.sig Kind.scVector Space.vmem Cert.KernelIdeal.S160x128 EltTy.f32)
local notation "bB" => (Memref.whole Cert.KernelIdeal.cc0_scratch1 : Memref Cert.KernelIdeal.sig Kind.scVector Space.vmem Cert.KernelIdeal.S160 EltTy.i32)
local notation "aB" => (Memref.whole Cert.KernelIdeal.cc0_scratch2 : Memref Cert.KernelIdeal.sig Kind.scVector Space.vmem Cert.KernelIdeal.S512x128 EltTy.f32)
local notation "cB" => (Memref.whole Cert.KernelIdeal.cc0_scratch3 : Memref Cert.KernelIdeal.sig Kind.scVector Space.vmem Cert.KernelIdeal.S64x128 EltTy.f32)

/-! ## The trip counts -/

theorem trips1 : k0_t1_loop.trips = 512 := by decide
theorem trips2 : k0_t2_loop.trips = 64 := by decide
theorem trips3 : k0_t3_loop.trips = 19 := by decide
theorem trips4 : k0_t4_loop.trips = 10 := by decide
theorem trips5 : k0_t5_loop.trips = 10 := by decide

/-! ## Clearing an accumulator -/

/-- The number zero. -/
def zero : F .f32 := Scalar.ofBits .f32 0x00000000#32

/-- The sums with the first `n` rows cleared and the first `16 * q` lanes of the next. -/
def clrA (A : Acc F) (n q : ℕ) : Acc F := fun i =>
  if (i 0).val < n ∨ (i 0).val = n ∧ (i 1).val < 16 * q then zero else A i
def clrC (A : Cnt F) (n q : ℕ) : Cnt F := fun i =>
  if (i 0).val < n ∨ (i 0).val = n ∧ (i 1).val < 16 * q then zero else A i

theorem clrA_zero (A : Acc F) : clrA A 0 0 = A := by funext i; simp [clrA]
theorem clrC_zero (A : Cnt F) : clrC A 0 0 = A := by funext i; simp [clrC]
theorem clrA_row (A : Acc F) (n : ℕ) : clrA A n 8 = clrA A (n + 1) 0 := by
  funext i
  have h : (i 1).val < 128 := (i 1).isLt
  unfold clrA; exact if_congr (by omega) rfl rfl
theorem clrC_row (A : Cnt F) (n : ℕ) : clrC A n 8 = clrC A (n + 1) 0 := by
  funext i
  have h : (i 1).val < 128 := (i 1).isLt
  unfold clrC; exact if_congr (by omega) rfl rfl
theorem clrA_all (A : Acc F) : clrA A 512 0 = fun _ => zero := by
  funext i; exact if_pos (.inl (i 0).isLt)
theorem clrC_all (A : Cnt F) : clrC A 64 0 = fun _ => zero := by
  funext i; exact if_pos (.inl (i 0).isLt)

section Rules

variable (d : Dev nD) (L : grid0.Coords) {A : Acc F} {C : Cnt F} {X : XBuf F} {B : BBuf}

theorem clearA {α : Type} {Q : α → sProp (MT nD τ sig (HIx 1) (Elt F) ℕ UU ℕ)} {n q : ℕ} {off : Fin 2 → ℕ}
    {inb : ∀ a, off a + S1x16.size a ≤ S512x128.size a} {w : S1x16.Idx → F .f32} {hl hx hm} {k : PUnit → TP (F := F) L α}
    (h : off = ![n, 16 * q]) (hw : ∀ y, w y = zero) (hk : St d L (clrA A n (q + 1)) C X B ⊢ WP d L (k ⟨⟩) Q) :
    St d L (clrA A n q) C X B ⊢ WP d L
      (.op (.load aB (Rect.unit (s := S512x128) off S1x16.size inb).toLoadRect hl) fun _ =>
        .op (.store aB (Rect.unit (s := S512x128) off S1x16.size inb) w Finset.univ hx hm) k) Q := by
  refine ld_a d L (st_a d L ?_)
  rw [show ((aB).access (Rect.unit (s := S512x128) off S1x16.size inb)).write (Elt F) (clrA A n q) w Finset.univ = clrA A n (q + 1) from ?_]
  · exact hk
  funext i
  rw [write_aB inb h]
  by_cases hh : (i 0).val = n ∧ 16 * q ≤ (i 1).val ∧ (i 1).val < 16 * q + 16
  · rw [dif_pos hh, hw]; exact (if_pos (by omega)).symm
  · rw [dif_neg hh]; unfold clrA; exact if_congr (by omega) rfl rfl

theorem clearC {α : Type} {Q : α → sProp (MT nD τ sig (HIx 1) (Elt F) ℕ UU ℕ)} {n q : ℕ} {off : Fin 2 → ℕ}
    {inb : ∀ a, off a + S1x16.size a ≤ S64x128.size a} {w : S1x16.Idx → F .f32} {hl hx hm} {k : PUnit → TP (F := F) L α}
    (h : off = ![n, 16 * q]) (hw : ∀ y, w y = zero) (hk : St d L A (clrC C n (q + 1)) X B ⊢ WP d L (k ⟨⟩) Q) :
    St d L A (clrC C n q) X B ⊢ WP d L
      (.op (.load cB (Rect.unit (s := S64x128) off S1x16.size inb).toLoadRect hl) fun _ =>
        .op (.store cB (Rect.unit (s := S64x128) off S1x16.size inb) w Finset.univ hx hm) k) Q := by
  refine ld_c d L (st_c d L ?_)
  rw [show ((cB).access (Rect.unit (s := S64x128) off S1x16.size inb)).write (Elt F) (clrC C n q) w Finset.univ = clrC C n (q + 1) from ?_]
  · exact hk
  funext i
  rw [write_cB inb h]
  by_cases hh : (i 0).val = n ∧ 16 * q ≤ (i 1).val ∧ (i 1).val < 16 * q + 16
  · rw [dif_pos hh, hw]; exact (if_pos (by omega)).symm
  · rw [dif_neg hh]; unfold clrC; exact if_congr (by omega) rfl rfl

/-- One row of the sums cleared. -/
theorem clearRowA (k : Fin k0_t1_loop.trips) :
    St d L (clrA A k.val 0) C X B ⊢ WP d L
      (k0_t1_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5 k ())
      (fun _ => St d L (clrA A (k.val + 1) 0) C X B) := by
  refine clearA d L (k0_off1_eq k) (fun _ => rfl) ?_
  refine clearA d L (k0_off2_eq k) (fun _ => rfl) ?_
  refine clearA d L (k0_off3_eq k) (fun _ => rfl) ?_
  refine clearA d L (k0_off4_eq k) (fun _ => rfl) ?_
  refine clearA d L (k0_off5_eq k) (fun _ => rfl) ?_
  refine clearA d L (k0_off6_eq k) (fun _ => rfl) ?_
  refine clearA d L (k0_off7_eq k) (fun _ => rfl) ?_
  refine clearA d L (k0_off8_eq k) (fun _ => rfl) ?_
  rw [← clrA_row A k.val]
  exact le_wp_ret Idealize.ShloMosaic.frame _ Set.univ () (fun _ => St d L (clrA A k.val 8) C X B)

/-- One row of the counts cleared. -/
theorem clearRowC (k : Fin k0_t2_loop.trips) :
    St d L A (clrC C k.val 0) X B ⊢ WP d L
      (k0_t2_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5 k ())
      (fun _ => St d L A (clrC C (k.val + 1) 0) X B) := by
  refine clearC d L (k0_off9_eq k) (fun _ => rfl) ?_
  refine clearC d L (k0_off10_eq k) (fun _ => rfl) ?_
  refine clearC d L (k0_off11_eq k) (fun _ => rfl) ?_
  refine clearC d L (k0_off12_eq k) (fun _ => rfl) ?_
  refine clearC d L (k0_off13_eq k) (fun _ => rfl) ?_
  refine clearC d L (k0_off14_eq k) (fun _ => rfl) ?_
  refine clearC d L (k0_off15_eq k) (fun _ => rfl) ?_
  refine clearC d L (k0_off16_eq k) (fun _ => rfl) ?_
  rw [← clrC_row C k.val]
  exact le_wp_ret Idealize.ShloMosaic.frame _ Set.univ () (fun _ => St d L A (clrC C k.val 8) X B)

/-! ## The loops -/

/-- A loop whose trips take `I k` to `I (k + 1)`, at the head of a program. -/
theorem loopRule {α : Type} {Q : α → sProp (MT nD τ sig (HIx 1) (Elt F) ℕ UU ℕ)} (l : Scf.Loop 32) (ok : l.OK) (n : ℕ) (hn : l.trips = n)
    (body : Fin l.trips → Unit → TP (F := F) L Unit) (I : ℕ → sProp (MT nD τ sig (HIx 1) (Elt F) ℕ UU ℕ))
    (hb : ∀ k : Fin l.trips, I k.val ⊢ WP d L (body k ()) (fun _ => I (k.val + 1)))
    {kk : Unit → TP (F := F) L α} :
    I 0 ⊢ iprop((I n -∗ WP d L (kk ()) Q) -∗ WP d L (Scf.Loop.for l ok ⟨⟩ body >>= kk) Q) := by
  subst hn
  iintro H HK
  iapply (Scf.wp_for_bind Idealize.ShloMosaic.frame _ Set.univ l.lb l.ub l.st ok () body (fun k _ => I k) (fun k _ => hb k)) $$ [H]
  · iexact H
  iintro %_ H
  iapply HK
  iexact H

/-- The sums cleared. -/
theorem clearLoopA {α : Type} {Q : α → sProp (MT nD τ sig (HIx 1) (Elt F) ℕ UU ℕ)} {kk : Unit → TP (F := F) L α} :
    St d L A C X B ⊢ iprop((St d L (fun _ => zero) C X B -∗ WP d L (kk ()) Q) -∗ WP d L
      (Scf.Loop.for k0_t1_loop k0_t1_ok ⟨⟩ (k0_t1_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5) >>= kk) Q) := by
  have h := loopRule d L k0_t1_loop k0_t1_ok 512 trips1 _ (fun k => St d L (clrA A k 0) C X B) (fun k => clearRowA d L k) (kk := kk) (Q := Q)
  rw [clrA_zero, clrA_all] at h
  exact h

/-- The counts cleared. -/
theorem clearLoopC {α : Type} {Q : α → sProp (MT nD τ sig (HIx 1) (Elt F) ℕ UU ℕ)} {kk : Unit → TP (F := F) L α} :
    St d L A C X B ⊢ iprop((St d L A (fun _ => zero) X B -∗ WP d L (kk ()) Q) -∗ WP d L
      (Scf.Loop.for k0_t2_loop k0_t2_ok ⟨⟩ (k0_t2_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5) >>= kk) Q) := by
  have h := loopRule d L k0_t2_loop k0_t2_ok 64 trips2 _ (fun k => St d L A (clrC C k 0) X B) (fun k => clearRowC d L k) (kk := kk) (Q := Q)
  rw [clrC_zero, clrC_all] at h
  exact h

/-- The ten groups of a chunk. -/
theorem groups4 {α : Type} {Q : α → sProp (MT nD τ sig (HIx 1) (Elt F) ℕ UU ℕ)} {kk : Unit → TP (F := F) L α} (hB : Okay B) :
    St d L A C X B ⊢ iprop((St d L (accN A X B 160) (cntN C B 160) X B -∗ WP d L (kk ()) Q) -∗ WP d L
      (Scf.Loop.for k0_t4_loop k0_t4_ok ⟨⟩ (k0_t4_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5) >>= kk) Q) := by
  exact loopRule d L k0_t4_loop k0_t4_ok 10 trips4 _ (fun k => St d L (accN A X B (16 * k)) (cntN C B (16 * k)) X B)
    (fun k => group4 d L hB k (trips4 ▸ k.isLt)) (kk := kk) (Q := Q)

/-- The ten groups of the last chunk. -/
theorem groups5 {α : Type} {Q : α → sProp (MT nD τ sig (HIx 1) (Elt F) ℕ UU ℕ)} {kk : Unit → TP (F := F) L α} (hB : Okay B) (h1 : k0_cond1 L = 1#1) :
    St d L A C X B ⊢ iprop((St d L (accN A X B 160) (cntN C B 160) X B -∗ WP d L (kk ()) Q) -∗ WP d L
      (Scf.Loop.for k0_t5_loop (k0_t5_ok L h1) ⟨⟩ (k0_t5_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5 h1) >>= kk) Q) := by
  exact loopRule d L k0_t5_loop (k0_t5_ok L h1) 10 trips5 _ (fun k => St d L (accN A X B (16 * k)) (cntN C B (16 * k)) X B)
    (fun k => group5 d L hB h1 k (trips5 ▸ k.isLt)) (kk := kk) (Q := Q)

end Rules

end Cert.Proof.Pool

end
-- ==== Proof.Tile.lean ====
/-
  The kernel on one tile: the accumulators cleared, every chunk of the tile copied in and added, the accumulators copied out.
-/
module

public import proofs.«01_k».proof.Proof.Loops
public import Idealize.ShloMosaic.Lib.ValueLayout
@[expose] public section
noncomputable section
namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Rounds Idealize.ShloMosaic.Tactic
open Idealize.SL.BI.BIBase Idealize.SL.BI.Laws Idealize.SL.ProofMode Idealize.SL.Sem

variable {F : FTy → Type} [FloatOps F]
local notation "xV" => (Memref.whole Cert.KernelIdeal.main_arg0_scv : Memref Cert.KernelIdeal.sig Kind.scVector Space.hbm Cert.KernelIdeal.S100000x128 EltTy.f32)
local notation "bV" => (Memref.whole Cert.KernelIdeal.main_arg1_scv : Memref Cert.KernelIdeal.sig Kind.scVector Space.hbm Cert.KernelIdeal.S100000 EltTy.i32)
local notation "sV" => (Memref.whole Cert.KernelIdeal.main_v0_0_scv : Memref Cert.KernelIdeal.sig Kind.scVector Space.hbm Cert.KernelIdeal.S32x512x128 EltTy.f32)
local notation "nV" => (Memref.whole Cert.KernelIdeal.main_v0_1_scv : Memref Cert.KernelIdeal.sig Kind.scVector Space.hbm Cert.KernelIdeal.S32x64x128 EltTy.f32)
local notation "xB" => (Memref.whole Cert.KernelIdeal.cc0_scratch0 : Memref Cert.KernelIdeal.sig Kind.scVector Space.vmem Cert.KernelIdeal.S160x128 EltTy.f32)
local notation "bB" => (Memref.whole Cert.KernelIdeal.cc0_scratch1 : Memref Cert.KernelIdeal.sig Kind.scVector Space.vmem Cert.KernelIdeal.S160 EltTy.i32)
local notation "aB" => (Memref.whole Cert.KernelIdeal.cc0_scratch2 : Memref Cert.KernelIdeal.sig Kind.scVector Space.vmem Cert.KernelIdeal.S512x128 EltTy.f32)
local notation "cB" => (Memref.whole Cert.KernelIdeal.cc0_scratch3 : Memref Cert.KernelIdeal.sig Kind.scVector Space.vmem Cert.KernelIdeal.S64x128 EltTy.f32)

local notation "𝕄" => MT nD τ sig (HIx 1) (Elt F) ℕ UU ℕ

/-! ## The arrays -/

abbrev xLoc (d : Dev nD) : Loc nD τ sig := (SparseCore.T d).loc main_arg0
abbrev bLoc (d : Dev nD) : Loc nD τ sig := (SparseCore.T d).loc main_arg1
abbrev sLoc (d : Dev nD) : Loc nD τ sig := (SparseCore.T d).loc main_v0_0
abbrev nLoc (d : Dev nD) : Loc nD τ sig := (SparseCore.T d).loc main_v0_1

abbrev Rows (F : FTy → Type) : Type := S100000x128.Idx → F .f32
abbrev Segs : Type := S100000.Idx → BitVec 32

/-- Row `r` of the table. -/
def tabIx (r : ℕ) : Fin 100000 := ⟨r % 100000, Nat.mod_lt _ (by decide)⟩
/-- Chunk `n`: rows `160 * n` to `160 * n + 159`. -/
def xChunk (x : Rows F) (n : ℕ) : XBuf F := fun i => x (ix2 (tabIx (160 * n + (i 0).val)) (i 1))
def bChunk (b : Segs) (n : ℕ) : BBuf := fun i => b (ix1 (tabIx (160 * n + (i 0).val)))

/-- The sums tile `w` holds after its first `n` chunks, which are chunks `w`, `w + 32`, … . -/
def tAcc (x : Rows F) (b : Segs) (w : ℕ) : ℕ → Acc F
  | 0 => fun _ => zero
  | n + 1 => accN (tAcc x b w n) (xChunk x (w + 32 * n)) (bChunk b (w + 32 * n)) 160
def tCnt (b : Segs) (w : ℕ) : ℕ → Cnt F
  | 0 => fun _ => zero
  | n + 1 => cntN (tCnt b w n) (bChunk b (w + 32 * n)) 160

/-- The tile's number. -/
abbrev wid (L : grid0.Coords) : ℕ := 16 * (L 0).val + (L 1).val

/-- The number of tile `w`'s chunks. -/
def chunks (w : ℕ) : ℕ := if w < 17 then 20 else 19

/-- What the tiles leave in the sums' array and in the counts'. -/
def sumsOf (x : Rows F) (b : Segs) : S32x512x128.Idx → F .f32 := fun i => tAcc x b (i 0).val (chunks (i 0).val) (ix2 (i 1) (i 2))
def cntsOf (b : Segs) : S32x64x128.Idx → F .f32 := fun i => tCnt b (i 0).val (chunks (i 0).val) (ix2 (i 1) (i 2))

theorem hdivS : 32 ∣ S32x512x128.size 0 := ⟨1, rfl⟩
theorem hdivN : 32 ∣ S32x64x128.size 0 := ⟨1, rfl⟩
/-- Tile `w`'s row of each. -/
abbrev rowS (w : Fin 32) : Rect S32x512x128 := Rect.part (s := S32x512x128) (a₀ := 0) hdivS w
abbrev setS (w : Fin 32) : Finset S32x512x128.Idx := ((sV).view.slice (rowS w)).set
abbrev rowN (w : Fin 32) : Rect S32x64x128 := Rect.part (s := S32x64x128) (a₀ := 0) hdivN w
abbrev setN (w : Fin 32) : Finset S32x64x128.Idx := ((nV).view.slice (rowN w)).set

section Tile

variable (d : Dev nD) (L : grid0.Coords)

local notation "thr" => (V d (cV L) (jV L) : Thread nD τ)

theorem wid_lt : wid L < 32 := by
  have h0 : (L 0).val < 2 := (L 0).isLt
  have h1 : (L 1).val < 16 := (L 1).isLt
  show 16 * (L 0).val + (L 1).val < 32
  omega
abbrev wL (L : grid0.Coords) : Fin 32 := ⟨wid L, wid_lt L⟩

/-- The tile's rows as the body spells them. -/
abbrev rowSK (L : grid0.Coords) : Rect S32x512x128 := Rect.unit (s := S32x512x128) (k0_off567 L) S1x512x128.size (k0_off567_inb L)
abbrev sRowK (L : grid0.Coords) : Memref sig .scVector .hbm S512x128 .f32 := ((sV).slice (rowSK L) (fun _ => rfl)).squeeze S512x128 squeezes_S1x512x128_S512x128
abbrev rowNK (L : grid0.Coords) : Rect S32x64x128 := Rect.unit (s := S32x64x128) (k0_off568 L) S1x64x128.size (k0_off568_inb L)
abbrev nRowK (L : grid0.Coords) : Memref sig .scVector .hbm S64x128 .f32 := ((nV).slice (rowNK L) (fun _ => rfl)).squeeze S64x128 squeezes_S1x64x128_S64x128

omit [FloatOps F] in
theorem rowSK_eq : rowSK L = rowS (wL L) := by
  unfold rowSK rowS Rect.part Rect.block
  congr 1 <;> funext a
  · rw [k0_off567_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem rowNK_eq : rowNK L = rowN (wL L) := by
  unfold rowNK rowN Rect.part Rect.block
  congr 1 <;> funext a
  · rw [k0_off568_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_sRowK : (sRowK L).view.set = setS (wL L) := by
  show (((sV).view.slice (rowSK L)).reshape S512x128 squeezes_S1x512x128_S512x128.numel_eq).set = ((sV).view.slice (rowS (wL L))).set
  rw [View.set_reshape]
  exact rowSK_eq L ▸ rfl
omit [FloatOps F] in
theorem set_nRowK : (nRowK L).view.set = setN (wL L) := by
  show (((nV).view.slice (rowNK L)).reshape S64x128 squeezes_S1x64x128_S64x128.numel_eq).set = ((nV).view.slice (rowN (wL L))).set
  rw [View.set_reshape]
  exact rowNK_eq L ▸ rfl

omit [FloatOps F] in
theorem pts_sRowK (f : Buf (Elt F) (sLoc d)) :
    ((sRowK L).view.loc thr ↦[(sRowK L).view.set]{fullShare} f : sProp 𝕄) = sLoc d ↦[setS (wL L)]{fullShare} f := by
  rw [set_sRowK]
omit [FloatOps F] in
theorem pts_nRowK (f : Buf (Elt F) (nLoc d)) :
    ((nRowK L).view.loc thr ↦[(nRowK L).view.set]{fullShare} f : sProp 𝕄) = nLoc d ↦[setN (wL L)]{fullShare} f := by
  rw [set_nRowK]

omit [FloatOps F] in
theorem emb_sRowK (y : S512x128.Idx) : (sRowK L).view.emb y = (ix3 (wL L) (y 0) (y 1) : S32x512x128.Idx) := by
  have h : Shape.reshapeEquiv squeezes_S1x512x128_S512x128.numel_eq y = (ix3 (0 : Fin 1) (y 0) (y 1) : S1x512x128.Idx) := by
    have := ValueIdx.shapeCast_1ab_ab_apply (a := 512) (b := 128) (fun z => z) squeezes_S1x512x128_S512x128.numel_eq (y 0) (y 1)
    exact (congrArg (Shape.reshapeEquiv _) (ix2_eta (n0 := 512) (n1 := 128) y).symm).trans this
  show (rowSK L).emb (Shape.reshapeEquiv squeezes_S1x512x128_S512x128.numel_eq y) = _
  rw [h]
  funext a
  refine Fin.ext ?_
  show k0_off567 L a + 1 * (ix3 (0 : Fin 1) (y 0) (y 1) a : Fin _).val = _
  rw [k0_off567_eq]
  match a with
  | 0 => show 16 * (L 0).val + (L 1).val + 1 * 0 = wid L; simp [wid]
  | 1 => show 0 + 1 * (y 0).val = (y 0).val; omega
  | 2 => show 0 + 1 * (y 1).val = (y 1).val; omega

omit [FloatOps F] in
theorem emb_nRowK (y : S64x128.Idx) : (nRowK L).view.emb y = (ix3 (wL L) (y 0) (y 1) : S32x64x128.Idx) := by
  have h : Shape.reshapeEquiv squeezes_S1x64x128_S64x128.numel_eq y = (ix3 (0 : Fin 1) (y 0) (y 1) : S1x64x128.Idx) := by
    have := ValueIdx.shapeCast_1ab_ab_apply (a := 64) (b := 128) (fun z => z) squeezes_S1x64x128_S64x128.numel_eq (y 0) (y 1)
    exact (congrArg (Shape.reshapeEquiv _) (ix2_eta (n0 := 64) (n1 := 128) y).symm).trans this
  show (rowNK L).emb (Shape.reshapeEquiv squeezes_S1x64x128_S64x128.numel_eq y) = _
  rw [h]
  funext a
  refine Fin.ext ?_
  show k0_off568 L a + 1 * (ix3 (0 : Fin 1) (y 0) (y 1) a : Fin _).val = _
  rw [k0_off568_eq]
  match a with
  | 0 => show 16 * (L 0).val + (L 1).val + 1 * 0 = wid L; simp [wid]
  | 1 => show 0 + 1 * (y 0).val = (y 0).val; omega
  | 2 => show 0 + 1 * (y 1).val = (y 1).val; omega

/-- The tile's row of sums, copied out. -/
theorem write_sRowK (x : Rows F) (b : Segs) {n : ℕ} (hn : n = chunks (wid L)) (f : Buf (Elt F) (sLoc d)) : ∀ i ∈ (sRowK L).view.set,
    (sRowK L).view.writes (Elt F) f [⟨Rect.whole S512x128, ReadAs.same.apply (View.read (Elt F) (aB).view (tAcc x b (wid L) n))⟩] i
      = sumsOf x b i := by
  subst hn
  intro i hi
  obtain ⟨y, -, rfl⟩ := Finset.mem_map.mp hi
  rw [View.writes_singleton]
  have hy : (sRowK L).view.emb y = ((sRowK L).view.slice (Rect.whole S512x128)).emb y := by
    rw [View.emb_slice]
    exact congrArg (sRowK L).view.emb (Rect.emb_whole_apply S512x128 y).symm
  rw [hy, View.write_emb_of_mem _ _ (Finset.mem_univ y), ← hy, emb_sRowK]
  show tAcc x b (wid L) (chunks (wid L)) y = tAcc x b (wid L) (chunks (wid L)) (ix2 (y 0) (y 1))
  rw [show (ix2 (y 0) (y 1) : S512x128.Idx) = y from ix2_eta y]
theorem write_nRowK (b : Segs) {n : ℕ} (hn : n = chunks (wid L)) (f : Buf (Elt F) (nLoc d)) : ∀ i ∈ (nRowK L).view.set,
    (nRowK L).view.writes (Elt F) f [⟨Rect.whole S64x128, ReadAs.same.apply (View.read (Elt F) (cB).view (tCnt b (wid L) n))⟩] i
      = cntsOf (F := F) b i := by
  subst hn
  intro i hi
  obtain ⟨y, -, rfl⟩ := Finset.mem_map.mp hi
  rw [View.writes_singleton]
  have hy : (nRowK L).view.emb y = ((nRowK L).view.slice (Rect.whole S64x128)).emb y := by
    rw [View.emb_slice]
    exact congrArg (nRowK L).view.emb (Rect.emb_whole_apply S64x128 y).symm
  rw [hy, View.write_emb_of_mem _ _ (Finset.mem_univ y), ← hy, emb_nRowK]
  show tCnt b (wid L) (chunks (wid L)) y = tCnt b (wid L) (chunks (wid L)) (ix2 (y 0) (y 1))
  rw [show (ix2 (y 0) (y 1) : S64x128.Idx) = y from ix2_eta y]

/-- A chunk of rows, copied in. -/
theorem write_xB (x : Rows F) (X : XBuf F) {n : ℕ} (hn : n < 625) {off : Fin 2 → ℕ} (inb : ∀ a, off a + S160x128.size a ≤ S100000x128.size a)
    (h : off = ![160 * n, 0]) :
    View.write (Elt F) (xB).view X (ReadAs.same.apply (View.read (Elt F) ((xV).slice (Rect.unit (s := S100000x128) off S160x128.size inb) (fun _ => rfl)).view x))
      Finset.univ = xChunk x n := by
  subst h
  refine (View.write_whole_univ _ _ _).trans (funext fun i => ?_)
  show x ((Rect.unit (s := S100000x128) ![160 * n, 0] S160x128.size inb).emb i) = x _
  refine congrArg x (funext fun a => Fin.ext ?_)
  have h0 : (i 0).val < 160 := (i 0).isLt
  match a with
  | 0 => show 160 * n + 1 * (i 0).val = (160 * n + (i 0).val) % 100000; rw [Nat.mod_eq_of_lt (by omega)]; omega
  | 1 => show 0 + 1 * (i 1).val = (i 1).val; omega
omit [FloatOps F] in
theorem write_bB (b : Segs) (B : BBuf) {n : ℕ} (hn : n < 625) {off : Fin 1 → ℕ} (inb : ∀ a, off a + S160.size a ≤ S100000.size a)
    (h : off = ![160 * n]) :
    View.write (Elt F) (bB).view B (ReadAs.same.apply (View.read (Elt F) ((bV).slice (Rect.unit (s := S100000) off S160.size inb) (fun _ => rfl)).view b))
      Finset.univ = bChunk b n := by
  subst h
  refine (View.write_whole_univ _ _ _).trans (funext fun i => ?_)
  show b ((Rect.unit (s := S100000) ![160 * n] S160.size inb).emb i) = b _
  refine congrArg b (funext fun a => Fin.ext ?_)
  have h0 : (i 0).val < 160 := (i 0).isLt
  match a with
  | 0 => show 160 * n + 1 * (i 0).val = (160 * n + (i 0).val) % 100000; rw [Nat.mod_eq_of_lt (by omega)]; omega

abbrev cell (s : DmaSem sig) (d : Dev nD) (L : grid0.Coords) : GSem nD τ sig := (V d (cV L) (jV L), .dma s)

variable (x : Rows F) (b : Segs) (qx qb : PosShare TreeShare) (O : CellTallies nD τ sig (HIx 1))

/-- What the tile holds before its chunk `n`, the semaphores of its copies aside. -/
def Hold (n : ℕ) : sProp (MT nD τ sig (HIx 1) (Elt F) ℕ UU ℕ) :=
  iprop(Transfers.MayWaits thr (default : HIx 1) O ∗ (∃ X, ∃ B, St d L (tAcc x b (wid L) n) (tCnt b (wid L) n) X B)
    ∗ ((xV).view.loc thr ↦{qx} x) ∗ ((bV).view.loc thr ↦{qb} b) ∗ ∃ W', owes thr O W')

/-- What the loop over the chunks keeps. -/
def Inv (n : ℕ) : sProp (MT nD τ sig (HIx 1) (Elt F) ℕ UU ℕ) :=
  iprop(semVal (cell cc0_scoped0.sem d L) 0 ∗ semVal (cell cc0_scoped1.sem d L) 0 ∗ Hold d L x b qx qb O n)

variable {x b} (hb : ∀ r, (b r).toNat < 512)

include hb in
/-- One trip of the loop over the tile's chunks. -/
theorem chunk3 (k : Fin k0_t3_loop.trips) :
    Inv d L x b qx qb O k.val
      ⊢ WP d L (k0_t3_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5 k ())
      (fun _ => Inv d L x b qx qb O (k.val + 1)) := by
  have hk : k.val < 19 := trips3 ▸ k.isLt
  have hw := wid_lt L
  unfold Inv Hold
  iintro ⟨Hs0, Hs1, Hmw, ⟨%X, %B, HSt⟩, Hx, Hb, ⟨%W, HO⟩⟩
  ihave HSt' := (show St d L (tAcc x b (wid L) k.val) (tCnt b (wid L) k.val) X B ⊢ iprop(((aB).view.loc thr ↦{fullShare} tAcc x b (wid L) k.val)
    ∗ ((cB).view.loc thr ↦{fullShare} tCnt b (wid L) k.val) ∗ ((xB).view.loc thr ↦{fullShare} X) ∗ ((bB).view.loc thr ↦{fullShare} B)) from .rfl) $$ HSt
  icases HSt' with ⟨HA, HC, HX, HB⟩
  unfold k0_t3_body WP
  sl_exec (disch := exact View.amount_pos _ _ (show 0 < S160x128.numel by decide))
  unfold chunk3.sl.dma0 chunk3.sl.dma0_1
  ihave HX' := (Entails.of_eq (congrArg (fun f => ((xB).view.loc thr ↦{fullShare} f : sProp 𝕄))
    (write_xB x X (n := wid L + 32 * k.val) (by omega) (k0_off17_inb L k) ((k0_off17_eq L k).trans (by congr 1; simp only [wid]; omega))))) $$ HX
  ihave HB' := (Entails.of_eq (congrArg (fun f => ((bB).view.loc thr ↦{fullShare} f : sProp 𝕄))
    (write_bB (F := F) b B (n := wid L + 32 * k.val) (by omega) (k0_off18_inb L k) ((k0_off18_eq L k).trans (by congr 1; simp only [wid]; omega))))) $$ HB
  iapply (groups4 d L (A := tAcc x b (wid L) k.val) (C := tCnt b (wid L) k.val) (X := xChunk x (wid L + 32 * k.val)) (B := bChunk b (wid L + 32 * k.val))
    (fun r => hb _)) $$ [HA HC HX' HB']
  · unfold St
    isplitl [HA]; · iexact HA
    isplitl [HC]; · iexact HC
    isplitl [HX']; · iexact HX'
    iexact HB'
  iintro HSt
  unfold WP
  sl_step
  isplitl [Hs0]; · iexact Hs0
  isplitl [Hs1]; · iexact Hs1
  isplitl [Hmw]; · iexact Hmw
  isplitl [HSt]; · iexists _; iexists _; iexact HSt
  isplitl [Hx]; · iexact Hx
  isplitl [Hb]; · iexact Hb
  iexists _; iexact HO

include hb in
/-- The loop over the tile's chunks. -/
theorem chunkLoop {α : Type} {Q : α → sProp (MT nD τ sig (HIx 1) (Elt F) ℕ UU ℕ)} {kk : Unit → TP (F := F) L α} :
    Inv d L x b qx qb O 0 ⊢ iprop((Inv d L x b qx qb O 19 -∗ WP d L (kk ()) Q) -∗ WP d L
      (Scf.Loop.for k0_t3_loop k0_t3_ok ⟨⟩ (k0_t3_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5) >>= kk) Q) :=
  loopRule d L k0_t3_loop k0_t3_ok 19 trips3 _ (Inv d L x b qx qb O) (fun k => chunk3 d L qx qb O hb k)

omit [FloatOps F] in
theorem cond_iff : ∀ L : grid0.Coords, k0_cond1 L = 1#1 ↔ wid L < 17 := by decide +kernel

include hb in
/-- The kernel on one tile. -/
theorem run (fA : Acc F) (fC : Cnt F) (fX : XBuf F) (fB : BBuf) (fs : Buf (Elt F) (sLoc d)) (fn : Buf (Elt F) (nLoc d)) (W : Waits sig (HIx 1)) :
    iprop(Transfers.MayWaits thr (default : HIx 1) O ∗ St d L fA fC fX fB
        ∗ ((xV).view.loc thr ↦{qx} x) ∗ ((bV).view.loc thr ↦{qb} b)
        ∗ ((sRowK L).view.loc thr ↦[(sRowK L).view.set]{fullShare} fs) ∗ ((nRowK L).view.loc thr ↦[(nRowK L).view.set]{fullShare} fn)
        ∗ semVal (cell cc0_scoped0.sem d L) 0 ∗ semVal (cell cc0_scoped1.sem d L) 0 ∗ semVal (cell cc0_scoped2.sem d L) 0
        ∗ semVal (cell cc0_scoped3.sem d L) 0 ∗ semVal (cell cc0_scoped4.sem d L) 0 ∗ semVal (cell cc0_scoped5.sem d L) 0 ∗ owes thr O W)
      ⊢ WP d L (cc0__sc_body L xV (Memref.isWhole_whole _) bV (Memref.isWhole_whole _) sV (Memref.isWhole_whole _) nV (Memref.isWhole_whole _)
        xB (Memref.isWhole_whole _) bB (Memref.isWhole_whole _) aB (Memref.isWhole_whole _) cB (Memref.isWhole_whole _)
        cc0_scoped0 cc0_scoped1 cc0_scoped2 cc0_scoped3 cc0_scoped4 cc0_scoped5)
      (fun _ => iprop((∃ A, ∃ C, ∃ X, ∃ B, St d L A C X B)
        ∗ ((xV).view.loc thr ↦{qx} x) ∗ ((bV).view.loc thr ↦{qb} b)
        ∗ ((sRowK L).view.loc thr ↦[(sRowK L).view.set]{fullShare} sumsOf x b) ∗ ((nRowK L).view.loc thr ↦[(nRowK L).view.set]{fullShare} cntsOf b)
        ∗ semVal (cell cc0_scoped0.sem d L) 0 ∗ semVal (cell cc0_scoped1.sem d L) 0 ∗ semVal (cell cc0_scoped2.sem d L) 0
        ∗ semVal (cell cc0_scoped3.sem d L) 0 ∗ semVal (cell cc0_scoped4.sem d L) 0 ∗ semVal (cell cc0_scoped5.sem d L) 0 ∗ ∃ W', owes thr O W')) := by
  iintro ⟨Hmw, HSt, Hx, Hb, Hsr, Hnr, Hs0, Hs1, Hs2, Hs3, Hs4, Hs5, HO⟩
  rw [cc0__sc_body_eq_skeleton]
  unfold cc0__sc_body_skel WP
  rw [k0_part97_eq_skeleton]
  unfold k0_part97_skel
  rw [wp_bind]
  iapply (clearLoopA d L (A := fA) (C := fC) (X := fX) (B := fB)) $$ [HSt]
  · iexact HSt
  iintro HSt
  iapply (clearLoopC d L (A := fun _ => zero) (C := fC) (X := fX) (B := fB)) $$ [HSt]
  · iexact HSt
  iintro HSt
  iapply (chunkLoop d L (x := x) (b := b) qx qb O hb) $$ [HSt Hmw Hx Hb Hs0 Hs1 HO]
  · unfold Inv Hold
    isplitl [Hs0]; · iexact Hs0
    isplitl [Hs1]; · iexact Hs1
    isplitl [Hmw]; · iexact Hmw
    isplitl [HSt]; · iexists _; iexists _; iexact HSt
    isplitl [Hx]; · iexact Hx
    isplitl [Hb]; · iexact Hb
    iexists _; iexact HO
  unfold Inv Hold
  iintro ⟨Hs0, Hs1, Hmw, ⟨%X, %B, HSt⟩, Hx, Hb, ⟨%W, HO⟩⟩
  ihave HSt' := (show St d L (tAcc x b (wid L) 19) (tCnt b (wid L) 19) X B ⊢ iprop(((aB).view.loc thr ↦{fullShare} tAcc x b (wid L) 19)
    ∗ ((cB).view.loc thr ↦{fullShare} tCnt b (wid L) 19) ∗ ((xB).view.loc thr ↦{fullShare} X) ∗ ((bB).view.loc thr ↦{fullShare} B)) from .rfl) $$ HSt
  icases HSt' with ⟨HA, HC, HX, HB⟩
  unfold WP
  by_cases k0_h1 : k0_cond1 L = 1#1
  · have hw := (cond_iff L).mp k0_h1
    have hn : 20 = chunks (wid L) := (if_pos hw).symm
    sl_exec (disch := exact View.amount_pos _ _ (show 0 < S160x128.numel by decide))
    unfold run.sl.dma0 run.sl.dma0_1
    ihave HX' := (Entails.of_eq (congrArg (fun f => ((xB).view.loc thr ↦{fullShare} f : sProp 𝕄))
      (write_xB x X (n := wid L + 32 * 19) (by omega) (k0_off292_inb L k0_h1) ((k0_off292_eq L).trans (by congr 1; simp only [wid]; omega))))) $$ HX
    ihave HB' := (Entails.of_eq (congrArg (fun f => ((bB).view.loc thr ↦{fullShare} f : sProp 𝕄))
      (write_bB (F := F) b B (n := wid L + 32 * 19) (by omega) (k0_off293_inb L k0_h1) ((k0_off293_eq L).trans (by congr 1; simp only [wid]; omega))))) $$ HB
    iapply (groups5 d L (A := tAcc x b (wid L) 19) (C := tCnt b (wid L) 19) (X := xChunk x (wid L + 32 * 19)) (B := bChunk b (wid L + 32 * 19))
      (fun r => hb _) k0_h1) $$ [HA HC HX' HB']
    · unfold St
      isplitl [HA]; · iexact HA
      isplitl [HC]; · iexact HC
      isplitl [HX']; · iexact HX'
      iexact HB'
    iintro HSt
    ihave HSt' := (show St d L (accN (tAcc x b (wid L) 19) (xChunk x (wid L + 32 * 19)) (bChunk b (wid L + 32 * 19)) 160)
        (cntN (tCnt b (wid L) 19) (bChunk b (wid L + 32 * 19)) 160) (xChunk x (wid L + 32 * 19)) (bChunk b (wid L + 32 * 19))
      ⊢ iprop(((aB).view.loc thr ↦{fullShare} tAcc x b (wid L) 20) ∗ ((cB).view.loc thr ↦{fullShare} tCnt b (wid L) 20)
        ∗ ((xB).view.loc thr ↦{fullShare} xChunk x (wid L + 32 * 19)) ∗ ((bB).view.loc thr ↦{fullShare} bChunk b (wid L + 32 * 19))) from .rfl) $$ HSt
    icases HSt' with ⟨HA, HC, HX, HB⟩
    unfold WP
    sl_exec (disch := exact View.amount_pos _ _ (show 0 < S512x128.numel by decide))
    unfold run.sl.dma0_2 run.sl.dma0_3
    ihave Hsr' := (Entails.of_eq (pointsTo_congr (write_sRowK d L x b (n := 20) hn fs))) $$ Hsr
    ihave Hnr' := (Entails.of_eq (pointsTo_congr (write_nRowK d L b (n := 20) hn fn))) $$ Hnr
    sl_step
    isplitl [HA HC HX HB]
    · iexists _; iexists _; iexists _; iexists _
      unfold St
      isplitl [HA]; · iexact HA
      isplitl [HC]; · iexact HC
      isplitl [HX]; · iexact HX
      iexact HB
    isplitl [Hx]; · iexact Hx
    isplitl [Hb]; · iexact Hb
    isplitl [Hsr']; · iexact Hsr'
    isplitl [Hnr']; · iexact Hnr'
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexists _; iexact HO
  · have hn : 19 = chunks (wid L) := (if_neg (mt (cond_iff L).mpr k0_h1)).symm
    sl_exec (disch := exact View.amount_pos _ _ (show 0 < S512x128.numel by decide))
    unfold run.sl.dma0_4 run.sl.dma0_5
    ihave Hsr' := (Entails.of_eq (pointsTo_congr (write_sRowK d L x b (n := 19) hn fs))) $$ Hsr
    ihave Hnr' := (Entails.of_eq (pointsTo_congr (write_nRowK d L b (n := 19) hn fn))) $$ Hnr
    sl_step
    isplitl [HA HC HX HB]
    · iexists _; iexists _; iexists _; iexists _
      unfold St
      isplitl [HA]; · iexact HA
      isplitl [HC]; · iexact HC
      isplitl [HX]; · iexact HX
      iexact HB
    isplitl [Hx]; · iexact Hx
    isplitl [Hb]; · iexact Hb
    isplitl [Hsr']; · iexact Hsr'
    isplitl [Hnr']; · iexact Hnr'
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexists _; iexact HO

end Tile

end Cert.Proof.Pool

end
-- ==== Proof.Launch.lean ====
/-
  What the SparseCore call hands each tile and takes back: a share of the rows and of their segment numbers, which every
  tile reads, and the tile's own block of each of the two results.
-/
module

public import proofs.«01_k».proof.Proof.Tile
@[expose] public section
noncomputable section
namespace Cert.Proof.Pool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers (dealOf pointsTo_deal)
open Idealize.SL Idealize.SL.RA Idealize.SL.BI
open scoped Idealize.SL.BI
open Idealize.ShloMosaic.Rounds Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S100000x128 EltTy.f32)
local notation "bV" => (Memref.whole Cert.KernelIdeal.main_arg1_scv : Memref Cert.KernelIdeal.sig Kind.scVector Space.hbm Cert.KernelIdeal.S100000 EltTy.i32)
local notation "sV" => (Memref.whole Cert.KernelIdeal.main_v0_0_scv : Memref Cert.KernelIdeal.sig Kind.scVector Space.hbm Cert.KernelIdeal.S32x512x128 EltTy.f32)
local notation "nV" => (Memref.whole Cert.KernelIdeal.main_v0_1_scv : Memref Cert.KernelIdeal.sig Kind.scVector Space.hbm Cert.KernelIdeal.S32x64x128 EltTy.f32)
local notation "xB" => (Memref.whole Cert.KernelIdeal.cc0_scratch0 : Memref Cert.KernelIdeal.sig Kind.scVector Space.vmem Cert.KernelIdeal.S160x128 EltTy.f32)
local notation "bB" => (Memref.whole Cert.KernelIdeal.cc0_scratch1 : Memref Cert.KernelIdeal.sig Kind.scVector Space.vmem Cert.KernelIdeal.S160 EltTy.i32)
local notation "aB" => (Memref.whole Cert.KernelIdeal.cc0_scratch2 : Memref Cert.KernelIdeal.sig Kind.scVector Space.vmem Cert.KernelIdeal.S512x128 EltTy.f32)
local notation "cB" => (Memref.whole Cert.KernelIdeal.cc0_scratch3 : Memref Cert.KernelIdeal.sig Kind.scVector Space.vmem Cert.KernelIdeal.S64x128 EltTy.f32)

abbrev EH : Emb UH (MT nD τ sig (HIx 1) (Elt F) ℕ UU ℕ) := embL

variable (m : (ℓ : Loc nD τ sig) → Buf (Elt F) ℓ) (ρ : Dev nD → PrngReg)

/-! ## The pieces -/

/-- Tile `i` of SparseCore `c`, numbered. -/
abbrev wAt (c i : ℕ) : Fin 32 := ⟨(16 * c + i) % 32, Nat.mod_lt _ (by decide)⟩

/-- A tile's share of an array all of them read. -/
abbrev shareAt (w : Fin 32) : PosShare TreeShare := dealOf fullShare (Finset.univ : Finset (Fin 32)) w

/-- What tile `w` is handed, -/
abbrev tileIn (d : Dev nD) (w : Fin 32) : sProp 𝕄 :=
  iprop((xLoc d ↦{shareAt w} m (xLoc d)) ∗ (bLoc d ↦{shareAt w} m (bLoc d))
    ∗ (sLoc d ↦[setS w]{fullShare} m (sLoc d)) ∗ (nLoc d ↦[setN w]{fullShare} m (nLoc d)))
/-- and what it hands back. -/
abbrev tileOut (d : Dev nD) (w : Fin 32) : sProp 𝕄 :=
  iprop((xLoc d ↦{shareAt w} m (xLoc d)) ∗ (bLoc d ↦{shareAt w} m (bLoc d))
    ∗ (sLoc d ↦[setS w]{fullShare} (sumsOf (m (xLoc d)) (m (bLoc d)) : S32x512x128.Idx → F .f32))
    ∗ (nLoc d ↦[setN w]{fullShare} (cntsOf (m (bLoc d)) : S32x64x128.Idx → F .f32)))

abbrev coreIn (d : Dev nD) (c : ℕ) : sProp 𝕄 := bigSep (Finset.univ : Finset (Fin 16)) fun i => tileIn m d (wAt c i.val)
abbrev coreOut (d : Dev nD) (c : ℕ) : sProp 𝕄 := bigSep (Finset.univ : Finset (Fin 16)) fun i => tileOut m d (wAt c i.val)

def P : (K (F := F)).Pay (nD := nD) (Val := Elt F) (Name := ℕ) (U := UU) where
  st := fun q d c => match q with | 0 => coreIn m d c.val
  dn := fun q d c => match q with | 0 => coreOut m d c.val
  go := fun q d c i => match q with | 0 => tileIn m d (wAt c.val i.val)
  td := fun q d c i => match q with | 0 => tileOut m d (wAt c.val i.val)
  x := fun _ _ => iprop(emp)

instance P_storable : (P (F := F) m).IsStorable where
  st q d c := match q with | 0 => (inferInstance : BI.Storable (upEmb : UEmb _ 𝕄) (coreIn m d c.val))
  dn q d c := match q with | 0 => (inferInstance : BI.Storable (upEmb : UEmb _ 𝕄) (coreOut m d c.val))
  go q d c i := match q with | 0 => (inferInstance : BI.Storable (upEmb : UEmb _ 𝕄) (tileIn m d (wAt c.val i.val)))
  td q d c i := match q with | 0 => (inferInstance : BI.Storable (upEmb : UEmb _ 𝕄) (tileOut m d (wAt c.val i.val)))

/-! ## A tile's own storage -/

section Tile

variable (d : Dev nD) (L : grid0.Coords)
local notation "thr" => V d (cV L) (jV L)

omit [FloatOps F] in
theorem own_cell (s : DmaSem sig) (h : (SemLoc.dma s : SemLoc sig).isScoped .scVector = true) : cell s d L ∈ ownCells thr :=
  (mem_ownCells (g := cell s d L)).mpr ⟨rfl, h⟩
omit [FloatOps F] in
theorem cell_ne {s s' : DmaSem sig} (h : s ≠ s') : cell s d L ≠ cell s' d L := fun e =>
  h (by have := (Prod.mk.inj e).2; simpa using this)

omit [FloatOps F] in
theorem ownSems0_V : ∃ R : sProp 𝕄, (ownSems0 thr : sProp 𝕄)
      = iprop(semVal (cell cc0_scoped0.sem d L) 0 ∗ semVal (cell cc0_scoped1.sem d L) 0 ∗ semVal (cell cc0_scoped2.sem d L) 0
          ∗ semVal (cell cc0_scoped3.sem d L) 0 ∗ semVal (cell cc0_scoped4.sem d L) 0 ∗ semVal (cell cc0_scoped5.sem d L) 0 ∗ R) := by
  refine ⟨bigSep ((((((((ownCells thr).erase (cell cc0_scoped0.sem d L)).erase (cell cc0_scoped1.sem d L)).erase (cell cc0_scoped2.sem d L)).erase
    (cell cc0_scoped3.sem d L)).erase (cell cc0_scoped4.sem d L)).erase (cell cc0_scoped5.sem d L))) fun g => semVal g 0, ?_⟩
  unfold SparseCore.Cfg.ownSems0
  have m0 := own_cell d L cc0_scoped0.sem (by decide)
  have m1 := own_cell d L cc0_scoped1.sem (by decide)
  have m2 := own_cell d L cc0_scoped2.sem (by decide)
  have m3 := own_cell d L cc0_scoped3.sem (by decide)
  have m4 := own_cell d L cc0_scoped4.sem (by decide)
  have m5 := own_cell d L cc0_scoped5.sem (by decide)
  have ne (s s' : DmaSem sig) (h : s ≠ s') := cell_ne d L h
  rw [SparseCore.bigSep_erase' m0,
    SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), m4⟩⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), Finset.mem_erase.mpr ⟨ne _ _ (by decide), m5⟩⟩⟩⟩⟩)]

omit [FloatOps F] in
theorem ownBufs_V : ∃ R : sProp 𝕄, (ownBufs thr : sProp 𝕄)
      = iprop((∃ f, (thr).loc cc0_scratch0 ↦{fullShare} f) ∗ (∃ f, (thr).loc cc0_scratch1 ↦{fullShare} f)
          ∗ (∃ f, (thr).loc cc0_scratch2 ↦{fullShare} f) ∗ (∃ f, (thr).loc cc0_scratch3 ↦{fullShare} f) ∗ R) := by
  refine ⟨bigSep (((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2)).erase
      ((Proc.scVector (cV L) (jV L)).devRef cc0_scratch3)) fun b => iprop(∃ f, ((d, b) : Loc nD τ sig) ↦{fullShare} f), ?_⟩
  unfold SparseCore.Cfg.ownBufs
  have ne (b b' : Ref sig .scVector) (h : b ≠ b') : (Proc.scVector (cV L) (jV L)).devRef b ≠ (Proc.scVector (cV L) (jV L)).devRef b' :=
    fun e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne _ _ (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne _ _ (show (cc0_scratch2 : Ref sig .scVector) ≠ cc0_scratch1 by decide),
      Finset.mem_erase.mpr ⟨ne _ _ (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne _ _ (show (cc0_scratch3 : Ref sig .scVector) ≠ cc0_scratch2 by decide),
      Finset.mem_erase.mpr ⟨ne _ _ (show (cc0_scratch3 : Ref sig .scVector) ≠ cc0_scratch1 by decide),
      Finset.mem_erase.mpr ⟨ne _ _ (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

/-! ## The task -/

variable (hb : ∀ (d : Dev nD) (r : S100000.Idx), (m (bLoc d) r).toNat < 512)

include hb in
theorem tile_body (O : CellTallies nD τ sig (HIx 1)) (W : Waits sig (HIx 1)) (hO : ∀ g, O g none = 0) :
    iprop(levAts (K (F := F)).L (K (F := F)).lev ∗ emp ∗ tileIn m d (wL L) ∗ scopedBufs thr ∗ scopedSems0 thr ∗ owes thr O W)
      ⊢ wp frame (wpE (defs₀ (F := F)) 𝒱₀ thr none) Set.univ
          (cc0__sc_body L xV (Memref.isWhole_whole _) bV (Memref.isWhole_whole _) sV (Memref.isWhole_whole _) nV (Memref.isWhole_whole _)
            xB (Memref.isWhole_whole _) bB (Memref.isWhole_whole _) aB (Memref.isWhole_whole _) cB (Memref.isWhole_whole _)
            cc0_scoped0 cc0_scoped1 cc0_scoped2 cc0_scoped3 cc0_scoped4 cc0_scoped5)
          fun _ => iprop(tileOut m d (wL L) ∗ scopedBufs thr ∗ scopedSems0 thr
            ∗ ∃ W', ⌜∀ p ∈ W', p ∈ W ∨ p.2 = none ∨ p.2 = some (0 : Fin 1)⌝ ∗ owes thr O W') := by
  obtain ⟨Rs, hRs⟩ := ownSems0_V (F := F) d L
  obtain ⟨Rb, hRb⟩ := ownBufs_V (F := F) d L
  rw [(K (F := F)).scopedBufs_V facts d (cV L) (jV L), SparseCore.Cfg.scopedSems0_V (Val := Elt F) d (cV L) (jV L), hRs, hRb]
  iintro ⟨#Hlv, -, ⟨Hx, Hb, Hs, Hn⟩, ⟨⟨%fX, HX⟩, ⟨%fB, HB⟩, ⟨%fA, HA⟩, ⟨%fC, HC⟩, Hbufs⟩, ⟨Hs0, Hs1, Hs2, Hs3, Hs4, Hs5, Hsems⟩, HO⟩
  ihave Hmw := (show levAts (K (F := F)).L (K (F := F)).lev ⊢ Transfers.MayWaits thr (default : HIx 1) O from
    (K (F := F)).mayWaits_none hO) $$ Hlv
  ihave Hs' := (Entails.of_eq (pts_sRowK (F := F) d L _).symm) $$ Hs
  ihave Hn' := (Entails.of_eq (pts_nRowK (F := F) d L _).symm) $$ Hn
  iapply (wp_wand_r frame _ Set.univ)
  isplitl [Hmw Hx Hb Hs' Hn' HX HB HA HC Hs0 Hs1 Hs2 Hs3 Hs4 Hs5 HO]
  · iapply (run (x := m (xLoc d)) (b := m (bLoc d)) d L (shareAt (wL L)) (shareAt (wL L)) O (hb d) fA fC fX fB (m (sLoc d)) (m (nLoc d)) W)
    isplitl [Hmw]; · iexact Hmw
    isplitl [HX HB HA HC]
    · unfold St
      isplitl [HA]; · iexact HA
      isplitl [HC]; · iexact HC
      isplitl [HX]; · iexact HX
      iexact HB
    isplitl [Hx]; · iexact Hx
    isplitl [Hb]; · iexact Hb
    isplitl [Hs']; · iexact Hs'
    isplitl [Hn']; · iexact Hn'
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact HO
  iintro %_ ⟨⟨%A, %C, %X, %B, HSt⟩, Hx, Hb, Hs', Hn', Hs0, Hs1, Hs2, Hs3, Hs4, Hs5, ⟨%W', HO⟩⟩
  ihave Hs := (Entails.of_eq (pts_sRowK (F := F) d L _)) $$ Hs'
  ihave Hn := (Entails.of_eq (pts_nRowK (F := F) d L _)) $$ Hn'
  unfold St
  icases HSt with ⟨HA, HC, HX, HB⟩
  isplitl [Hx Hb Hs Hn]
  · isplitl [Hx]; · iexact Hx
    isplitl [Hb]; · iexact Hb
    isplitl [Hs]; · iexact Hs
    iexact Hn
  isplitl [HX HB HA HC Hbufs]
  · isplitl [HX]; · iexists _; iexact HX
    isplitl [HB]; · iexists _; iexact HB
    isplitl [HA]; · iexists _; iexact HA
    isplitl [HC]; · iexists _; iexact HC
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists W'; isplitr
  swap; · iexact HO
  ipureintro; intro p _
  rcases p.2 with _ | q
  · exact .inr (.inl rfl)
  · exact .inr (.inr (congrArg some (Subsingleton.elim q 0)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) bV (Memref.isWhole_whole _) sV (Memref.isWhole_whole _) nV (Memref.isWhole_whole _)
          xB (Memref.isWhole_whole _) bB (Memref.isWhole_whole _) aB (Memref.isWhole_whole _) cB (Memref.isWhole_whole _)
          cc0_scoped0 cc0_scoped1 cc0_scoped2 cc0_scoped3 cc0_scoped4 cc0_scoped5) ⟨⟩ c s := rfl

omit [FloatOps F] in
theorem wL_coords (c : Fin (grid0.bound 0)) (s : Fin (grid0.bound 1)) : wL (coordsV c s) = wAt c.val s.val :=
  Fin.ext (Nat.mod_eq_of_lt (wid_lt (coordsV c s))).symm

include hb in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body m d (coordsV ⟨_, hci.1⟩ ⟨_, hci.2⟩) hb O W hO
  rw [wL_coords] at h
  exact h

end Tile

theorem vecSplit : (K (F := F)).VecSplit' (P m) 0 := by
  intro d c
  show coreIn m d c.val ⊢ |={Set.univ}=> iprop(coreIn m d c.val ∗ (coreOut m d c.val -∗ coreOut m d c.val))
  iintro H; imodintro
  isplitl [H]; · iexact H
  iintro H; iexact H

/-! ## The arrays, and what all the tiles hold of them -/

omit [FloatOps F] in
theorem setS_eq (w : Fin 32) : setS w = (rowS w).set := by
  show ((View.whole (main_v0_0_scv : Ref sig .scVector)).slice (rowS w)).set = _
  rw [View.set_slice]; exact Finset.map_refl
omit [FloatOps F] in
theorem setN_eq (w : Fin 32) : setN w = (rowN w).set := by
  show ((View.whole (main_v0_1_scv : Ref sig .scVector)).slice (rowN w)).set = _
  rw [View.set_slice]; exact Finset.map_refl
omit [FloatOps F] in
theorem sPts_rows (d : Dev nD) (f : Buf (Elt F) (sLoc d)) :
    (sLoc d ↦{fullShare} f : sProp 𝕄) = bigSep Finset.univ fun w : Fin 32 => sLoc d ↦[setS w]{fullShare} f := by
  rw [← pointsTo_biUnion Finset.univ (ℓ := sLoc d) setS (fun i _ j _ h => by rw [setS_eq, setS_eq]; exact Rect.part_disjoint hdivS h),
    show (Finset.univ : Finset (Fin 32)).biUnion setS = Finset.univ from (Finset.biUnion_congr rfl fun i _ => setS_eq i).trans (Rect.biUnion_part hdivS)]
  try rfl
omit [FloatOps F] in
theorem nPts_rows (d : Dev nD) (f : Buf (Elt F) (nLoc d)) :
    (nLoc d ↦{fullShare} f : sProp 𝕄) = bigSep Finset.univ fun w : Fin 32 => nLoc d ↦[setN w]{fullShare} f := by
  rw [← pointsTo_biUnion Finset.univ (ℓ := nLoc d) setN (fun i _ j _ h => by rw [setN_eq, setN_eq]; exact Rect.part_disjoint hdivN h),
    show (Finset.univ : Finset (Fin 32)).biUnion setN = Finset.univ from (Finset.biUnion_congr rfl fun i _ => setN_eq i).trans (Rect.biUnion_part hdivN)]
  try rfl

omit [FloatOps F] in
/-- Over both SparseCores and their sixteen tiles each is over the thirty-two tiles. -/
theorem bigSep_tiles (Φ : Fin 32 → sProp 𝕄) :
    (bigSep Finset.univ fun c : Fin 2 => bigSep Finset.univ fun i : Fin 16 => Φ (wAt c.val i.val)) = bigSep Finset.univ Φ := by
  rw [bigSep_univ_equiv (finProdFinEquiv : Fin 2 × Fin 16 ≃ Fin (2 * 16)) Φ, bigSep_univ_prod]
  refine bigSep_congr fun c _ => bigSep_congr fun i _ => congrArg Φ (Fin.ext ?_)
  show (16 * c.val + i.val) % 32 = i.val + 16 * c.val
  rw [Nat.mod_eq_of_lt (by omega)]; omega

/-- The four arrays whole are what the call takes, -/
theorem st0_eq (d : Dev nD) : (bigSep Finset.univ fun c : Fin ((K (F := F)).nCore 0) => (P m).st 0 d c)
    = iprop((xLoc d ↦{fullShare} m (xLoc d)) ∗ (bLoc d ↦{fullShare} m (bLoc d)) ∗ (sLoc d ↦{fullShare} m (sLoc d)) ∗ (nLoc d ↦{fullShare} m (nLoc d))) := by
  rw [sPts_rows, nPts_rows, pointsTo_deal (ℓ := xLoc d) (Finset.univ : Finset (Fin 32)) Finset.univ_nonempty fullShare,
    pointsTo_deal (ℓ := bLoc d) (Finset.univ : Finset (Fin 32)) Finset.univ_nonempty fullShare, ← bigSep_sep', ← bigSep_sep', ← bigSep_sep']
  exact bigSep_tiles (fun w => tileIn m d w)
/-- and what it gives back is the four arrays whole, the results at the tiles' sums and counts. -/
theorem dn0_eq (d : Dev nD) : (bigSep Finset.univ fun c : Fin ((K (F := F)).nCore 0) => (P m).dn 0 d c)
    = iprop((xLoc d ↦{fullShare} m (xLoc d)) ∗ (bLoc d ↦{fullShare} m (bLoc d))
      ∗ (sLoc d ↦{fullShare} (sumsOf (m (xLoc d)) (m (bLoc d)) : S32x512x128.Idx → F .f32))
      ∗ (nLoc d ↦{fullShare} (cntsOf (m (bLoc d)) : S32x64x128.Idx → F .f32))) := by
  rw [sPts_rows, nPts_rows, pointsTo_deal (ℓ := xLoc d) (Finset.univ : Finset (Fin 32)) Finset.univ_nonempty fullShare,
    pointsTo_deal (ℓ := bLoc d) (Finset.univ : Finset (Fin 32)) Finset.univ_nonempty fullShare, ← bigSep_sep', ← bigSep_sep', ← bigSep_sep']
  exact bigSep_tiles (fun w => tileOut m d w)

end Cert.Proof.Pool

end
-- ==== Proof.Region.lean ====
/-
  The second kernel: one grid point, five whole arrays staged. From the tiles' sums and counts, the weights and the bias
  it leaves the result at `finalOf` of them.
-/
module

public import proofs.«01_k».proof.Proof.Launch
public import proofs.«01_k».proof.Proof.Gen.KernelIdeal.Launch
public import proofs.«01_k».proof.Proof.Gen.KernelIdeal.Points
public import Idealize.ShloMosaic.Lib.Pipeline.ValueKit
@[expose] public section
noncomputable section
namespace Cert.Proof.Pool

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.ShloMosaic.Rounds Idealize.ShloMosaic.Tactic
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 1) (Elt F) ℕ UU ℕ

/-! ## The value -/

/-- What the kernel computes of the tiles' sums and counts, the weights and the bias. -/
def finalOf (s : S32x512x128.Idx → F .f32) (n : S32x64x128.Idx → F .f32) (w : S10x128.Idx → F .f32) (b : S1x10.Idx → F .f32) : S512x10.Idx → F .f32 :=
  k1_pay1 (k1_pay2 s) (k1_pay5 (k1_pay3 n) (iota .tc S512x128 32 [1] iota_S512x128_d1_w32) (iota .tc S512x128 32 [0] iota_S512x128_d0_w32) 16#32 k1_pay4) w b

/-! ## The body's run -/

abbrev stagePt (c : Dev nD) {sp : Space} {S : Shape} {e : EltTy} (M : Memref sig .tc sp S e) (f : Buf (Elt F) (M.view.loc (c : Thread nD τ))) : sProp 𝕄 :=
  M.view.loc (c : Thread nD τ) ↦{fullShare} f

theorem final_run (c : Dev nD) (i : grid1.Coords) (s : S32x512x128.Idx → F .f32) (n : S32x64x128.Idx → F .f32) (w : S10x128.Idx → F .f32) (b : S1x10.Idx → F .f32)
    (o : S512x10.Idx → F .f32) (E : Set ℕ) (Q : PUnit → sProp (MT nD τ sig (HIx 1) (Elt F) ℕ UU ℕ)) :
    iprop(stagePt c (Memref.whole cc1_stg0_0) s ∗ stagePt c (Memref.whole cc1_stg1_0) n ∗ stagePt c (Memref.whole cc1_stg2_0) w ∗ stagePt c (Memref.whole cc1_stg3_0) b ∗ stagePt c (Memref.whole cc1_stg4_0) o
        ∗ (iprop(stagePt c (Memref.whole cc1_stg0_0) s ∗ stagePt c (Memref.whole cc1_stg1_0) n ∗ stagePt c (Memref.whole cc1_stg2_0) w ∗ stagePt c (Memref.whole cc1_stg3_0) b ∗ stagePt c (Memref.whole cc1_stg4_0) (finalOf s n w b)) -∗ Q ⟨⟩))
      ⊢ wp frame (wpE (defs₀ (F := F)) Variants.none (c : Thread nD τ) none) E
          (cc1__final_body i (Memref.whole cc1_stg0_0) (Memref.isWhole_whole _) (Memref.whole cc1_stg1_0) (Memref.isWhole_whole _) (Memref.whole cc1_stg2_0) (Memref.isWhole_whole _)
            (Memref.whole cc1_stg3_0) (Memref.isWhole_whole _) (Memref.whole cc1_stg4_0) (Memref.isWhole_whole _)) Q := by
  rw [cc1__final_body_eq_skeleton]
  iintro ⟨H0, H1, H2, H3, H4, Hk⟩
  sl_exec!
  sl_step
  iapply Hk
  isplitl [H0]; · iexact H0
  isplitl [H1]; · iexact H1
  isplitl [H2]; · iexact H2
  isplitl [H3]; · iexact H3
  have e : (Memref.whole cc1_stg4_0 : Memref sig .tc .vmem S512x10 .f32).view.writes (Elt F) (Memref.whole cc1_stg4_0).view.junk (final_run.sl.H4_1 s n w b) = finalOf s n w b := by
    unfold final_run.sl.H4_1
    unfold final_run.sl.r final_run.sl.r_2
    rw [View.writes_singleton]
    have h3 : (![0, 0, 0] : Fin 3 → ℕ) = fun _ => 0 := by decide
    have h2 : (![0, 0] : Fin 2 → ℕ) = fun _ => 0 := by decide
    refine (Memref.write_access_unit_zero_univ (Elt F) cc1_stg4_0 h2 _ _ _).trans ?_
    have e0 := Memref.readAt_unit_zero (Elt F) cc1_stg0_0 h3 inb_S32x512x128_S32x512x128_0_0_0 s
    have e1 := Memref.readAt_unit_zero (Elt F) cc1_stg1_0 h3 inb_S32x64x128_S32x64x128_0_0_0 n
    have e2 := Memref.readAt_unit_zero (Elt F) cc1_stg2_0 h2 inb_S10x128_S10x128_0_0 w
    have e3 := Memref.readAt_unit_zero (Elt F) cc1_stg3_0 h2 inb_S1x10_S1x10_0_0 b
    unfold finalOf
    exact congr (congr (congr (congrArg k1_pay1 (congrArg k1_pay2 e0))
      (congrArg (fun u => k1_pay5 (k1_pay3 u) (iota .tc S512x128 32 [1] iota_S512x128_d1_w32) (iota .tc S512x128 32 [0] iota_S512x128_d0_w32) 16#32 k1_pay4) e1)) e2) e3
  rw [e]
  iexact H4

/-! ## The proof data, at the contents on entry -/

/-- The five arrays' contents on entry, on each device. -/
structure Entry (F : FTy → Type) where
  s : Dev nD → S32x512x128.Idx → F .f32
  n : Dev nD → S32x64x128.Idx → F .f32
  w : Dev nD → S10x128.Idx → F .f32
  b : Dev nD → S1x10.Idx → F .f32
  o : Dev nD → S512x10.Idx → F .f32

variable (A : Entry F)

/-- The result. -/
abbrev Entry.out (c : Dev nD) : S512x10.Idx → F .f32 := finalOf (A.s c) (A.n c) (A.w c) (A.b c)

/-- The pairs a wait of the region may have recorded: those low enough for the calls' bookkeeping after the first call. -/
def lowPairs (c : Dev nD) : Set (SemLoc sig × HIx 1) := {p | (K (F := F)).lev ((c : Thread nD τ), p.1) p.2 ≤ 8 * 1}

def dat (c : Dev nD) : Dat τ (Elt F) (HIx 1) ℕ UU ℕ (cfg1) c where
  A w := match w with
    | ⟨0, _⟩ => A.s c
    | ⟨1, _⟩ => A.n c
    | ⟨2, _⟩ => A.w c
    | ⟨3, _⟩ => A.b c
    | ⟨4, _⟩ => A.o c
  after w _ := match w with
    | ⟨0, _⟩ => A.s c
    | ⟨1, _⟩ => A.n c
    | ⟨2, _⟩ => A.w c
    | ⟨3, _⟩ => A.b c
    | ⟨4, _⟩ => A.out c
  Φ _ := BI.emp
  q _ := fullShare
  owed _ := 0
  recorded _ := lowPairs (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat A c

theorem idx0 : ∀ a, win1_0.index t1_0 a = 0 := by decide +kernel
theorem idx1 : ∀ a, win1_1.index t1_0 a = 0 := by decide +kernel
theorem idx2 : ∀ a, win1_2.index t1_0 a = 0 := by decide +kernel
theorem idx3 : ∀ a, win1_3.index t1_0 a = 0 := by decide +kernel

theorem before_0 (c : Dev nD) (d : (cfg1.win 0).block.Idx → Elt F (cfg1.win 0).elt) : (dat A c).before 0 t1_0 d = A.s c := by
  unfold Dat.before; rw [if_pos (by decide)]
  refine Eq.trans (b := ((cfg1.win 0).blk t1_0).view.read (Elt F) (A.s c)) rfl ?_
  funext y; blk_simp
  exact congrArg (A.s c) (funext fun a => Fin.ext (win1_0.rect_emb_val_of_index_zero t1_0 a (idx0 a) y))
theorem before_1 (c : Dev nD) (d : (cfg1.win 1).block.Idx → Elt F (cfg1.win 1).elt) : (dat A c).before 1 t1_0 d = A.n c := by
  unfold Dat.before; rw [if_pos (by decide)]
  refine Eq.trans (b := ((cfg1.win 1).blk t1_0).view.read (Elt F) (A.n c)) rfl ?_
  funext y; blk_simp
  exact congrArg (A.n c) (funext fun a => Fin.ext (win1_1.rect_emb_val_of_index_zero t1_0 a (idx1 a) y))
theorem before_2 (c : Dev nD) (d : (cfg1.win 2).block.Idx → Elt F (cfg1.win 2).elt) : (dat A c).before 2 t1_0 d = A.w c := by
  unfold Dat.before; rw [if_pos (by decide)]
  refine Eq.trans (b := ((cfg1.win 2).blk t1_0).view.read (Elt F) (A.w c)) rfl ?_
  funext y; blk_simp
  exact congrArg (A.w c) (funext fun a => Fin.ext (win1_2.rect_emb_val_of_index_zero t1_0 a (idx2 a) y))
theorem before_3 (c : Dev nD) (d : (cfg1.win 3).block.Idx → Elt F (cfg1.win 3).elt) : (dat A c).before 3 t1_0 d = A.b c := by
  unfold Dat.before; rw [if_pos (by decide)]
  refine Eq.trans (b := ((cfg1.win 3).blk t1_0).view.read (Elt F) (A.b c)) rfl ?_
  funext y; blk_simp
  exact congrArg (A.b c) (funext fun a => Fin.ext (win1_3.rect_emb_val_of_index_zero t1_0 a (idx3 a) y))

theorem after_out (c : Dev nD) : (dat A c).arrAt 4 (cfg1).N = A.out c := by
  refine (dat A c).arrAt_eq_of_after_last 4 t1_0 (by decide +kernel) _ fun j => ?_
  blk_simp
  rfl

/-- A window's staging buffer at the point, held as a memref, is the buffer it is, held whole. -/
theorem owns_stage (c : Dev nD) (b : Ref sig .tc) (X : b.ty.Contents (Elt F)) :
    (owns (c : Thread nD τ) (Memref.whole b) fullShare X : sProp 𝕄) = iprop(((c : Thread nD τ).loc b) ↦{fullShare} X) := by
  rw [owns_whole_eq]
  have h1 : iprop(∃ f : Buf (Elt F) ((c : Thread nD τ).loc b), ⌜f = X⌝ ∗ (((c : Thread nD τ).loc b) ↦{fullShare} f)) ⊢ ((((c : Thread nD τ).loc b) ↦{fullShare} X) : sProp 𝕄) := by
    iintro ⟨%f, %hf, H⟩; subst hf; iexact H
  have h2 : ((((c : Thread nD τ).loc b) ↦{fullShare} X) : sProp 𝕄) ⊢ iprop(∃ f : Buf (Elt F) ((c : Thread nD τ).loc b), ⌜f = X⌝ ∗ (((c : Thread nD τ).loc b) ↦{fullShare} f)) := by
    iintro H; iexists _; isplitr; swap; (· iexact H); ipureintro; rfl
  exact BI.Entails.antisymm h1 h2

theorem owns_0 (c : Dev nD) (X : S32x512x128.Idx → F .f32) :
    (owns (c : Thread nD τ) ((cfg1.win 0).stage (cfg1.slots t1_0 0)) fullShare X : sProp 𝕄) = stagePt c (Memref.whole cc1_stg0_0) X :=
  owns_stage c cc1_stg0_0 X
theorem owns_1 (c : Dev nD) (X : S32x64x128.Idx → F .f32) :
    (owns (c : Thread nD τ) ((cfg1.win 1).stage (cfg1.slots t1_0 1)) fullShare X : sProp 𝕄) = stagePt c (Memref.whole cc1_stg1_0) X :=
  owns_stage c cc1_stg1_0 X
theorem owns_2 (c : Dev nD) (X : S10x128.Idx → F .f32) :
    (owns (c : Thread nD τ) ((cfg1.win 2).stage (cfg1.slots t1_0 2)) fullShare X : sProp 𝕄) = stagePt c (Memref.whole cc1_stg2_0) X :=
  owns_stage c cc1_stg2_0 X
theorem owns_3 (c : Dev nD) (X : S1x10.Idx → F .f32) :
    (owns (c : Thread nD τ) ((cfg1.win 3).stage (cfg1.slots t1_0 3)) fullShare X : sProp 𝕄) = stagePt c (Memref.whole cc1_stg3_0) X :=
  owns_stage c cc1_stg3_0 X
theorem owns_4 (c : Dev nD) (X : S512x10.Idx → F .f32) :
    (owns (c : Thread nD τ) ((cfg1.win 4).stage (cfg1.slots t1_0 4)) fullShare X : sProp 𝕄) = stagePt c (Memref.whole cc1_stg4_0) X :=
  owns_stage c cc1_stg4_0 X

theorem body_obligation (c : Dev nD) : BodyObligation (dat A c) (defs₀ (F := F)) Variants.none (none : HIx 1) Set.univ := fun t => by
  obtain rfl := fin_N1 t
  rw [bigSep_W1, bigSep_W1]
  rw [show (dat A c).Φ t1_0.castSucc = BI.emp from rfl, show (dat A c).Φ t1_0.succ = BI.emp from rfl,
    show (dat A c).owesAt none t1_0.succ = (dat A c).owesAt none t1_0.castSucc from rfl]
  iintro ⟨HΦ, Howes, ⟨%d0, H0⟩, ⟨%d1, H1⟩, ⟨%d2, H2⟩, ⟨%d3, H3⟩, ⟨%d4, H4⟩⟩
  rw [before_0, before_1, before_2, before_3]
  ihave H0 := (Entails.of_eq (owns_0 c (A.s c))) $$ H0
  ihave H1 := (Entails.of_eq (owns_1 c (A.n c))) $$ H1
  ihave H2 := (Entails.of_eq (owns_2 c (A.w c))) $$ H2
  ihave H3 := (Entails.of_eq (owns_3 c (A.b c))) $$ H3
  ihave H4 := (Entails.of_eq (owns_4 c _)) $$ H4
  iapply (final_run c _ (A.s c) (A.n c) (A.w c) (A.b c) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iapply (Entails.of_eq (owns_0 c (A.s c)).symm); iexact H0
  isplitl [H1]; · iapply (Entails.of_eq (owns_1 c (A.n c)).symm); iexact H1
  isplitl [H2]; · iapply (Entails.of_eq (owns_2 c (A.w c)).symm); iexact H2
  isplitl [H3]; · iapply (Entails.of_eq (owns_3 c (A.b c)).symm); iexact H3
  iapply (Entails.of_eq (owns_4 c (A.out c)).symm); iexact H4

/-! ## The region -/

abbrev wLoc (d : Dev nD) : Loc nD τ sig := (d : Thread nD τ).loc main_arg2
abbrev vLoc (d : Dev nD) : Loc nD τ sig := (d : Thread nD τ).loc main_v1
abbrev oLoc (d : Dev nD) : Loc nD τ sig := (d : Thread nD τ).loc main_v2

/-- The five arrays held at given contents. -/
abbrev five (c : Dev nD) (s : S32x512x128.Idx → F .f32) (n : S32x64x128.Idx → F .f32) (w : S10x128.Idx → F .f32) (b : S1x10.Idx → F .f32)
    (o : S512x10.Idx → F .f32) : sProp 𝕄 :=
  iprop((sLoc c ↦{fullShare} s) ∗ (nLoc c ↦{fullShare} n) ∗ (wLoc c ↦{fullShare} w) ∗ (vLoc c ↦{fullShare} b) ∗ (oLoc c ↦{fullShare} o))

theorem set_0 : (cfg1.win 0).arr.view.set = Finset.univ := View.set_whole _
theorem set_1 : (cfg1.win 1).arr.view.set = Finset.univ := View.set_whole _
theorem set_2 : (cfg1.win 2).arr.view.set = Finset.univ := View.set_whole _
theorem set_3 : (cfg1.win 3).arr.view.set = Finset.univ := View.set_whole _
theorem set_4 : (cfg1.win 4).arr.view.set = Finset.univ := View.set_whole _

theorem arrays_eq (c : Dev nD) (f : (w : Fin cfg1.W) → Buf (Elt F) ((cfg1.win w).arr.view.loc (c : Thread nD τ))) :
    ((dat A c).arrays f : sProp 𝕄) = five c (f 0) (f 1) (f 2) (f 3) (f 4) := by
  unfold Dat.arrays
  rw [bigSep_W1, (dat A c).share_full (fun _ => rfl) 0, (dat A c).share_full (fun _ => rfl) 1, (dat A c).share_full (fun _ => rfl) 2,
    (dat A c).share_full (fun _ => rfl) 3, (dat A c).share_full (fun _ => rfl) 4]
  unfold five
  rw [set_0, set_1, set_2, set_3, set_4]

/-- A wait of the region records a pair low enough. -/
theorem bound_low (c : Dev nD) (t) (W : Waits sig (HIx 1)) (h : (↑W : Set (SemLoc sig × HIx 1)) ⊆ (dat A c).bound none t) :
    (K (F := F)).WBelow (c : Thread nD τ) W (8 * 1) := fun p hp => by
  rcases h (Finset.mem_coe.mpr hp) with h | h
  · exact h
  · obtain ⟨w, s, rfl⟩ := h
    exact Nat.zero_le _

/-- What the region takes from the program: the five arrays, and nothing owed; -/
abbrev preOf (c : Dev nD) : sProp 𝕄 :=
  iprop(five c (A.s c) (A.n c) (A.w c) (A.b c) (A.o c) ∗ ∃ W, ⌜(K (F := F)).WBelow (c : Thread nD τ) W (8 * 1)⌝ ∗ owes (c : Thread nD τ) (0 : CellTallies nD τ sig (HIx 1)) W)
/-- and what it gives back. -/
abbrev postOf (c : Dev nD) : sProp 𝕄 :=
  iprop(five c (A.s c) (A.n c) (A.w c) (A.b c) (A.out c) ∗ ∃ W, ⌜(K (F := F)).WBelow (c : Thread nD τ) W (8 * 1)⌝ ∗ owes (c : Thread nD τ) (0 : CellTallies nD τ sig (HIx 1)) W)

set_option backward.isDefEq.respectTransparency.types false in
def reg : Pipeline.RegionSeg (pcfgs (F := F)) adm (pdats A) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A c).loose
  hwaits := Pipeline.hwaits_of_owed_zero _ _ _ _ _ _ 0 fun _ _ => rfl
  pre c := preOf A c
  post c := postOf A c
  X _ := BI.emp
  Y _ := BI.emp
  Z _ := BI.emp
  hentry c := by
    rw [Pipeline.ownSems0_none]
    have harr := arrays_eq A c ((dat A c).arrAt · 0)
    iintro ⟨⟨H5, HO⟩, -, -⟩
    imodintro
    isplitl [H5]; · iapply (Entails.of_eq harr.symm); iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats A 0 c).Φ 0 = BI.emp from rfl]
    iintro -; iempintro
  hout c := by
    rw [Pipeline.ownSems0_none, show (pdats A 0 c).Φ (Fin.last _) = BI.emp from rfl, scopedRest1_eq]
    iintro -
    isplitr; · iempintro
    isplitr <;> iempintro
  hexit c := by
    have harr := arrays_eq A c ((dat A c).arrAt · cfg1.N)
    rw [after_out, (dat A c).arrAt_in 0 rfl, (dat A c).arrAt_in 1 rfl, (dat A c).arrAt_in 2 rfl, (dat A c).arrAt_in 3 rfl] at harr
    iintro ⟨Ha, HO, -⟩
    imodintro
    isplitl [Ha]; · iapply (Entails.of_eq harr); iexact Ha
    unfold Pipeline.Dat.owesAt Pipeline.owesWithin
    icases HO with ⟨%W, %hW, HO⟩; iexists W; isplitr; · ipureintro; exact bound_low A c _ W hW
    iexact HO

theorem reg_pre (c : Dev nD) : (reg A).pre c = preOf A c := rfl
theorem reg_post (c : Dev nD) : (reg A).post c = postOf A c := rfl

end Cert.Proof.Pool
end
-- ==== Proof.Main.lean ====
/-
  The whole program: the tiles' call, the bias made a row, the second kernel. Every argument keeps its contents and the
  result is left at `outOf` of them.
-/
module

public import proofs.«01_k».proof.Proof.Region
@[expose] public section
noncomputable section
namespace Cert.Proof.Pool

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.ShloMosaic.Rounds Idealize.ShloMosaic.Tactic
open Idealize.ShloMosaic.StableHlo (held wp_hlo_within)
open Idealize.SL.BI.BIBase Idealize.SL.BI.Laws Idealize.SL.ProofMode Idealize.SL.Sem
open Idealize.ShloMosaic.Pipeline (cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The resource algebra's launch element -/

/-- The second kernel's rounds, the handshakes' beside them. -/
def EP : Emb UP 𝕄 :=
  ((Emb.inl : Emb UP (UP × Counters)).trans ((Emb.inr : Emb (UP × Counters) UU).trans
    (uEmb (nD := nD) (sig := sig) (Ix := HIx 1) (Val := Elt F) (Name := ℕ) (U := UU) (Lvl := ℕ)).toEmb))

instance : (EP (F := F)).LandsIn (upEmb : UEmb _ 𝕄) := by unfold EP; infer_instance

def u₀ : UU := (initOf (K (F := F)).hsCells (K (F := F)).hsToks,
  (initOf (Pipeline.cells cfgs cellOf_inj) (Pipeline.launchToks cfgs cellOf_inj), 1))

/-- What a device's program keeps for the second kernel. -/
abbrev G (d : Dev nD) : sProp 𝕄 := iprop(cellsGhost (Pipeline.pin (pcfgs (F := F)) adm) EP 0 d ∗ toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave HP := (Entails.of_eq (show BI.own (((Emb.inl : Emb UP (UP × Counters)).trans embR) (initOf (Pipeline.cells cfgs cellOf_inj) (Pipeline.launchToks cfgs cellOf_inj)))
    = (BI.own ((EP (F := F)) (initOf (Pipeline.cells (Pipeline.pin (pcfgs (F := F)) adm) cellOf_inj) (Pipeline.launchToks (Pipeline.pin (pcfgs (F := F)) adm) cellOf_inj))) : sProp 𝕄) from rfl)) $$ HP
  ihave Hf := (Pipeline.fund_ghost (Pipeline.pin (pcfgs (F := F)) adm) (EP (F := F)) cellOf_inj) $$ HP
  imod Hf with ⟨Hc, Ht⟩
  imodintro
  isplitl [HH]; · iexact HH
  isplitl [Hc Ht]
  · have e1 : (bigSep Finset.univ fun c : Dev nD => bigSep Finset.univ fun p : Fin 1 => (cellsGhost (Pipeline.pin (pcfgs (F := F)) adm) EP p c : sProp 𝕄))
        = bigSep Finset.univ fun c : Dev nD => cellsGhost (Pipeline.pin (pcfgs (F := F)) adm) EP 0 c := bigSep_congr fun _ _ => bigSep_univ_of_subsingleton (0 : Fin 1)
    have e2 : (bigSep Finset.univ fun c : Dev nD => bigSep Finset.univ fun p : Fin 1 => (toksInit (Pipeline.pin (pcfgs (F := F)) adm) EP p c : sProp 𝕄))
        = bigSep Finset.univ fun c : Dev nD => toksInit (Pipeline.pin (pcfgs (F := F)) adm) EP 0 c := bigSep_congr fun _ _ => bigSep_univ_of_subsingleton (0 : Fin 1)
    rw [bigSep_sep', ← e1, ← e2]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev aLoc (d : Dev nD) : Loc nD τ sig := (d : Thread nD τ).loc main_arg3

theorem unscopedBufs_eq (d : Dev nD) (W : (b : Ref sig .tc) → Buf (Elt F) ((d.tc : Thread nD τ).loc b)) :
    (unscopedBufs d W : sProp 𝕄)
      = iprop((xLoc d ↦{fullShare} W main_arg0) ∗ (bLoc d ↦{fullShare} W main_arg1) ∗ (wLoc d ↦{fullShare} W main_arg2) ∗ (aLoc d ↦{fullShare} W main_arg3)
        ∗ (sLoc d ↦{fullShare} W main_v0_0) ∗ (nLoc d ↦{fullShare} W main_v0_1) ∗ (vLoc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0_0, main_v0_1, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The bias as a row. -/
abbrev rowOf (a : S10.Idx → F .f32) : S1x10.Idx → F .f32 := fun i => shapeCast S1x10 a shapeCasts_S10_S1x10 i

/-- What the second kernel starts from. -/
def entry : Entry F where
  s d := sumsOf (m (xLoc d)) (m (bLoc d))
  n d := cntsOf (m (bLoc d))
  w d := m (wLoc d)
  b d := rowOf (m (aLoc d))
  o d := m (oLoc d)

/-- The result. -/
abbrev outOf (d : Dev nD) : S512x10.Idx → F .f32 := (entry m).out d

abbrev a' : DevRef τ sig := Proc.devRef .tc (main_arg3 : Ref sig .tc)
abbrev v' : DevRef τ sig := Proc.devRef .tc (main_v1 : Ref sig .tc)
abbrev opRow : HloOp τ sig (Elt F) := StableHlo.reshape main_arg3 main_v1 (rfl : (.f32 : EltTy) = .f32) shapeCasts_S10_S1x10

theorem held_two (d : Dev nD) (W : Valuation τ sig (Elt F)) :
    (held (T d) {a', v'} W : sProp 𝕄) = iprop((aLoc d ↦{fullShare} W a') ∗ (vLoc d ↦{fullShare} W v')) := by
  unfold held
  rw [SparseCore.bigSep_insert' (by decide), bigSep_singleton]

def V0 (d : Dev nD) : Valuation τ sig (Elt F) := fun b => m (d, b)
theorem V0_a (d : Dev nD) : V0 m d a' = m (aLoc d) := rfl
theorem V0_v (d : Dev nD) : V0 m d v' = m (vLoc d) := rfl
theorem row_a (d : Dev nD) : (opRow (F := F)).result (V0 m d) a' = m (aLoc d) := StableHlo.reshape_result_ne (x := main_arg3) (y := main_v1) _ _ _ _ _ (by decide)
theorem row_v (d : Dev nD) : (opRow (F := F)).result (V0 m d) v' = rowOf (m (aLoc d)) := StableHlo.reshape_result main_arg3 main_v1 _ _ _ _ _

/-- What @main leaves the claim. -/
abbrev FIN (d : Dev nD) : sProp 𝕄 :=
  iprop((xLoc d ↦{fullShare} m (xLoc d)) ∗ (bLoc d ↦{fullShare} m (bLoc d)) ∗ (wLoc d ↦{fullShare} m (wLoc d)) ∗ (aLoc d ↦{fullShare} m (aLoc d))
    ∗ (oLoc d ↦{fullShare} outOf m d))

/-- The second kernel's call, from the boundary. -/
theorem wp_region (d : Dev nD) (A : Entry F) {Q : PUnit → sProp (MT nD τ sig (HIx 1) (Elt F) ℕ UU ℕ)} :
    iprop((iprop(boundary (T d) ∗ postOf A d) -∗ Q ⟨⟩) ∗ boundary (T d) ∗ preOf A d ∗ levAts (K (F := F)).L (K (F := F)).lev ∗ G d)
      ⊢ wp frame (wpE ((K (F := F)).defs (D (F := F))) 𝒱 (T d) none) Set.univ
          (Prog.lift (.customCall (SparseCore.inner (Pipeline.entry 0)) ())) Q := by
  change _ ⊢ wp frame (wpE ((K (F := F)).defs (D (F := F))) 𝒱 (T d) none) Set.univ
          (SparseCore.liftProg (.op (.customCall (Pipeline.entry 0) ()) .ret)) Q
  iintro ⟨Hk, Hb, Hpre, Hlev, HG⟩
  iapply ((K (F := F)).wp_liftProg (D (F := F)) 𝒱 (T d) Set.univ none)
  iapply (Pipeline.RegionSeg.wp (pcfgs (F := F)) adm (pdats A) (none : HIx 1) cellOf_inj EP defs₀ 𝒱₀ (K (F := F)).L (K (F := F)).lev (reg A) d none (fun _ h => nomatch h) _ Q)
  rw [reg_pre, reg_post]
  isplitl [Hk]
  · iintro H
    rw [wp_ret]; imodintro
    iapply Hk; iexact H
  isplitl [Hb]; · iexact Hb
  isplitl [Hpre]; · iexact Hpre
  isplitl [Hlev]; · iexact Hlev
  iexact HG

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hg, Hw, Ha, Hs, Hn, Hv, Ho⟩, Hts, -⟩, HG⟩
  iapply ((K (F := F)).wp_run (D (F := F)) 𝒱 (EH := EH) (P := P m) κ d 0) $$ [Hst Hx Hg Hw Ha Hs Hn Hv Ho Hb Hts HG]
  isplitr; · iexact Hctx
  isplitl [Hst]; · iexact Hst
  isplitl [Hx Hg Hs Hn]
  · rw [st0_eq]
    isplitl [Hx]; · iexact Hx
    isplitl [Hg]; · iexact Hg
    isplitl [Hs]; · iexact Hs
    iexact Hn
  iintro ⟨Hst, Hdn⟩
  ihave Hdn' := (Entails.of_eq (dn0_eq m d)) $$ Hdn
  icases Hdn' with ⟨Hx, Hg, Hs, Hn⟩
  iapply (wp_hlo_within 𝒱 (SparseCore.T d) none Set.univ (op := opRow) (S := {a', v'}) (show ({a', v'} : Finset (DevRef τ sig)) ⊆ {a', v'} from le_rfl) (V := V0 m d)) $$ [Hb Ha Hv]
  · isplitl [Hb]; · iexact Hb
    rw [held_two, V0_a, V0_v]
    isplitl [Ha]; · iexact Ha
    iexact Hv
  iintro ⟨Hb, Hheld⟩
  ihave Hh := (Entails.of_eq (held_two (F := F) d _)) $$ Hheld
  rw [row_a, row_v]
  icases Hh with ⟨Ha, Hv⟩
  rw [wp_ret]; imodintro
  unfold SparseCore.Cfg.tcSt
  icases Hst with ⟨⟨%W, %hW, HO⟩, Hst⟩
  ihave Hlev := (SparseCore.Cfg.ctx_levAts κ) $$ Hctx
  iapply (wp_region d (entry m)) $$ [Hb Hs Hn Hw Hv Ho HO HG Hst Hx Hg Ha Hts Hlev]
  isplitl [Hst Hx Hg Ha Hts]
  · iintro ⟨Hb, ⟨⟨Hs, Hn, Hw, Hv, Ho⟩, %W', %hW', HO⟩⟩
    imodintro
    isplitl [HO Hst]
    · isplitl [HO]
      · iexists W'; isplitr; · ipureintro; exact hW'
        rw [K.Otc_end d le_rfl]; iexact HO
      iexact Hst
    isplitr [Hb Hts]
    · isplitl [Hx]; · iexact Hx
      isplitl [Hg]; · iexact Hg
      isplitl [Hw]; · iexact Hw
      isplitl [Ha]; · iexact Ha
      iexact Ho
    isplitl [Hb] <;> iassumption
  isplitl [Hb]; · iexact Hb
  isplitl [Hs Hn Hw Hv Ho HO]
  · isplitr [HO]
    · isplitl [Hs]; · iexact Hs
      isplitl [Hn]; · iexact Hn
      isplitl [Hw]; · iexact Hw
      isplitl [Hv]; · iexact Hv
      iexact Ho
    iexists W; isplitr; · ipureintro; exact hW
    iapply (Entails.of_eq (congrArg (fun O => (owes (T d) O W : sProp 𝕄)) (SparseCore.Cfg.Otc_end K d (n := 0 + 1) le_rfl))); iexact HO
  isplitl [Hlev]; · iexact Hlev
  iexact HG

/-! ## The program's run -/

def fq (d : Dev nD) (s' : Phys nD τ sig (Elt F)) : Prop :=
  s'.mem.mem (xLoc d) = m (xLoc d) ∧ s'.mem.mem (bLoc d) = m (bLoc d) ∧ s'.mem.mem (wLoc d) = m (wLoc d) ∧ s'.mem.mem (aLoc d) = m (aLoc d)
    ∧ s'.mem.mem (oLoc d) = outOf m d

/-- A buffer held whole is what the machine's memory has there. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨Hx, Hg, Hw, Ha, Ho⟩, HSI⟩
  ihave H := (agree s' (xLoc d) _) $$ [HSI Hx]; · isplitl [Hx] <;> iassumption
  icases H with ⟨%hx, HSI⟩
  ihave H := (agree s' (bLoc d) _) $$ [HSI Hg]; · isplitl [Hg] <;> iassumption
  icases H with ⟨%hg, HSI⟩
  ihave H := (agree s' (wLoc d) _) $$ [HSI Hw]; · isplitl [Hw] <;> iassumption
  icases H with ⟨%hw, HSI⟩
  ihave H := (agree s' (aLoc d) _) $$ [HSI Ha]; · isplitl [Ha] <;> iassumption
  icases H with ⟨%ha, HSI⟩
  ihave H := (agree s' (oLoc d) _) $$ [HSI Ho]; · isplitl [Ho] <;> iassumption
  icases H with ⟨%ho, HSI⟩
  ipureintro; exact ⟨hx, hg, hw, ha, ho⟩

def QC : PUnit × MemSt nD τ sig (Elt F) → Prop := fun r =>
  (∀ c : Dev nD, r.2.mem (xLoc c) = m (xLoc c) ∧ r.2.mem (bLoc c) = m (bLoc c) ∧ r.2.mem (wLoc c) = m (wLoc c) ∧ r.2.mem (aLoc c) = m (aLoc c)
    ∧ r.2.mem (oLoc c) = outOf m c) ∧ r.2.sem = fun _ => 0

theorem run_main [∀ e, Nonempty (Elt F e)] (hb : ∀ d r, (m (bLoc d) r).toNat < 512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hb)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Pool
end
-- ==== Proof.Frames.lean ====
/-
  The claims on how the programs end: from segment ids in range, the kernel and its idealization run to the end with
  their arguments unchanged and every counter at zero; the reference does from any arguments.
-/
module

public import proofs.«01_k».proof.Defs
public import proofs.«01_k».proof.Proof.Gen.Kernel
public import proofs.«01_k».proof.Proof.Gen.Pre_batch_in_range
public import proofs.«01_k».proof.Proof.Gen.ReferenceIdeal.Run
public import Idealize.ShloMosaic.Lib.ReduceAll
public import proofs.«01_k».proof.Proof.Same
public import proofs.«01_k».proof.Proof.Main
@[expose] public section
noncomputable section
namespace Cert.Proof.Pool

open Idealize.ShloMosaic Idealize.ShloMosaic.TcCoe Idealize.SL.Sem

/-- A word between 0 and 511 as the precondition compares it. -/
theorem id_word_lt (v : BitVec 32) (e : IntOp.andi (IntOp.cmpi .sge v 0#32) (IntOp.cmpi .slt v 512#32) = 1#1) : v.toNat < 512 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-- The precondition bounds every segment id. -/
theorem ids_lt {F : FTy → Type} [FloatOps F] (x : FVec F Cert.Pre_batch_in_range.S100000x128 .f32) (b : IVec Cert.Pre_batch_in_range.S100000 32)
    (w : FVec F Cert.Pre_batch_in_range.S10x128 .f32) (a : FVec F Cert.Pre_batch_in_range.S10 .f32)
    (h : Cert.Pre_batch_in_range.fn (F := F) x b w a = fun _ => 1#1) (r : Cert.Pre_batch_in_range.S100000.Idx) : (b r).toNat < 512 := by
  have : Subsingleton Cert.Pre_batch_in_range.S_.Idx := ⟨fun i j => funext fun k => k.elim0⟩
  have e := congrFun h (fun k => k.elim0)
  have e' : IntOp.andi (IntOp.cmpi .sge (b r) 0#32) (IntOp.cmpi .slt (b r) 512#32) = 1#1 := Host.reduce_andi_all _ _ _ _ _ e r
  exact id_word_lt _ e'

theorem frame_kernelIdeal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (run_main (F := Ideal) m ρ fun d r => ids_lt _ _ _ _ (hpre d) r)

/-- The run read at the arguments and the counters, the floats being words. -/
theorem frame_bits (m : (ℓ : Loc Cert.KernelIdeal.nD Cert.KernelIdeal.τ Cert.KernelIdeal.sig) → Buf (Elt Bits) ℓ)
    (ρ : Dev Cert.KernelIdeal.nD → PrngReg) (hb : ∀ d r, (m (bLoc d) r).toNat < 512) :
    θ_run (Cert.KernelIdeal.defs (F := Bits)) (Cert.KernelIdeal.threads (F := Bits)) ⟨m, fun _ => 0, ρ⟩ (fun r =>
      (∀ c, r.2.mem (xLoc c) = m (xLoc c) ∧ r.2.mem (bLoc c) = m (bLoc c) ∧ r.2.mem (wLoc c) = m (wLoc c) ∧ r.2.mem (aLoc c) = m (aLoc c))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (run_main (F := Bits) m ρ hb)

theorem frame_kernel : Cert.quiescent_Kernel := fun m ρ hpre => by
  rw [defs_same]
  exact frame_bits m ρ fun d r => ids_lt _ _ _ _ (hpre d) r

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_batch_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Pool
end
-- ==== Proof.Sums.lean ====
/-
  What the tiles' arrays hold over the extended reals: the sums of their own chunks' rows, segment by segment, which
  together are the segments' sums over all rows; the counts alike.
-/
module

public import Idealize.ShloMosaic.Lib.Pointwise
public import proofs.«01_k».proof.Proof.Tile
@[expose] public section
noncomputable section
namespace Cert.Proof.Pool

open Cert.KernelIdeal Cert.KernelIdeal.Gen
open Idealize.ShloMosaic
open Finset (range sum_range_succ sum_congr)

/-! ## Sums cut into blocks -/

section Blocks

variable {M : Type} [AddCommMonoid M]

/-- A sum over `n` blocks of `m` is the sum over `m * n`. -/
theorem sum_blocks (f : ℕ → M) (m n : ℕ) : (∑ i ∈ range n, ∑ k ∈ range m, f (m * i + k)) = ∑ r ∈ range (m * n), f r := by
  induction n with
  | zero => simp
  | succ n ih => rw [sum_range_succ, ih, Nat.mul_succ, Finset.sum_range_add]

/-- The tiles' chunks are all the 625 chunks. -/
theorem sum_tiles (h : ℕ → M) : (∑ w ∈ range 32, ∑ j ∈ range (chunks w), h (w + 32 * j)) = ∑ n ∈ range 625, h n := by
  have e1 : ∀ w ∈ range 32, (∑ j ∈ range (chunks w), h (w + 32 * j)) = ∑ j ∈ range 20, if w + 32 * j < 625 then h (w + 32 * j) else 0 := by
    intro w hw
    have hw : w < 32 := Finset.mem_range.1 hw
    rw [← Finset.sum_filter]
    refine Finset.sum_congr (Finset.ext fun j => ?_) fun _ _ => rfl
    simp only [Finset.mem_range, Finset.mem_filter]
    unfold chunks
    split <;> omega
  rw [sum_congr rfl e1, Finset.sum_comm]
  have e2 : ∀ j ∈ range 20, (∑ w ∈ range 32, if w + 32 * j < 625 then h (w + 32 * j) else 0)
      = ∑ w ∈ range 32, (fun n => if n < 625 then h n else 0) (32 * j + w) :=
    fun j _ => sum_congr rfl fun w _ => by simp only [Nat.add_comm w]
  rw [sum_congr rfl e2, sum_blocks (fun n => if n < 625 then h n else 0) 32 20, ← Finset.sum_filter]
  refine Finset.sum_congr (Finset.ext fun n => ?_) fun _ _ => rfl
  simp only [Finset.mem_range, Finset.mem_filter]
  omega

end Blocks

/-! ## The words of the constants -/

theorem word_zero : Ideal.ofBits .f32 0x00000000#32 = 0 := by pointwise
theorem zero_eq : (zero : Ideal .f32) = 0 := word_zero

/-! ## A tile's sums and counts -/

/-- Row `r` as a member of segment `g`: `v` if it is one, nothing if not. -/
def hit (b : Segs) (g r : ℕ) (v : EReal) : EReal := if (b (ix1 (tabIx r))).toNat = g then v else 0

theorem accN_apply (A : Acc Ideal) (X : XBuf Ideal) (B : BBuf) (n : ℕ) (g : Fin 512) (c : Fin 128) :
    accN A X B n (ix2 g c) = A (ix2 g c) + ∑ k ∈ range n, if seg B k = g.val then X (ix2 (rowIx k) c) else (0 : EReal) := by
  induction n with
  | zero => simp [accN]
  | succ n ih =>
    rw [sum_range_succ, ← add_assoc, ← ih]
    show (if g.val = seg B n then (accN A X B n (ix2 g c) + X (ix2 (rowIx n) c) : EReal) else accN A X B n (ix2 g c)) = _
    by_cases h : seg B n = g.val
    · rw [if_pos h, if_pos h.symm]
    · rw [if_neg h, if_neg (Ne.symm h), add_zero]

theorem cntN_apply (C : Cnt Ideal) (B : BBuf) (n : ℕ) (r : Fin 64) (l : Fin 128) :
    cntN C B n (ix2 r l) = C (ix2 r l) + ∑ k ∈ range n, if seg B k = 8 * r.val + l.val / 16 then one (F := Ideal) else 0 := by
  induction n with
  | zero => simp [cntN]
  | succ n ih =>
    rw [sum_range_succ, ← add_assoc, ← ih]
    show (if r.val = seg B n / 8 ∧ 16 * (seg B n % 8) ≤ l.val ∧ l.val < 16 * (seg B n % 8) + 16
      then (cntN C B n (ix2 r l) + one (F := Ideal) : EReal) else cntN C B n (ix2 r l)) = _
    by_cases h : seg B n = 8 * r.val + l.val / 16
    · rw [if_pos h, if_pos (by have := l.isLt; omega)]
    · rw [if_neg h, if_neg (by have := l.isLt; omega), add_zero]

theorem rowIx_val {k : ℕ} (hk : k ∈ range 160) : (rowIx k).val = k := Nat.mod_eq_of_lt (Finset.mem_range.1 hk)

theorem tAcc_apply (x : Rows Ideal) (b : Segs) (w n : ℕ) (g : Fin 512) (c : Fin 128) :
    tAcc x b w n (ix2 g c) = ∑ j ∈ range n, ∑ k ∈ range 160, hit b g.val (160 * (w + 32 * j) + k) (x (ix2 (tabIx (160 * (w + 32 * j) + k)) c)) := by
  induction n with
  | zero => simpa [tAcc] using zero_eq
  | succ n ih =>
    rw [sum_range_succ, ← ih]
    refine (accN_apply _ _ _ _ _ _).trans (congrArg (tAcc x b w n (ix2 g c) + ·) (sum_congr rfl fun k hk => ?_))
    show (if (b (ix1 (tabIx (160 * (w + 32 * n) + (rowIx k).val)))).toNat = g.val
      then x (ix2 (tabIx (160 * (w + 32 * n) + (rowIx k).val)) c) else (0 : EReal)) = _
    rw [rowIx_val hk]; rfl

theorem tCnt_apply (b : Segs) (w n : ℕ) (r : Fin 64) (l : Fin 128) :
    tCnt (F := Ideal) b w n (ix2 r l)
      = ∑ j ∈ range n, ∑ k ∈ range 160, hit b (8 * r.val + l.val / 16) (160 * (w + 32 * j) + k) (one (F := Ideal)) := by
  induction n with
  | zero => simpa [tCnt] using zero_eq
  | succ n ih =>
    rw [sum_range_succ, ← ih]
    refine (cntN_apply _ _ _ _ _).trans (congrArg (tCnt (F := Ideal) b w n (ix2 r l) + ·) (sum_congr rfl fun k hk => ?_))
    show (if (b (ix1 (tabIx (160 * (w + 32 * n) + (rowIx k).val)))).toNat = 8 * r.val + l.val / 16 then (one (F := Ideal)) else (0 : EReal)) = _
    rw [rowIx_val hk]; rfl

/-! ## The tiles together -/

/-- The tiles' blocks of 160 rows are all the 100000 rows. -/
theorem sum_rows (f : ℕ → EReal) :
    (∑ w : Fin 32, ∑ j ∈ range (chunks w.val), ∑ k ∈ range 160, f (160 * (w.val + 32 * j) + k)) = ∑ r ∈ range 100000, f r := by
  rw [Fin.sum_univ_eq_sum_range (fun w => ∑ j ∈ range (chunks w), ∑ k ∈ range 160, f (160 * (w + 32 * j) + k)) 32,
    sum_tiles (fun n => ∑ k ∈ range 160, f (160 * n + k)), sum_blocks f 160 625]

/-- Segment `g`'s sum of the rows' values `v`. -/
def total (b : Segs) (g : ℕ) (v : ℕ → EReal) : EReal := ∑ r ∈ range 100000, hit b g r (v r)

theorem sumsOf_total (x : Rows Ideal) (b : Segs) (g : Fin 512) (c : Fin 128) :
    (∑ w : Fin 32, sumsOf x b (ix3 w g c)) = total b g.val fun r => x (ix2 (tabIx r) c) :=
  (sum_congr rfl fun w _ => tAcc_apply x b w.val (chunks w.val) g c).trans
    (sum_rows fun r => hit b g.val r (x (ix2 (tabIx r) c)))

theorem cntsOf_total (b : Segs) (r : Fin 64) (l : Fin 128) :
    (∑ w : Fin 32, cntsOf (F := Ideal) b (ix3 w r l)) = total b (8 * r.val + l.val / 16) fun _ => one (F := Ideal) :=
  (sum_congr rfl fun w _ => tCnt_apply b w.val (chunks w.val) r l).trans
    (sum_rows fun n => hit b (8 * r.val + l.val / 16) n (one (F := Ideal)))

end Cert.Proof.Pool
end
-- ==== Proof.Final.lean ====
/-
  The second kernel over the extended reals: it adds the tiles' arrays, reads each segment's count out of its sixteen
  lanes, takes the means and applies the linear head.
-/
module

public import proofs.«01_k».proof.Proof.Sums
public import proofs.«01_k».proof.Proof.Main
@[expose] public section
noncomputable section
namespace Cert.Proof.Pool

open Cert.KernelIdeal Cert.KernelIdeal.Gen
open Idealize.ShloMosaic
open Finset (range sum_congr)

/-! ## The words of the masks -/

/-- Division rounded down, as the kernel spells it over words. -/
def floorDiv (x d : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The remainder of that division, as the kernel spells it. -/
def floorMod (x d : BitVec 32) : BitVec 32 :=
  Scalar.select
    (IntOp.andi (IntOp.xori (IntOp.cmpi .slt (IntOp.remsi .vector x d) 0#32) (Scalar.cmpi .slt d 0#32))
      (IntOp.cmpi .ne (IntOp.remsi .vector x d) 0#32))
    (IntOp.addi (IntOp.remsi .vector x d) d) (IntOp.remsi .vector x d)

theorem floorDiv_8 : ∀ g : Fin 512, floorDiv (BitVec.ofNat 32 g.val) 8#32 = BitVec.ofNat 32 (g.val / 8) := by decide +kernel
theorem floorDiv_16 : ∀ l : Fin 128, floorDiv (BitVec.ofNat 32 l.val) 16#32 = BitVec.ofNat 32 (l.val / 16) := by decide +kernel
theorem floorMod_8 : ∀ g : Fin 512, floorMod (BitVec.ofNat 32 g.val) 8#32 = BitVec.ofNat 32 (g.val % 8) := by decide +kernel

/-- A choice by equality of two small numbers' words is one by their equality. -/
theorem select_ofNat {α : Type} {m n : ℕ} (hm : m < 2 ^ 32) (hn : n < 2 ^ 32) (u v : α) :
    Scalar.select (IntOp.cmpi .eq (BitVec.ofNat 32 m) (BitVec.ofNat 32 n)) u v = if m = n then u else v := by
  by_cases h : m = n
  · subst h; simp [Scalar.select, IntOp.cmpi]
  · have hne : BitVec.ofNat 32 m ≠ BitVec.ofNat 32 n := fun e => h (by
      have := congrArg BitVec.toNat e
      rwa [BitVec.toNat_ofNat, BitVec.toNat_ofNat, Nat.mod_eq_of_lt hm, Nat.mod_eq_of_lt hn] at this)
    have hb : (BitVec.ofNat 32 m == BitVec.ofNat 32 n) = false := beq_eq_false_iff_ne.2 hne
    simp [Scalar.select, IntOp.cmpi, h, hb]

/-! ## The kernel's steps at an index -/

set_option maxRecDepth 16384

theorem pay2_apply (s : S32x512x128.Idx → Ideal .f32) (g : Fin 512) (c : Fin 128) :
    k1_pay2 (F := Ideal) s (ix2 g c) = ∑ w : Fin 32, s (ix3 w g c) := by
  pointwise [k1_pay2]

theorem pay3_apply (n : S32x64x128.Idx → Ideal .f32) (g : Fin 512) (l : Fin 128) :
    k1_pay3 (F := Ideal) n (ix2 g l) = ∑ q : Fin 64, if q.val = g.val / 8 then (∑ w : Fin 32, n (ix3 w q l) : EReal) else 0 := by
  pointwise [k1_pay3]
  refine sum_congr rfl fun q _ => ?_
  show Scalar.select (IntOp.cmpi .eq (BitVec.ofNat 32 q.val) (floorDiv (BitVec.ofNat 32 g.val) 8#32)) _ _ = _
  rw [floorDiv_8, select_ofNat (by omega) (by omega)]

theorem pay5_apply (e : S512x128.Idx → Ideal .f32) (g : Fin 512) :
    k1_pay5 (F := Ideal) e (iota .tc S512x128 32 [1] iota_S512x128_d1_w32) (iota .tc S512x128 32 [0] iota_S512x128_d0_w32) 16#32 k1_pay4 (ix1 g)
      = ∑ l : Fin 128, if l.val / 16 = g.val % 8 then (e (ix2 g l) : EReal) else 0 := by
  pointwise [k1_pay5, k1_pay4]
  refine sum_congr rfl fun l _ => ?_
  show Scalar.select (IntOp.cmpi .eq (floorDiv (BitVec.ofNat 32 l.val) 16#32) (floorMod (BitVec.ofNat 32 g.val) 8#32)) _ _ = _
  rw [floorDiv_16, floorMod_8, select_ofNat (by omega) (by omega)]

theorem pay1_apply (s : S512x128.Idx → Ideal .f32) (n : S512.Idx → Ideal .f32) (w : S10x128.Idx → Ideal .f32) (b : S1x10.Idx → Ideal .f32) (g : Fin 512) (t : Fin 10) :
    k1_pay1 (F := Ideal) s n w b (ix2 g t)
      = (∑ c : Fin 128, Ideal.div (s (ix2 g c)) (max (Ideal.div (n (ix1 g)) (Ideal.ofBits .f32 0x41800000#32)) 1) * w (ix2 t c)) + b (ix2 0 t) := by
  pointwise [k1_pay1]

/-! ## A segment's count -/

/-- How many of the rows are segment `g`'s. -/
def members (b : Segs) (g : ℕ) : ℕ := ((range 100000).filter fun r => (b (ix1 (tabIx r))).toNat = g).card

theorem one_eq : one (F := Ideal) = (1 : EReal) := by
  show Ideal.ofBits .f32 0x3F800000#32 = 1
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

theorem total_one (b : Segs) (g : ℕ) : total b g (fun _ => one (F := Ideal)) = (((members b g : ℕ) : ℝ) : EReal) := by
  unfold total hit members
  rw [one_eq, ← Finset.sum_filter, Finset.sum_const, EReal.nsmul_eq_mul, mul_one, EReal.coe_natCast]

/-- The sixteen lanes of a segment's counts, added and divided by sixteen, are its count. -/
theorem count_apply (b : Segs) (g : Fin 512) :
    Ideal.div (k1_pay5 (F := Ideal) (k1_pay3 (cntsOf (F := Ideal) b)) (iota .tc S512x128 32 [1] iota_S512x128_d1_w32) (iota .tc S512x128 32 [0] iota_S512x128_d0_w32) 16#32 k1_pay4 (ix1 g))
      (Ideal.ofBits .f32 0x41800000#32) = (((members b g.val : ℕ) : ℝ) : EReal) := by
  have hg := g.isLt
  have lanes : ∀ l : Fin 128, (if l.val / 16 = g.val % 8 then (k1_pay3 (F := Ideal) (cntsOf (F := Ideal) b) (ix2 g l) : EReal) else 0)
      = if l.val / 16 = g.val % 8 then (((members b g.val : ℕ) : ℝ) : EReal) else 0 := by
    intro l
    refine if_ctx_congr Iff.rfl (fun h => ?_) fun _ => rfl
    rw [pay3_apply, Finset.sum_eq_single (⟨g.val / 8, by omega⟩ : Fin 64) (fun q _ hq => if_neg fun e => hq (Fin.ext e)) (fun h => absurd (Finset.mem_univ _) h),
      if_pos rfl, cntsOf_total, total_one, show 8 * (⟨g.val / 8, by omega⟩ : Fin 64).val + l.val / 16 = g.val by rw [h]; exact Nat.div_add_mod g.val 8]
  have hcard : ∀ q : Fin 8, (Finset.univ.filter fun l : Fin 128 => l.val / 16 = q.val).card = 16 := by decide +kernel
  rw [pay5_apply, sum_congr rfl fun l _ => lanes l, ← Finset.sum_filter, Finset.sum_const,
    hcard ⟨g.val % 8, by omega⟩, sixteen_eq, Ideal.div_coe (by norm_num), EReal.nsmul_eq_mul]
  rw [show ((16 : ℕ) : EReal) = ((16 : ℝ) : EReal) by norm_cast, ← EReal.coe_mul, ← EReal.coe_mul]
  congr 1
  ring

/-! ## The kernel's result -/

/-- The mean-pooled linear head at segment `g` and output `t`. -/
def pooled (x : Rows Ideal) (b : Segs) (w : S10x128.Idx → Ideal .f32) (a : S10.Idx → Ideal .f32) (g : Fin 512) (t : Fin 10) : EReal :=
  (∑ c : Fin 128, Ideal.div (total b g.val fun r => x (ix2 (tabIx r) c)) (max (((members b g.val : ℕ) : ℝ) : EReal) 1) * w (ix2 t c)) + a (ix1 t)

theorem rowOf_apply (a : S10.Idx → Ideal .f32) (t : Fin 10) : rowOf a (ix2 0 t) = a (ix1 t) := by
  pointwise [rowOf]

theorem finalOf_pooled (x : Rows Ideal) (b : Segs) (w : S10x128.Idx → Ideal .f32) (a : S10.Idx → Ideal .f32) (g : Fin 512) (t : Fin 10) :
    finalOf (sumsOf x b) (cntsOf b) w (rowOf a) (ix2 g t) = pooled x b w a g t := by
  unfold finalOf pooled
  rw [pay1_apply, count_apply, rowOf_apply]
  refine congrArg (· + a (ix1 t)) (sum_congr rfl fun c _ => ?_)
  rw [pay2_apply, sumsOf_total]

end Cert.Proof.Pool
end
-- ==== Proof.Segments.lean ====
/-
  The reference over the extended reals: its two scatters add each row, and each one, at the row's segment, and its
  result is the same mean-pooled linear head.
-/
module

public import proofs.«01_k».proof.Proof.Final
public import proofs.«01_k».proof.Proof.Gen.ReferenceIdeal.Run
public import Idealize.ShloMosaic.Lib.Routing.OpsOne
@[expose] public section
noncomputable section
namespace Cert.Proof.Pool

open Cert.ReferenceIdeal Cert.ReferenceIdeal.Gen
open Idealize.ShloMosaic
open Finset (range sum_congr)

/-! ## Where an update lands -/

theorem start_row {s u : Shape} (d : ScatterDims s S100000x1 u) (hivd : d.indexVectorDim = 1) (a : Fin s.rank)
    (hsd : d.scatterDimsToOperandDims = [a]) (idx : IVec S100000x1 32) (j : u.Idx) (r : Fin 100000)
    (hj : ∀ hb : (0 : Fin 2) ∈ d.siKept, (d.siCoord j 0 hb).val = r.val) :
    d.start j idx a = (idx (ix2 r (0 : Fin 1))).toInt := by
  have hm : a ∈ d.scatterDimsToOperandDims := by rw [hsd]; exact List.mem_singleton.2 rfl
  unfold ScatterDims.start
  rw [dif_pos hm]
  refine congrArg (fun t => (idx t).toInt) (funext fun b => Fin.ext ?_)
  match b with
  | ⟨0, _⟩ =>
    unfold ScatterDims.siIdx
    rw [dif_neg (by rw [hivd]; exact Nat.zero_ne_one)]
    exact hj _
  | ⟨1, _⟩ =>
    unfold ScatterDims.siIdx
    rw [dif_pos (by rw [hivd])]
    show List.idxOf a d.scatterDimsToOperandDims = 0
    rw [hsd]; simp

abbrev dSum := scatter_S512x128_S100000x1_S100000x128_1_0_0_1
abbrev dCnt := scatter_S512_S100000x1_S100000_n_0_0_1

/-- Row `r`'s element at column `k` lands at its segment's column `k`. -/
theorem sum_lands (idx : IVec S100000x1 32) (r : Fin 100000) (k : Fin 128) (g : Fin 512) (c : Fin 128) :
    dSum.resultIdx? (ix2 r k) idx = some (ix2 g c) ↔ (idx (ix2 r (0 : Fin 1))).toInt = (g.val : Int) ∧ k = c := by
  have hs0 : dSum.start (ix2 r k) idx 0 = (idx (ix2 r (0 : Fin 1))).toInt :=
    start_row dSum rfl 0 rfl idx (ix2 r k) r fun _ => rfl
  have hs1 : dSum.start (ix2 r k) idx 1 = 0 := rfl
  have hw0 : dSum.window (ix2 r k) 0 = 0 := rfl
  have hw1 : dSum.window (ix2 r k) 1 = k.val := rfl
  rw [Fin.ext_iff]
  refine (Routing.resultIdx?_ix2 dSum (ix2 r k) idx g c).trans ?_
  rw [hs0, hs1, hw0, hw1]
  omega

/-- Row `r`'s one lands at its segment. -/
theorem cnt_lands (idx : IVec S100000x1 32) (r : Fin 100000) (g : Fin 512) :
    dCnt.resultIdx? (ix1 r) idx = some (ix1 g) ↔ (idx (ix2 r (0 : Fin 1))).toInt = (g.val : Int) := by
  have hs0 : dCnt.start (ix1 r) idx 0 = (idx (ix2 r (0 : Fin 1))).toInt :=
    start_row dCnt rfl 0 rfl idx (ix1 r) r fun _ => rfl
  have hw0 : dCnt.window (ix1 r) 0 = 0 := rfl
  refine (Routing.resultIdx?_ix1 dCnt (ix1 r) idx g).trans ?_
  rw [hs0, hw0]
  omega

/-! ## The two scatters at an index -/

/-- A small word read signed is a small number exactly when it is it read unsigned. -/
theorem toInt_eq_iff {v : BitVec 32} (hv : v.toNat < 512) (g : ℕ) : v.toInt = (g : Int) ↔ v.toNat = g := by
  rw [BitVec.toInt_eq_toNat_cond]
  split <;> omega

theorem tabIx_val (r : Fin 100000) : tabIx r.val = r := Fin.ext (Nat.mod_eq_of_lt r.isLt)

/-- The segment ids as the scatters' index words. -/
abbrev idxOf (b : Segs) : IVec S100000x1 32 := broadcastInDim S100000x1 ![0] bcast_S100000_S100000x1_0 b

theorem idxOf_apply (b : Segs) (r : Fin 100000) : idxOf b (ix2 r (0 : Fin 1)) = b (ix1 r) := by
  pointwise [idxOf]

theorem total_fin (b : Segs) (g : ℕ) (v : ℕ → EReal) :
    (∑ r : Fin 100000, if (b (ix1 r)).toNat = g then v r.val else 0) = total b g v := by
  unfold total
  rw [← Fin.sum_univ_eq_sum_range (fun r => hit b g r (v r)) 100000]
  refine sum_congr rfl fun r _ => ?_
  unfold hit
  rw [tabIx_val]

theorem sum_scatter (z : FVec Ideal S512x128 .f32) (x : Rows Ideal) (b : Segs) (hb : ∀ r, (b r).toNat < 512) (g : Fin 512) (c : Fin 128) :
    Host.scatterAdd dSum z (idxOf b) x (ix2 g c) = z (ix2 g c) + total b g.val fun r => x (ix2 (tabIx r) c) := by
  show z (ix2 g c) + ∑ j ∈ Finset.univ.filter (fun j => dSum.resultIdx? j (idxOf b) = some (ix2 g c)), x j = _
  refine congrArg (z (ix2 g c) + ·) ?_
  rw [Finset.sum_filter, sum_idx2, ← total_fin]
  refine sum_congr rfl fun r _ => ?_
  rw [Finset.sum_eq_single c (fun k _ hk => if_neg fun h => hk ((sum_lands _ r k g c).1 h).2) (fun h => absurd (Finset.mem_univ _) h), tabIx_val]
  refine if_ctx_congr ?_ (fun _ => rfl) fun _ => rfl
  rw [sum_lands, idxOf_apply, toInt_eq_iff (hb _)]
  exact and_iff_left rfl

theorem cnt_scatter (z : FVec Ideal S512 .f32) (u : FVec Ideal S100000 .f32) (hu : ∀ r, u r = one (F := Ideal)) (b : Segs) (hb : ∀ r, (b r).toNat < 512) (g : Fin 512) :
    Host.scatterAdd dCnt z (idxOf b) u (ix1 g) = z (ix1 g) + (((members b g.val : ℕ) : ℝ) : EReal) := by
  show z (ix1 g) + ∑ j ∈ Finset.univ.filter (fun j => dCnt.resultIdx? j (idxOf b) = some (ix1 g)), u j = _
  refine congrArg (z (ix1 g) + ·) ?_
  rw [Finset.sum_filter, sum_idx1, ← total_one, ← total_fin]
  refine sum_congr rfl fun r _ => ?_
  rw [hu]
  refine if_ctx_congr ?_ (fun _ => rfl) fun _ => rfl
  rw [cnt_lands, idxOf_apply, toInt_eq_iff (hb _)]

/-! ## The reference's result -/

/-- The reference's composed term. -/
def refOut (x : Rows Ideal) (b : Segs) (w : S10x128.Idx → Ideal .f32) (a : S10.Idx → Ideal .f32) : FVec Ideal S512x10 .f32 :=
  addf (Host.dotGeneral dot_S512x128_S128x10_S512x10_1_0_0_1_n_n none
      (Host.divf (Host.scatterAdd dSum (broadcastInDim S512x128 ![] bcast_S_S512x128 (constant S_ .f32 0x00000000#32)) (idxOf b) x)
        (broadcastInDim S512x128 ![0, 1] bcast_S512x1_S512x128_0_1 (broadcastInDim S512x1 ![0] bcast_S512_S512x1_0
          (maximumf (Host.scatterAdd dCnt (broadcastInDim S512 ![] bcast_S_S512 (constant S_ .f32 0x00000000#32)) (idxOf b)
              (broadcastInDim S100000 ![] bcast_S_S100000 (constant S_ .f32 0x3F800000#32)))
            (broadcastInDim S512 ![] bcast_S_S512 (constant S_ .f32 0x3F800000#32))))))
      (transpose S128x10 [1, 0] w transposes_S10x128_S128x10_1_0))
    (broadcastInDim S512x10 ![0, 1] bcast_S1x10_S512x10_0_1 (broadcastInDim S1x10 ![1] bcast_S10_S1x10_1 a))

set_option maxRecDepth 16384

/-- The head over any sums and counts. -/
theorem head_apply (s : FVec Ideal S512x128 .f32) (n : FVec Ideal S512 .f32) (w : S10x128.Idx → Ideal .f32) (a : S10.Idx → Ideal .f32) (g : Fin 512) (t : Fin 10) :
    addf (Host.dotGeneral dot_S512x128_S128x10_S512x10_1_0_0_1_n_n none
      (Host.divf s (broadcastInDim S512x128 ![0, 1] bcast_S512x1_S512x128_0_1 (broadcastInDim S512x1 ![0] bcast_S512_S512x1_0
          (maximumf n (broadcastInDim S512 ![] bcast_S_S512 (constant (F := Ideal) S_ .f32 0x3F800000#32))))))
      (transpose S128x10 [1, 0] w transposes_S10x128_S128x10_1_0))
    (broadcastInDim S512x10 ![0, 1] bcast_S1x10_S512x10_0_1 (broadcastInDim S1x10 ![1] bcast_S10_S1x10_1 a)) (ix2 g t)
      = (∑ c : Fin 128, Ideal.div (s (ix2 g c)) (max (n (ix1 g)) 1) * w (ix2 t c)) + a (ix1 t) := by
  pointwise

theorem refOut_pooled (x : Rows Ideal) (b : Segs) (hb : ∀ r, (b r).toNat < 512) (w : S10x128.Idx → Ideal .f32) (a : S10.Idx → Ideal .f32) (g : Fin 512) (t : Fin 10) :
    refOut x b w a (ix2 g t) = pooled x b w a g t := by
  refine (head_apply _ _ w a g t).trans (congrArg (· + a (ix1 t)) (sum_congr rfl fun c _ => ?_))
  have z2 : (broadcastInDim S512x128 ![] bcast_S_S512x128 (constant (F := Ideal) S_ .f32 0x00000000#32)) (ix2 g c) = (0 : EReal) := zero_eq
  have z1 : (broadcastInDim S512 ![] bcast_S_S512 (constant (F := Ideal) S_ .f32 0x00000000#32)) (ix1 g) = (0 : EReal) := zero_eq
  have hu : ∀ r, (broadcastInDim S100000 ![] bcast_S_S100000 (constant (F := Ideal) S_ .f32 0x3F800000#32)) r = one (F := Ideal) := fun _ => rfl
  rw [sum_scatter _ x b hb, cnt_scatter _ _ hu b hb, z2, z1, zero_add, zero_add]

end Cert.Proof.Pool
end
-- ==== Proof.Algebraic.lean ====
/-
  The kernel's result is the reference's, over the extended reals.
-/
module

public import proofs.«01_k».proof.Proof.Segments
public import proofs.«01_k».proof.Proof.Frames
@[expose] public section
noncomputable section
namespace Cert.Proof.Pool

open Cert.KernelIdeal Cert.KernelIdeal.Gen
open Idealize.ShloMosaic Idealize.ShloMosaic.TcCoe Idealize.SL.Sem

/-- From segment ids in range, the two composed terms agree. -/
theorem out_eq (x : Rows Ideal) (b : Segs) (hb : ∀ r, (b r).toNat < 512) (w : S10x128.Idx → Ideal .f32) (a : S10.Idx → Ideal .f32) :
    refOut x b w a = finalOf (sumsOf x b) (cntsOf b) w (rowOf a) := by
  funext i
  obtain ⟨g, t, rfl⟩ : ∃ (g : Fin 512) (t : Fin 10), i = ix2 g t := ⟨i 0, i 1, (ix2_eta i).symm⟩
  exact (refOut_pooled x b hb w a g t).trans (finalOf_pooled x b w a g t).symm

theorem algebraic : Cert.algebraic_KernelIdeal_ReferenceIdeal := by
  intro m g m' g' hpre hargs
  have hb : ∀ d r, (m (bLoc d) r).toNat < 512 := fun d r => ids_lt _ _ _ _ (hpre d) r
  refine ⟨outOf m, (θ_run Cert.KernelIdeal.defs _ _).mono (fun _ h c => ?_) (run_main (F := Ideal) m g hb),
    (θ_run Cert.ReferenceIdeal.defs _ _).mono (fun _ h c => ⟨(h c).1.trans ?_, (h c).2⟩) (Cert.ReferenceIdeal.Value.run (F := Ideal) m' g')⟩
  · obtain ⟨hx, hs, hw, ha, ho⟩ := h.1 c
    exact ⟨ho, hx, hs, hw, ha⟩
  · rw [(hargs c).1, (hargs c).2.1, (hargs c).2.2.1, (hargs c).2.2.2]
    exact out_eq (m (xLoc c)) (m (bLoc c)) (hb c) (m (wLoc c)) (m (aLoc c))

end Cert.Proof.Pool
end
-- ==== Proof.lean ====
/-
  The claim: how the kernel, its idealization and the reference end, and that the kernel computes what the reference does.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_batch_in_range
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_batch_in_range.Gen.facts,
    Pool.frame_kernel, Pool.frame_kernelIdeal, Pool.frame_reference, Pool.frame_reference_pre, trivial, Pool.algebraic⟩

end Cert.Proof

end
